-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 8192]⟩ ⟨2, ![2048, 16384]⟩ (Layout.meshBlock [2, 2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![2048, 16384]⟩ (Layout.meshBlock [2, 2, 2] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S2048x2048 : Shape := ⟨2, ![2048, 2048]⟩
abbrev S128x2048 : Shape := ⟨2, ![128, 2048]⟩
abbrev S2x128x2048 : Shape := ⟨3, ![2, 128, 2048]⟩
abbrev S672x2048 : Shape := ⟨2, ![672, 2048]⟩
abbrev S560x2048 : Shape := ⟨2, ![560, 2048]⟩
abbrev S2 : Shape := ⟨1, ![2]⟩
abbrev S18 : Shape := ⟨1, ![18]⟩
abbrev S_ : Shape := ⟨0, ![]⟩
abbrev S1 : Shape := ⟨1, ![1]⟩
abbrev S1x128x2048 : Shape := ⟨3, ![1, 128, 2048]⟩
abbrev S384x2048 : Shape := ⟨2, ![384, 2048]⟩
abbrev S320x2048 : Shape := ⟨2, ![320, 2048]⟩
abbrev S192x2048 : Shape := ⟨2, ![192, 2048]⟩
abbrev S160x2048 : Shape := ⟨2, ![160, 2048]⟩
abbrev S96x2048 : Shape := ⟨2, ![96, 2048]⟩
abbrev S80x2048 : Shape := ⟨2, ![80, 2048]⟩

abbrev nBuf : Space → Nat
  | .hbm => 3
  | .vmem => 8
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x2048, .f32⟩
  | .local _ .vmem, ⟨0, _⟩ => ⟨S2048x2048, .f32⟩
  | .local _ .vmem, ⟨1, _⟩ => ⟨S2048x2048, .bf16⟩
  | .local _ .vmem, ⟨2, _⟩ => ⟨S2048x2048, .bf16⟩
  | .local _ .vmem, ⟨3, _⟩ => ⟨S128x2048, .bf16⟩
  | .local _ .vmem, ⟨4, _⟩ => ⟨S2x128x2048, .f32⟩
  | .local _ .vmem, ⟨5, _⟩ => ⟨S672x2048, .bf16⟩
  | .local _ .vmem, ⟨6, _⟩ => ⟨S560x2048, .bf16⟩
  | .local _ .vmem, ⟨7, _⟩ => ⟨S560x2048, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_8 : BitVec 32 := 1#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let v19 : BitVec 32 := Scalar.subi c1_i32_8 v11
  let c4_i32_10 : BitVec 32 := 4#32
  let v20 : BitVec 32 := Scalar.muli v19 c4_i32_10
  let v21 : BitVec 32 := Scalar.addi c0_i32 v20
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c2_i32_11 : BitVec 32 := 2#32
  let v22 : BitVec 32 := Scalar.muli v14 c2_i32_11
  let v23 : BitVec 32 := Scalar.addi v21 v22
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let c1_i32_12 : BitVec 32 := 1#32
  let v24 : BitVec 32 := Scalar.muli v17 c1_i32_12
  let v25 : BitVec 32 := Scalar.addi v23 v24
  v25.toNat
def k0_dev2 (d0 : Dev nD) : Nat :=
  let c0_i32_16 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c4_i32_15 : BitVec 32 := 4#32
  let v27 : BitVec 32 := Scalar.muli v11 c4_i32_15
  let v28 : BitVec 32 := Scalar.addi c0_i32_16 v27
  let c1_i32_13 : BitVec 32 := 1#32
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let v26 : BitVec 32 := Scalar.subi c1_i32_13 v14
  let c2_i32_17 : BitVec 32 := 2#32
  let v29 : BitVec 32 := Scalar.muli v26 c2_i32_17
  let v30 : BitVec 32 := Scalar.addi v28 v29
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let c1_i32_18 : BitVec 32 := 1#32
  let v31 : BitVec 32 := Scalar.muli v17 c1_i32_18
  let v32 : BitVec 32 := Scalar.addi v30 v31
  v32.toNat
def k0_dev3 (d0 : Dev nD) : Nat :=
  let c0_i32_22 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c4_i32_21 : BitVec 32 := 4#32
  let v34 : BitVec 32 := Scalar.muli v11 c4_i32_21
  let v35 : BitVec 32 := Scalar.addi c0_i32_22 v34
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c2_i32_23 : BitVec 32 := 2#32
  let v36 : BitVec 32 := Scalar.muli v14 c2_i32_23
  let v37 : BitVec 32 := Scalar.addi v35 v36
  let c1_i32_19 : BitVec 32 := 1#32
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let v33 : BitVec 32 := Scalar.subi c1_i32_19 v17
  let c1_i32_24 : BitVec 32 := 1#32
  let v38 : BitVec 32 := Scalar.muli v33 c1_i32_24
  let v39 : BitVec 32 := Scalar.addi v37 v38
  v39.toNat
def k0_off1 (d0 : Dev nD) : Fin 2 → Nat :=
  let c0_i32_29 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1 : BitVec 32 := 2#32
  let v3 : BitVec 32 := Scalar.muli v2 c2_i32_1
  let v4 : BitVec 32 := Dev.word d0
  let c1_i32 : BitVec 32 := 1#32
  let v5 : BitVec 32 := Scalar.divsi v4 c1_i32
  let c2_i32_2 : BitVec 32 := 2#32
  let v6 : BitVec 32 := Scalar.remsi v5 c2_i32_2
  let v7 : BitVec 32 := Scalar.addi v3 v6
  let c2048_i32 : BitVec 32 := 2048#32
  let v8 : BitVec 32 := Scalar.muli v7 c2048_i32
  ![0, v8.toNat]
def k0_off2 (d0 : Dev nD) : Fin 2 → Nat :=
  let c128_i32 : BitVec 32 := 128#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1 : BitVec 32 := 2#32
  let v3 : BitVec 32 := Scalar.muli v2 c2_i32_1
  let v4 : BitVec 32 := Dev.word d0
  let c1_i32 : BitVec 32 := 1#32
  let v5 : BitVec 32 := Scalar.divsi v4 c1_i32
  let c2_i32_2 : BitVec 32 := 2#32
  let v6 : BitVec 32 := Scalar.remsi v5 c2_i32_2
  let v7 : BitVec 32 := Scalar.addi v3 v6
  let c2048_i32 : BitVec 32 := 2048#32
  let v8 : BitVec 32 := Scalar.muli v7 c2048_i32
  ![128, v8.toNat]
def k0_off3 (d0 : Dev nD) : Fin 2 → Nat :=
  let c256_i32 : BitVec 32 := 256#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1 : BitVec 32 := 2#32
  let v3 : BitVec 32 := Scalar.muli v2 c2_i32_1
  let v4 : BitVec 32 := Dev.word d0
  let c1_i32 : BitVec 32 := 1#32
  let v5 : BitVec 32 := Scalar.divsi v4 c1_i32
  let c2_i32_2 : BitVec 32 := 2#32
  let v6 : BitVec 32 := Scalar.remsi v5 c2_i32_2
  let v7 : BitVec 32 := Scalar.addi v3 v6
  let c2048_i32 : BitVec 32 := 2048#32
  let v8 : BitVec 32 := Scalar.muli v7 c2048_i32
  ![256, v8.toNat]
def k0_off4 (d0 : Dev nD) : Fin 2 → Nat :=
  let c384_i32 : BitVec 32 := 384#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1 : BitVec 32 := 2#32
  let v3 : BitVec 32 := Scalar.muli v2 c2_i32_1
  let v4 : BitVec 32 := Dev.word d0
  let c1_i32 : BitVec 32 := 1#32
  let v5 : BitVec 32 := Scalar.divsi v4 c1_i32
  let c2_i32_2 : BitVec 32 := 2#32
  let v6 : BitVec 32 := Scalar.remsi v5 c2_i32_2
  let v7 : BitVec 32 := Scalar.addi v3 v6
  let c2048_i32 : BitVec 32 := 2048#32
  let v8 : BitVec 32 := Scalar.muli v7 c2048_i32
  ![384, v8.toNat]
def k0_off5 (d0 : Dev nD) : Fin 2 → Nat :=
  let c512_i32 : BitVec 32 := 512#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1 : BitVec 32 := 2#32
  let v3 : BitVec 32 := Scalar.muli v2 c2_i32_1
  let v4 : BitVec 32 := Dev.word d0
  let c1_i32 : BitVec 32 := 1#32
  let v5 : BitVec 32 := Scalar.divsi v4 c1_i32
  let c2_i32_2 : BitVec 32 := 2#32
  let v6 : BitVec 32 := Scalar.remsi v5 c2_i32_2
  let v7 : BitVec 32 := Scalar.addi v3 v6
  let c2048_i32 : BitVec 32 := 2048#32
  let v8 : BitVec 32 := Scalar.muli v7 c2048_i32
  ![512, v8.toNat]
def k0_off6 (d0 : Dev nD) : Fin 2 → Nat :=
  let c640_i32 : BitVec 32 := 640#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1 : BitVec 32 := 2#32
  let v3 : BitVec 32 := Scalar.muli v2 c2_i32_1
  let v4 : BitVec 32 := Dev.word d0
  let c1_i32 : BitVec 32 := 1#32
  let v5 : BitVec 32 := Scalar.divsi v4 c1_i32
  let c2_i32_2 : BitVec 32 := 2#32
  let v6 : BitVec 32 := Scalar.remsi v5 c2_i32_2
  let v7 : BitVec 32 := Scalar.addi v3 v6
  let c2048_i32 : BitVec 32 := 2048#32
  let v8 : BitVec 32 := Scalar.muli v7 c2048_i32
  ![640, v8.toNat]
def k0_off7 (d0 : Dev nD) : Fin 2 → Nat :=
  let c768_i32 : BitVec 32 := 768#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1 : BitVec 32 := 2#32
  let v3 : BitVec 32 := Scalar.muli v2 c2_i32_1
  let v4 : BitVec 32 := Dev.word d0
  let c1_i32 : BitVec 32 := 1#32
  let v5 : BitVec 32 := Scalar.divsi v4 c1_i32
  let c2_i32_2 : BitVec 32 := 2#32
  let v6 : BitVec 32 := Scalar.remsi v5 c2_i32_2
  let v7 : BitVec 32 := Scalar.addi v3 v6
  let c2048_i32 : BitVec 32 := 2048#32
  let v8 : BitVec 32 := Scalar.muli v7 c2048_i32
  ![768, v8.toNat]
def k0_off8 (d0 : Dev nD) : Fin 2 → Nat :=
  let c896_i32 : BitVec 32 := 896#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1 : BitVec 32 := 2#32
  let v3 : BitVec 32 := Scalar.muli v2 c2_i32_1
  let v4 : BitVec 32 := Dev.word d0
  let c1_i32 : BitVec 32 := 1#32
  let v5 : BitVec 32 := Scalar.divsi v4 c1_i32
  let c2_i32_2 : BitVec 32 := 2#32
  let v6 : BitVec 32 := Scalar.remsi v5 c2_i32_2
  let v7 : BitVec 32 := Scalar.addi v3 v6
  let c2048_i32 : BitVec 32 := 2048#32
  let v8 : BitVec 32 := Scalar.muli v7 c2048_i32
  ![896, v8.toNat]
def k0_off9 (d0 : Dev nD) : Fin 2 → Nat :=
  let c1024_i32 : BitVec 32 := 1024#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1 : BitVec 32 := 2#32
  let v3 : BitVec 32 := Scalar.muli v2 c2_i32_1
  let v4 : BitVec 32 := Dev.word d0
  let c1_i32 : BitVec 32 := 1#32
  let v5 : BitVec 32 := Scalar.divsi v4 c1_i32
  let c2_i32_2 : BitVec 32 := 2#32
  let v6 : BitVec 32 := Scalar.remsi v5 c2_i32_2
  let v7 : BitVec 32 := Scalar.addi v3 v6
  let c2048_i32 : BitVec 32 := 2048#32
  let v8 : BitVec 32 := Scalar.muli v7 c2048_i32
  ![1024, v8.toNat]
def k0_off10 (d0 : Dev nD) : Fin 2 → Nat :=
  let c1152_i32 : BitVec 32 := 1152#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1 : BitVec 32 := 2#32
  let v3 : BitVec 32 := Scalar.muli v2 c2_i32_1
  let v4 : BitVec 32 := Dev.word d0
  let c1_i32 : BitVec 32 := 1#32
  let v5 : BitVec 32 := Scalar.divsi v4 c1_i32
  let c2_i32_2 : BitVec 32 := 2#32
  let v6 : BitVec 32 := Scalar.remsi v5 c2_i32_2
  let v7 : BitVec 32 := Scalar.addi v3 v6
  let c2048_i32 : BitVec 32 := 2048#32
  let v8 : BitVec 32 := Scalar.muli v7 c2048_i32
  ![1152, v8.toNat]
def k0_off11 (d0 : Dev nD) : Fin 2 → Nat :=
  let c1280_i32 : BitVec 32 := 1280#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1 : BitVec 32 := 2#32
  let v3 : BitVec 32 := Scalar.muli v2 c2_i32_1
  let v4 : BitVec 32 := Dev.word d0
  let c1_i32 : BitVec 32 := 1#32
  let v5 : BitVec 32 := Scalar.divsi v4 c1_i32
  let c2_i32_2 : BitVec 32 := 2#32
  let v6 : BitVec 32 := Scalar.remsi v5 c2_i32_2
  let v7 : BitVec 32 := Scalar.addi v3 v6
  let c2048_i32 : BitVec 32 := 2048#32
  let v8 : BitVec 32 := Scalar.muli v7 c2048_i32
  ![1280, v8.toNat]
def k0_off12 (d0 : Dev nD) : Fin 2 → Nat :=
  let c1408_i32 : BitVec 32 := 1408#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1 : BitVec 32 := 2#32
  let v3 : BitVec 32 := Scalar.muli v2 c2_i32_1
  let v4 : BitVec 32 := Dev.word d0
  let c1_i32 : BitVec 32 := 1#32
  let v5 : BitVec 32 := Scalar.divsi v4 c1_i32
  let c2_i32_2 : BitVec 32 := 2#32
  let v6 : BitVec 32 := Scalar.remsi v5 c2_i32_2
  let v7 : BitVec 32 := Scalar.addi v3 v6
  let c2048_i32 : BitVec 32 := 2048#32
  let v8 : BitVec 32 := Scalar.muli v7 c2048_i32
  ![1408, v8.toNat]
def k0_off13 (d0 : Dev nD) : Fin 2 → Nat :=
  let c1536_i32 : BitVec 32 := 1536#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1 : BitVec 32 := 2#32
  let v3 : BitVec 32 := Scalar.muli v2 c2_i32_1
  let v4 : BitVec 32 := Dev.word d0
  let c1_i32 : BitVec 32 := 1#32
  let v5 : BitVec 32 := Scalar.divsi v4 c1_i32
  let c2_i32_2 : BitVec 32 := 2#32
  let v6 : BitVec 32 := Scalar.remsi v5 c2_i32_2
  let v7 : BitVec 32 := Scalar.addi v3 v6
  let c2048_i32 : BitVec 32 := 2048#32
  let v8 : BitVec 32 := Scalar.muli v7 c2048_i32
  ![1536, v8.toNat]
def k0_off14 (d0 : Dev nD) : Fin 2 → Nat :=
  let c1664_i32 : BitVec 32 := 1664#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1 : BitVec 32 := 2#32
  let v3 : BitVec 32 := Scalar.muli v2 c2_i32_1
  let v4 : BitVec 32 := Dev.word d0
  let c1_i32 : BitVec 32 := 1#32
  let v5 : BitVec 32 := Scalar.divsi v4 c1_i32
  let c2_i32_2 : BitVec 32 := 2#32
  let v6 : BitVec 32 := Scalar.remsi v5 c2_i32_2
  let v7 : BitVec 32 := Scalar.addi v3 v6
  let c2048_i32 : BitVec 32 := 2048#32
  let v8 : BitVec 32 := Scalar.muli v7 c2048_i32
  ![1664, v8.toNat]
def k0_off15 (d0 : Dev nD) : Fin 2 → Nat :=
  let c1792_i32 : BitVec 32 := 1792#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1 : BitVec 32 := 2#32
  let v3 : BitVec 32 := Scalar.muli v2 c2_i32_1
  let v4 : BitVec 32 := Dev.word d0
  let c1_i32 : BitVec 32 := 1#32
  let v5 : BitVec 32 := Scalar.divsi v4 c1_i32
  let c2_i32_2 : BitVec 32 := 2#32
  let v6 : BitVec 32 := Scalar.remsi v5 c2_i32_2
  let v7 : BitVec 32 := Scalar.addi v3 v6
  let c2048_i32 : BitVec 32 := 2048#32
  let v8 : BitVec 32 := Scalar.muli v7 c2048_i32
  ![1792, v8.toNat]
def k0_off16 (d0 : Dev nD) : Fin 2 → Nat :=
  let c1920_i32 : BitVec 32 := 1920#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1 : BitVec 32 := 2#32
  let v3 : BitVec 32 := Scalar.muli v2 c2_i32_1
  let v4 : BitVec 32 := Dev.word d0
  let c1_i32 : BitVec 32 := 1#32
  let v5 : BitVec 32 := Scalar.divsi v4 c1_i32
  let c2_i32_2 : BitVec 32 := 2#32
  let v6 : BitVec 32 := Scalar.remsi v5 c2_i32_2
  let v7 : BitVec 32 := Scalar.addi v3 v6
  let c2048_i32 : BitVec 32 := 2048#32
  let v8 : BitVec 32 := Scalar.muli v7 c2048_i32
  ![1920, v8.toNat]
def k0_off17 (d0 : Dev nD) : Fin 2 → Nat :=
  let c0_i32_371 : BitVec 32 := 0#32
  let c1_i32_369 : BitVec 32 := 1#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let v439 : BitVec 32 := Scalar.subi c1_i32_369 v11
  let c384_i32_370 : BitVec 32 := 384#32
  let v440 : BitVec 32 := Scalar.muli v439 c384_i32_370
  let v441 : BitVec 32 := Scalar.addi c0_i32_371 v440
  let c0_i32_381 : BitVec 32 := 0#32
  ![v441.toNat, 0]
def k0_dev4 (d0 : Dev nD) : Nat :=
  let c0_i32_376 : BitVec 32 := 0#32
  let c1_i32_372 : BitVec 32 := 1#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let v442 : BitVec 32 := Scalar.subi c1_i32_372 v11
  let c4_i32_375 : BitVec 32 := 4#32
  let v443 : BitVec 32 := Scalar.muli v442 c4_i32_375
  let v444 : BitVec 32 := Scalar.addi c0_i32_376 v443
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c2_i32_377 : BitVec 32 := 2#32
  let v445 : BitVec 32 := Scalar.muli v14 c2_i32_377
  let v446 : BitVec 32 := Scalar.addi v444 v445
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let c1_i32_378 : BitVec 32 := 1#32
  let v447 : BitVec 32 := Scalar.muli v17 c1_i32_378
  let v448 : BitVec 32 := Scalar.addi v446 v447
  v448.toNat
def k0_off18 (d0 : Dev nD) (c768_i32_495 : BitVec 32) (c2_i32_5 : BitVec 32) : Fin 2 → Nat :=
  let c1_i32_494 : BitVec 32 := 1#32
  let v12 : BitVec 32 := Dev.word d0
  let v13 : BitVec 32 := Scalar.divsi v12 c2_i32_5
  let c2_i32_4 : BitVec 32 := 2#32
  let v14 : BitVec 32 := Scalar.remsi v13 c2_i32_4
  let v572 : BitVec 32 := Scalar.subi c1_i32_494 v14
  let c320_i32 : BitVec 32 := 320#32
  let v573 : BitVec 32 := Scalar.muli v572 c320_i32
  let v574 : BitVec 32 := Scalar.addi c768_i32_495 v573
  let c0_i32_504 : BitVec 32 := 0#32
  ![v574.toNat, 0]
def k0_off18_at (r : Fin 2) : BitVec 32 × BitVec 32 :=
  if r.val < 1 then
    (768#32, 2#32)
  else
    (1408#32, 1#32)
def k0_dev5 (d0 : Dev nD) : Nat :=
  let c0_i32_499 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c4_i32_498 : BitVec 32 := 4#32
  let v576 : BitVec 32 := Scalar.muli v11 c4_i32_498
  let v577 : BitVec 32 := Scalar.addi c0_i32_499 v576
  let c1_i32_496 : BitVec 32 := 1#32
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let v575 : BitVec 32 := Scalar.subi c1_i32_496 v14
  let c2_i32_500 : BitVec 32 := 2#32
  let v578 : BitVec 32 := Scalar.muli v575 c2_i32_500
  let v579 : BitVec 32 := Scalar.addi v577 v578
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let c1_i32_501 : BitVec 32 := 1#32
  let v580 : BitVec 32 := Scalar.muli v17 c1_i32_501
  let v581 : BitVec 32 := Scalar.addi v579 v580
  v581.toNat
def k0_dev6 (d0 : Dev nD) : Nat :=
  let c0_i32_618 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c4_i32_617 : BitVec 32 := 4#32
  let v704 : BitVec 32 := Scalar.muli v11 c4_i32_617
  let v705 : BitVec 32 := Scalar.addi c0_i32_618 v704
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c2_i32_619 : BitVec 32 := 2#32
  let v706 : BitVec 32 := Scalar.muli v14 c2_i32_619
  let v707 : BitVec 32 := Scalar.addi v705 v706
  let c1_i32_615 : BitVec 32 := 1#32
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let v703 : BitVec 32 := Scalar.subi c1_i32_615 v17
  let c1_i32_620 : BitVec 32 := 1#32
  let v708 : BitVec 32 := Scalar.muli v703 c1_i32_620
  let v709 : BitVec 32 := Scalar.addi v707 v708
  v709.toNat
def k0_off19 (d0 : Dev nD) : Fin 2 → Nat :=
  let c0_i32_383 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c384_i32_382 : BitVec 32 := 384#32
  let v455 : BitVec 32 := Scalar.muli v11 c384_i32_382
  let v456 : BitVec 32 := Scalar.addi c0_i32_383 v455
  let v732 : Index := Scalar.indexCast v456
  let c0_641 : Index := 0#32
  ![v732.toNat, 0]
def k0_off20 (d0 : Dev nD) (c768_i32_506 : BitVec 32) (c2_i32_5 : BitVec 32) : Fin 2 → Nat :=
  let v12 : BitVec 32 := Dev.word d0
  let v13 : BitVec 32 := Scalar.divsi v12 c2_i32_5
  let c2_i32_4 : BitVec 32 := 2#32
  let v14 : BitVec 32 := Scalar.remsi v13 c2_i32_4
  let c320_i32_505 : BitVec 32 := 320#32
  let v588 : BitVec 32 := Scalar.muli v14 c320_i32_505
  let v589 : BitVec 32 := Scalar.addi c768_i32_506 v588
  let v754 : Index := Scalar.indexCast v589
  let c0_660 : Index := 0#32
  ![v754.toNat, 0]
def k0_off20_at (r : Fin 2) : BitVec 32 × BitVec 32 :=
  if r.val < 1 then
    (768#32, 2#32)
  else
    (1408#32, 1#32)
def k0_off21 (d0 : Dev nD) : Fin 2 → Nat :=
  let c0_i32_383 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c384_i32_382 : BitVec 32 := 384#32
  let v455 : BitVec 32 := Scalar.muli v11 c384_i32_382
  let v456 : BitVec 32 := Scalar.addi c0_i32_383 v455
  let c1_i32_683 : BitVec 32 := 1#32
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let v784 : BitVec 32 := Scalar.subi c1_i32_683 v14
  let c192_i32 : BitVec 32 := 192#32
  let v785 : BitVec 32 := Scalar.muli v784 c192_i32
  let v786 : BitVec 32 := Scalar.addi v456 v785
  let c0_i32_693 : BitVec 32 := 0#32
  ![v786.toNat, 0]
def k0_dev7 (d0 : Dev nD) : Nat :=
  let c0_i32_688 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c4_i32_687 : BitVec 32 := 4#32
  let v788 : BitVec 32 := Scalar.muli v11 c4_i32_687
  let v789 : BitVec 32 := Scalar.addi c0_i32_688 v788
  let c1_i32_684 : BitVec 32 := 1#32
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let v787 : BitVec 32 := Scalar.subi c1_i32_684 v14
  let c2_i32_689 : BitVec 32 := 2#32
  let v790 : BitVec 32 := Scalar.muli v787 c2_i32_689
  let v791 : BitVec 32 := Scalar.addi v789 v790
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let c1_i32_690 : BitVec 32 := 1#32
  let v792 : BitVec 32 := Scalar.muli v17 c1_i32_690
  let v793 : BitVec 32 := Scalar.addi v791 v792
  v793.toNat
def k0_off22 (d0 : Dev nD) (c768_i32_506 : BitVec 32) (c2_i32_5 : BitVec 32) (c1_i32_7 : BitVec 32) : Fin 2 → Nat :=
  let v12 : BitVec 32 := Dev.word d0
  let v13 : BitVec 32 := Scalar.divsi v12 c2_i32_5
  let c2_i32_4 : BitVec 32 := 2#32
  let v14 : BitVec 32 := Scalar.remsi v13 c2_i32_4
  let c320_i32_505 : BitVec 32 := 320#32
  let v588 : BitVec 32 := Scalar.muli v14 c320_i32_505
  let v589 : BitVec 32 := Scalar.addi c768_i32_506 v588
  let c1_i32_695 : BitVec 32 := 1#32
  let v15 : BitVec 32 := Dev.word d0
  let v16 : BitVec 32 := Scalar.divsi v15 c1_i32_7
  let c2_i32_6 : BitVec 32 := 2#32
  let v17 : BitVec 32 := Scalar.remsi v16 c2_i32_6
  let v802 : BitVec 32 := Scalar.subi c1_i32_695 v17
  let c160_i32 : BitVec 32 := 160#32
  let v803 : BitVec 32 := Scalar.muli v802 c160_i32
  let v804 : BitVec 32 := Scalar.addi v589 v803
  let c0_i32_704 : BitVec 32 := 0#32
  ![v804.toNat, 0]
def k0_off22_at (r : Fin 2) : BitVec 32 × BitVec 32 × BitVec 32 :=
  if r.val < 1 then
    (768#32, 2#32, 1#32)
  else
    (1408#32, 1#32, 4#32)
def k0_dev8 (d0 : Dev nD) : Nat :=
  let c0_i32_699 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c4_i32_698 : BitVec 32 := 4#32
  let v806 : BitVec 32 := Scalar.muli v11 c4_i32_698
  let v807 : BitVec 32 := Scalar.addi c0_i32_699 v806
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c2_i32_700 : BitVec 32 := 2#32
  let v808 : BitVec 32 := Scalar.muli v14 c2_i32_700
  let v809 : BitVec 32 := Scalar.addi v807 v808
  let c1_i32_696 : BitVec 32 := 1#32
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let v805 : BitVec 32 := Scalar.subi c1_i32_696 v17
  let c1_i32_701 : BitVec 32 := 1#32
  let v810 : BitVec 32 := Scalar.muli v805 c1_i32_701
  let v811 : BitVec 32 := Scalar.addi v809 v810
  v811.toNat
def k0_dev9 (d0 : Dev nD) : Nat :=
  let c0_i32_711 : BitVec 32 := 0#32
  let c1_i32_708 : BitVec 32 := 1#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let v823 : BitVec 32 := Scalar.subi c1_i32_708 v11
  let c4_i32_710 : BitVec 32 := 4#32
  let v824 : BitVec 32 := Scalar.muli v823 c4_i32_710
  let v825 : BitVec 32 := Scalar.addi c0_i32_711 v824
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c2_i32_712 : BitVec 32 := 2#32
  let v826 : BitVec 32 := Scalar.muli v14 c2_i32_712
  let v827 : BitVec 32 := Scalar.addi v825 v826
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let c1_i32_713 : BitVec 32 := 1#32
  let v828 : BitVec 32 := Scalar.muli v17 c1_i32_713
  let v829 : BitVec 32 := Scalar.addi v827 v828
  v829.toNat
def k0_off23 (d0 : Dev nD) : Fin 2 → Nat :=
  let c0_i32_383 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c384_i32_382 : BitVec 32 := 384#32
  let v455 : BitVec 32 := Scalar.muli v11 c384_i32_382
  let v456 : BitVec 32 := Scalar.addi c0_i32_383 v455
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c192_i32_694 : BitVec 32 := 192#32
  let v800 : BitVec 32 := Scalar.muli v14 c192_i32_694
  let v801 : BitVec 32 := Scalar.addi v456 v800
  let v852 : Index := Scalar.indexCast v801
  let c0_733 : Index := 0#32
  ![v852.toNat, 0]
def k0_off24 (d0 : Dev nD) (c768_i32_506 : BitVec 32) (c2_i32_5 : BitVec 32) (c1_i32_7 : BitVec 32) : Fin 2 → Nat :=
  let v12 : BitVec 32 := Dev.word d0
  let v13 : BitVec 32 := Scalar.divsi v12 c2_i32_5
  let c2_i32_4 : BitVec 32 := 2#32
  let v14 : BitVec 32 := Scalar.remsi v13 c2_i32_4
  let c320_i32_505 : BitVec 32 := 320#32
  let v588 : BitVec 32 := Scalar.muli v14 c320_i32_505
  let v589 : BitVec 32 := Scalar.addi c768_i32_506 v588
  let v15 : BitVec 32 := Dev.word d0
  let v16 : BitVec 32 := Scalar.divsi v15 c1_i32_7
  let c2_i32_6 : BitVec 32 := 2#32
  let v17 : BitVec 32 := Scalar.remsi v16 c2_i32_6
  let c160_i32_705 : BitVec 32 := 160#32
  let v818 : BitVec 32 := Scalar.muli v17 c160_i32_705
  let v819 : BitVec 32 := Scalar.addi v589 v818
  let v874 : Index := Scalar.indexCast v819
  let c0_752 : Index := 0#32
  ![v874.toNat, 0]
def k0_off24_at (r : Fin 2) : BitVec 32 × BitVec 32 × BitVec 32 :=
  if r.val < 1 then
    (768#32, 2#32, 1#32)
  else
    (1408#32, 1#32, 4#32)
def k0_off25 (d0 : Dev nD) : Fin 2 → Nat :=
  let c0_i32_383 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c384_i32_382 : BitVec 32 := 384#32
  let v455 : BitVec 32 := Scalar.muli v11 c384_i32_382
  let v456 : BitVec 32 := Scalar.addi c0_i32_383 v455
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c192_i32_694 : BitVec 32 := 192#32
  let v800 : BitVec 32 := Scalar.muli v14 c192_i32_694
  let v801 : BitVec 32 := Scalar.addi v456 v800
  let c1_i32_774 : BitVec 32 := 1#32
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let v904 : BitVec 32 := Scalar.subi c1_i32_774 v17
  let c96_i32 : BitVec 32 := 96#32
  let v905 : BitVec 32 := Scalar.muli v904 c96_i32
  let v906 : BitVec 32 := Scalar.addi v801 v905
  let c0_i32_783 : BitVec 32 := 0#32
  ![v906.toNat, 0]
def k0_dev10 (d0 : Dev nD) : Nat :=
  let c0_i32_779 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c4_i32_778 : BitVec 32 := 4#32
  let v908 : BitVec 32 := Scalar.muli v11 c4_i32_778
  let v909 : BitVec 32 := Scalar.addi c0_i32_779 v908
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c2_i32_780 : BitVec 32 := 2#32
  let v910 : BitVec 32 := Scalar.muli v14 c2_i32_780
  let v911 : BitVec 32 := Scalar.addi v909 v910
  let c1_i32_775 : BitVec 32 := 1#32
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let v907 : BitVec 32 := Scalar.subi c1_i32_775 v17
  let c1_i32_781 : BitVec 32 := 1#32
  let v912 : BitVec 32 := Scalar.muli v907 c1_i32_781
  let v913 : BitVec 32 := Scalar.addi v911 v912
  v913.toNat
def k0_off26 (d0 : Dev nD) (c768_i32_506 : BitVec 32) (c2_i32_5 : BitVec 32) (c1_i32_7 : BitVec 32) (c4_i32 : BitVec 32) : Fin 2 → Nat :=
  let v12 : BitVec 32 := Dev.word d0
  let v13 : BitVec 32 := Scalar.divsi v12 c2_i32_5
  let c2_i32_4 : BitVec 32 := 2#32
  let v14 : BitVec 32 := Scalar.remsi v13 c2_i32_4
  let c320_i32_505 : BitVec 32 := 320#32
  let v588 : BitVec 32 := Scalar.muli v14 c320_i32_505
  let v589 : BitVec 32 := Scalar.addi c768_i32_506 v588
  let v15 : BitVec 32 := Dev.word d0
  let v16 : BitVec 32 := Scalar.divsi v15 c1_i32_7
  let c2_i32_6 : BitVec 32 := 2#32
  let v17 : BitVec 32 := Scalar.remsi v16 c2_i32_6
  let c160_i32_705 : BitVec 32 := 160#32
  let v818 : BitVec 32 := Scalar.muli v17 c160_i32_705
  let v819 : BitVec 32 := Scalar.addi v589 v818
  let c1_i32_785 : BitVec 32 := 1#32
  let v9 : BitVec 32 := Dev.word d0
  let v10 : BitVec 32 := Scalar.divsi v9 c4_i32
  let c2_i32_3 : BitVec 32 := 2#32
  let v11 : BitVec 32 := Scalar.remsi v10 c2_i32_3
  let v922 : BitVec 32 := Scalar.subi c1_i32_785 v11
  let c80_i32 : BitVec 32 := 80#32
  let v923 : BitVec 32 := Scalar.muli v922 c80_i32
  let v924 : BitVec 32 := Scalar.addi v819 v923
  let c0_i32_793 : BitVec 32 := 0#32
  ![v924.toNat, 0]
def k0_off26_at (r : Fin 2) : BitVec 32 × BitVec 32 × BitVec 32 × BitVec 32 :=
  if r.val < 1 then
    (768#32, 2#32, 1#32, 4#32)
  else
    (1408#32, 1#32, 4#32, 2#32)
def k0_dev11 (d0 : Dev nD) : Nat :=
  let c0_i32_789 : BitVec 32 := 0#32
  let c1_i32_786 : BitVec 32 := 1#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let v925 : BitVec 32 := Scalar.subi c1_i32_786 v11
  let c4_i32_788 : BitVec 32 := 4#32
  let v926 : BitVec 32 := Scalar.muli v925 c4_i32_788
  let v927 : BitVec 32 := Scalar.addi c0_i32_789 v926
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c2_i32_790 : BitVec 32 := 2#32
  let v928 : BitVec 32 := Scalar.muli v14 c2_i32_790
  let v929 : BitVec 32 := Scalar.addi v927 v928
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let c1_i32_791 : BitVec 32 := 1#32
  let v930 : BitVec 32 := Scalar.muli v17 c1_i32_791
  let v931 : BitVec 32 := Scalar.addi v929 v930
  v931.toNat
def k0_dev12 (d0 : Dev nD) : Nat :=
  let c0_i32_800 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c4_i32_799 : BitVec 32 := 4#32
  let v944 : BitVec 32 := Scalar.muli v11 c4_i32_799
  let v945 : BitVec 32 := Scalar.addi c0_i32_800 v944
  let c1_i32_797 : BitVec 32 := 1#32
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let v943 : BitVec 32 := Scalar.subi c1_i32_797 v14
  let c2_i32_801 : BitVec 32 := 2#32
  let v946 : BitVec 32 := Scalar.muli v943 c2_i32_801
  let v947 : BitVec 32 := Scalar.addi v945 v946
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let c1_i32_802 : BitVec 32 := 1#32
  let v948 : BitVec 32 := Scalar.muli v17 c1_i32_802
  let v949 : BitVec 32 := Scalar.addi v947 v948
  v949.toNat
def k0_off27 (d0 : Dev nD) : Fin 2 → Nat :=
  let c0_i32_383 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c384_i32_382 : BitVec 32 := 384#32
  let v455 : BitVec 32 := Scalar.muli v11 c384_i32_382
  let v456 : BitVec 32 := Scalar.addi c0_i32_383 v455
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c192_i32_694 : BitVec 32 := 192#32
  let v800 : BitVec 32 := Scalar.muli v14 c192_i32_694
  let v801 : BitVec 32 := Scalar.addi v456 v800
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let c96_i32_784 : BitVec 32 := 96#32
  let v920 : BitVec 32 := Scalar.muli v17 c96_i32_784
  let v921 : BitVec 32 := Scalar.addi v801 v920
  let v972 : Index := Scalar.indexCast v921
  let c0_822 : Index := 0#32
  ![v972.toNat, 0]
def k0_off28 (d0 : Dev nD) (c768_i32_506 : BitVec 32) (c2_i32_5 : BitVec 32) (c1_i32_7 : BitVec 32) (c4_i32 : BitVec 32) : Fin 2 → Nat :=
  let v12 : BitVec 32 := Dev.word d0
  let v13 : BitVec 32 := Scalar.divsi v12 c2_i32_5
  let c2_i32_4 : BitVec 32 := 2#32
  let v14 : BitVec 32 := Scalar.remsi v13 c2_i32_4
  let c320_i32_505 : BitVec 32 := 320#32
  let v588 : BitVec 32 := Scalar.muli v14 c320_i32_505
  let v589 : BitVec 32 := Scalar.addi c768_i32_506 v588
  let v15 : BitVec 32 := Dev.word d0
  let v16 : BitVec 32 := Scalar.divsi v15 c1_i32_7
  let c2_i32_6 : BitVec 32 := 2#32
  let v17 : BitVec 32 := Scalar.remsi v16 c2_i32_6
  let c160_i32_705 : BitVec 32 := 160#32
  let v818 : BitVec 32 := Scalar.muli v17 c160_i32_705
  let v819 : BitVec 32 := Scalar.addi v589 v818
  let v9 : BitVec 32 := Dev.word d0
  let v10 : BitVec 32 := Scalar.divsi v9 c4_i32
  let c2_i32_3 : BitVec 32 := 2#32
  let v11 : BitVec 32 := Scalar.remsi v10 c2_i32_3
  let c80_i32_794 : BitVec 32 := 80#32
  let v938 : BitVec 32 := Scalar.muli v11 c80_i32_794
  let v939 : BitVec 32 := Scalar.addi v819 v938
  let v994 : Index := Scalar.indexCast v939
  let c0_840 : Index := 0#32
  ![v994.toNat, 0]
def k0_off28_at (r : Fin 2) : BitVec 32 × BitVec 32 × BitVec 32 × BitVec 32 :=
  if r.val < 1 then
    (768#32, 2#32, 1#32, 4#32)
  else
    (1408#32, 1#32, 4#32, 2#32)
def k0_off29 (d0 : Dev nD) : Fin 2 → Nat :=
  let c0_i32_383 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c384_i32_382 : BitVec 32 := 384#32
  let v455 : BitVec 32 := Scalar.muli v11 c384_i32_382
  let v456 : BitVec 32 := Scalar.addi c0_i32_383 v455
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c192_i32_694 : BitVec 32 := 192#32
  let v800 : BitVec 32 := Scalar.muli v14 c192_i32_694
  let v801 : BitVec 32 := Scalar.addi v456 v800
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let c96_i32_784 : BitVec 32 := 96#32
  let v920 : BitVec 32 := Scalar.muli v17 c96_i32_784
  let v921 : BitVec 32 := Scalar.addi v801 v920
  let c0_i32_869 : BitVec 32 := 0#32
  ![v921.toNat, 0]
def k0_dev13 (d0 : Dev nD) : Nat :=
  let c0_i32_866 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c4_i32_865 : BitVec 32 := 4#32
  let v1025 : BitVec 32 := Scalar.muli v11 c4_i32_865
  let v1026 : BitVec 32 := Scalar.addi c0_i32_866 v1025
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c2_i32_867 : BitVec 32 := 2#32
  let v1027 : BitVec 32 := Scalar.muli v14 c2_i32_867
  let v1028 : BitVec 32 := Scalar.addi v1026 v1027
  let c1_i32_862 : BitVec 32 := 1#32
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let v1024 : BitVec 32 := Scalar.subi c1_i32_862 v17
  let c1_i32_868 : BitVec 32 := 1#32
  let v1029 : BitVec 32 := Scalar.muli v1024 c1_i32_868
  let v1030 : BitVec 32 := Scalar.addi v1028 v1029
  v1030.toNat
def k0_off30 (d0 : Dev nD) (c768_i32_506 : BitVec 32) (c2_i32_5 : BitVec 32) (c1_i32_7 : BitVec 32) (c4_i32 : BitVec 32) : Fin 2 → Nat :=
  let v12 : BitVec 32 := Dev.word d0
  let v13 : BitVec 32 := Scalar.divsi v12 c2_i32_5
  let c2_i32_4 : BitVec 32 := 2#32
  let v14 : BitVec 32 := Scalar.remsi v13 c2_i32_4
  let c320_i32_505 : BitVec 32 := 320#32
  let v588 : BitVec 32 := Scalar.muli v14 c320_i32_505
  let v589 : BitVec 32 := Scalar.addi c768_i32_506 v588
  let v15 : BitVec 32 := Dev.word d0
  let v16 : BitVec 32 := Scalar.divsi v15 c1_i32_7
  let c2_i32_6 : BitVec 32 := 2#32
  let v17 : BitVec 32 := Scalar.remsi v16 c2_i32_6
  let c160_i32_705 : BitVec 32 := 160#32
  let v818 : BitVec 32 := Scalar.muli v17 c160_i32_705
  let v819 : BitVec 32 := Scalar.addi v589 v818
  let v9 : BitVec 32 := Dev.word d0
  let v10 : BitVec 32 := Scalar.divsi v9 c4_i32
  let c2_i32_3 : BitVec 32 := 2#32
  let v11 : BitVec 32 := Scalar.remsi v10 c2_i32_3
  let c80_i32_794 : BitVec 32 := 80#32
  let v938 : BitVec 32 := Scalar.muli v11 c80_i32_794
  let v939 : BitVec 32 := Scalar.addi v819 v938
  let c0_i32_881 : BitVec 32 := 0#32
  ![v939.toNat, 0]
def k0_off30_at (r : Fin 2) : BitVec 32 × BitVec 32 × BitVec 32 × BitVec 32 :=
  if r.val < 1 then
    (768#32, 2#32, 1#32, 4#32)
  else
    (1408#32, 1#32, 4#32, 2#32)
def k0_dev14 (d0 : Dev nD) : Nat :=
  let c0_i32_878 : BitVec 32 := 0#32
  let c1_i32_875 : BitVec 32 := 1#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let v1043 : BitVec 32 := Scalar.subi c1_i32_875 v11
  let c4_i32_877 : BitVec 32 := 4#32
  let v1044 : BitVec 32 := Scalar.muli v1043 c4_i32_877
  let v1045 : BitVec 32 := Scalar.addi c0_i32_878 v1044
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c2_i32_879 : BitVec 32 := 2#32
  let v1046 : BitVec 32 := Scalar.muli v14 c2_i32_879
  let v1047 : BitVec 32 := Scalar.addi v1045 v1046
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let c1_i32_880 : BitVec 32 := 1#32
  let v1048 : BitVec 32 := Scalar.muli v17 c1_i32_880
  let v1049 : BitVec 32 := Scalar.addi v1047 v1048
  v1049.toNat
def k0_dev15 (d0 : Dev nD) : Nat :=
  let c0_i32_890 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c4_i32_889 : BitVec 32 := 4#32
  let v1063 : BitVec 32 := Scalar.muli v11 c4_i32_889
  let v1064 : BitVec 32 := Scalar.addi c0_i32_890 v1063
  let c1_i32_887 : BitVec 32 := 1#32
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let v1062 : BitVec 32 := Scalar.subi c1_i32_887 v14
  let c2_i32_891 : BitVec 32 := 2#32
  let v1065 : BitVec 32 := Scalar.muli v1062 c2_i32_891
  let v1066 : BitVec 32 := Scalar.addi v1064 v1065
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let c1_i32_892 : BitVec 32 := 1#32
  let v1067 : BitVec 32 := Scalar.muli v17 c1_i32_892
  let v1068 : BitVec 32 := Scalar.addi v1066 v1067
  v1068.toNat
def k0_off31 (d0 : Dev nD) : Fin 2 → Nat :=
  let c0_i32_383 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c384_i32_382 : BitVec 32 := 384#32
  let v455 : BitVec 32 := Scalar.muli v11 c384_i32_382
  let v456 : BitVec 32 := Scalar.addi c0_i32_383 v455
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c192_i32_694 : BitVec 32 := 192#32
  let v800 : BitVec 32 := Scalar.muli v14 c192_i32_694
  let v801 : BitVec 32 := Scalar.addi v456 v800
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let c96_i32_784 : BitVec 32 := 96#32
  let v920 : BitVec 32 := Scalar.muli v17 c96_i32_784
  let v921 : BitVec 32 := Scalar.addi v801 v920
  let c96_i32_874 : BitVec 32 := 96#32
  let v1041 : BitVec 32 := Scalar.muli v17 c96_i32_874
  let v1042 : BitVec 32 := Scalar.subi v921 v1041
  let c0_i32_951 : BitVec 32 := 0#32
  ![v1042.toNat, 0]
def k0_dev16 (d0 : Dev nD) : Nat :=
  let c0_i32_948 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c4_i32_947 : BitVec 32 := 4#32
  let v1139 : BitVec 32 := Scalar.muli v11 c4_i32_947
  let v1140 : BitVec 32 := Scalar.addi c0_i32_948 v1139
  let c1_i32_944 : BitVec 32 := 1#32
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let v1138 : BitVec 32 := Scalar.subi c1_i32_944 v14
  let c2_i32_949 : BitVec 32 := 2#32
  let v1141 : BitVec 32 := Scalar.muli v1138 c2_i32_949
  let v1142 : BitVec 32 := Scalar.addi v1140 v1141
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let c1_i32_950 : BitVec 32 := 1#32
  let v1143 : BitVec 32 := Scalar.muli v17 c1_i32_950
  let v1144 : BitVec 32 := Scalar.addi v1142 v1143
  v1144.toNat
def k0_off32 (d0 : Dev nD) (c768_i32_506 : BitVec 32) (c2_i32_5 : BitVec 32) (c1_i32_7 : BitVec 32) (c4_i32 : BitVec 32) : Fin 2 → Nat :=
  let v12 : BitVec 32 := Dev.word d0
  let v13 : BitVec 32 := Scalar.divsi v12 c2_i32_5
  let c2_i32_4 : BitVec 32 := 2#32
  let v14 : BitVec 32 := Scalar.remsi v13 c2_i32_4
  let c320_i32_505 : BitVec 32 := 320#32
  let v588 : BitVec 32 := Scalar.muli v14 c320_i32_505
  let v589 : BitVec 32 := Scalar.addi c768_i32_506 v588
  let v15 : BitVec 32 := Dev.word d0
  let v16 : BitVec 32 := Scalar.divsi v15 c1_i32_7
  let c2_i32_6 : BitVec 32 := 2#32
  let v17 : BitVec 32 := Scalar.remsi v16 c2_i32_6
  let c160_i32_705 : BitVec 32 := 160#32
  let v818 : BitVec 32 := Scalar.muli v17 c160_i32_705
  let v819 : BitVec 32 := Scalar.addi v589 v818
  let v9 : BitVec 32 := Dev.word d0
  let v10 : BitVec 32 := Scalar.divsi v9 c4_i32
  let c2_i32_3 : BitVec 32 := 2#32
  let v11 : BitVec 32 := Scalar.remsi v10 c2_i32_3
  let c80_i32_794 : BitVec 32 := 80#32
  let v938 : BitVec 32 := Scalar.muli v11 c80_i32_794
  let v939 : BitVec 32 := Scalar.addi v819 v938
  let c80_i32_886 : BitVec 32 := 80#32
  let v1060 : BitVec 32 := Scalar.muli v11 c80_i32_886
  let v1061 : BitVec 32 := Scalar.subi v939 v1060
  let c0_i32_963 : BitVec 32 := 0#32
  ![v1061.toNat, 0]
def k0_off32_at (r : Fin 2) : BitVec 32 × BitVec 32 × BitVec 32 × BitVec 32 :=
  if r.val < 1 then
    (768#32, 2#32, 1#32, 4#32)
  else
    (1408#32, 1#32, 4#32, 2#32)
def k0_dev17 (d0 : Dev nD) : Nat :=
  let c0_i32_960 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c4_i32_959 : BitVec 32 := 4#32
  let v1158 : BitVec 32 := Scalar.muli v11 c4_i32_959
  let v1159 : BitVec 32 := Scalar.addi c0_i32_960 v1158
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c2_i32_961 : BitVec 32 := 2#32
  let v1160 : BitVec 32 := Scalar.muli v14 c2_i32_961
  let v1161 : BitVec 32 := Scalar.addi v1159 v1160
  let c1_i32_957 : BitVec 32 := 1#32
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let v1157 : BitVec 32 := Scalar.subi c1_i32_957 v17
  let c1_i32_962 : BitVec 32 := 1#32
  let v1162 : BitVec 32 := Scalar.muli v1157 c1_i32_962
  let v1163 : BitVec 32 := Scalar.addi v1161 v1162
  v1163.toNat
def k0_dev18 (d0 : Dev nD) : Nat :=
  let c0_i32_972 : BitVec 32 := 0#32
  let c1_i32_969 : BitVec 32 := 1#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let v1176 : BitVec 32 := Scalar.subi c1_i32_969 v11
  let c4_i32_971 : BitVec 32 := 4#32
  let v1177 : BitVec 32 := Scalar.muli v1176 c4_i32_971
  let v1178 : BitVec 32 := Scalar.addi c0_i32_972 v1177
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c2_i32_973 : BitVec 32 := 2#32
  let v1179 : BitVec 32 := Scalar.muli v14 c2_i32_973
  let v1180 : BitVec 32 := Scalar.addi v1178 v1179
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let c1_i32_974 : BitVec 32 := 1#32
  let v1181 : BitVec 32 := Scalar.muli v17 c1_i32_974
  let v1182 : BitVec 32 := Scalar.addi v1180 v1181
  v1182.toNat
def k0_off33 (d0 : Dev nD) : Fin 2 → Nat :=
  let c0_i32_383 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c384_i32_382 : BitVec 32 := 384#32
  let v455 : BitVec 32 := Scalar.muli v11 c384_i32_382
  let v456 : BitVec 32 := Scalar.addi c0_i32_383 v455
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c192_i32_694 : BitVec 32 := 192#32
  let v800 : BitVec 32 := Scalar.muli v14 c192_i32_694
  let v801 : BitVec 32 := Scalar.addi v456 v800
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let c96_i32_784 : BitVec 32 := 96#32
  let v920 : BitVec 32 := Scalar.muli v17 c96_i32_784
  let v921 : BitVec 32 := Scalar.addi v801 v920
  let c1_i32_872 : BitVec 32 := 1#32
  let c2_i32_871 : BitVec 32 := 2#32
  let v1037 : BitVec 32 := Scalar.muli c2_i32_871 v17
  let v1038 : BitVec 32 := Scalar.subi c1_i32_872 v1037
  let c96_i32_873 : BitVec 32 := 96#32
  let v1039 : BitVec 32 := Scalar.muli v1038 c96_i32_873
  let v1040 : BitVec 32 := Scalar.addi v921 v1039
  let v1195 : Index := Scalar.indexCast v1040
  let c0_981 : Index := 0#32
  ![v1195.toNat, 0]
def k0_off34 (d0 : Dev nD) (c768_i32_506 : BitVec 32) (c2_i32_5 : BitVec 32) (c1_i32_7 : BitVec 32) (c4_i32 : BitVec 32) : Fin 2 → Nat :=
  let v12 : BitVec 32 := Dev.word d0
  let v13 : BitVec 32 := Scalar.divsi v12 c2_i32_5
  let c2_i32_4 : BitVec 32 := 2#32
  let v14 : BitVec 32 := Scalar.remsi v13 c2_i32_4
  let c320_i32_505 : BitVec 32 := 320#32
  let v588 : BitVec 32 := Scalar.muli v14 c320_i32_505
  let v589 : BitVec 32 := Scalar.addi c768_i32_506 v588
  let v15 : BitVec 32 := Dev.word d0
  let v16 : BitVec 32 := Scalar.divsi v15 c1_i32_7
  let c2_i32_6 : BitVec 32 := 2#32
  let v17 : BitVec 32 := Scalar.remsi v16 c2_i32_6
  let c160_i32_705 : BitVec 32 := 160#32
  let v818 : BitVec 32 := Scalar.muli v17 c160_i32_705
  let v819 : BitVec 32 := Scalar.addi v589 v818
  let v9 : BitVec 32 := Dev.word d0
  let v10 : BitVec 32 := Scalar.divsi v9 c4_i32
  let c2_i32_3 : BitVec 32 := 2#32
  let v11 : BitVec 32 := Scalar.remsi v10 c2_i32_3
  let c80_i32_794 : BitVec 32 := 80#32
  let v938 : BitVec 32 := Scalar.muli v11 c80_i32_794
  let v939 : BitVec 32 := Scalar.addi v819 v938
  let c1_i32_884 : BitVec 32 := 1#32
  let c2_i32_883 : BitVec 32 := 2#32
  let v1056 : BitVec 32 := Scalar.muli c2_i32_883 v11
  let v1057 : BitVec 32 := Scalar.subi c1_i32_884 v1056
  let c80_i32_885 : BitVec 32 := 80#32
  let v1058 : BitVec 32 := Scalar.muli v1057 c80_i32_885
  let v1059 : BitVec 32 := Scalar.addi v939 v1058
  let v1214 : Index := Scalar.indexCast v1059
  let c0_996 : Index := 0#32
  ![v1214.toNat, 0]
def k0_off34_at (r : Fin 2) : BitVec 32 × BitVec 32 × BitVec 32 × BitVec 32 :=
  if r.val < 1 then
    (768#32, 2#32, 1#32, 4#32)
  else
    (1408#32, 1#32, 4#32, 2#32)
def k0_off35 (d0 : Dev nD) : Fin 2 → Nat :=
  let c0_i32_383 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c384_i32_382 : BitVec 32 := 384#32
  let v455 : BitVec 32 := Scalar.muli v11 c384_i32_382
  let v456 : BitVec 32 := Scalar.addi c0_i32_383 v455
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c192_i32_694 : BitVec 32 := 192#32
  let v800 : BitVec 32 := Scalar.muli v14 c192_i32_694
  let v801 : BitVec 32 := Scalar.addi v456 v800
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let c96_i32_784 : BitVec 32 := 96#32
  let v920 : BitVec 32 := Scalar.muli v17 c96_i32_784
  let v921 : BitVec 32 := Scalar.addi v801 v920
  let c96_i32_874 : BitVec 32 := 96#32
  let v1041 : BitVec 32 := Scalar.muli v17 c96_i32_874
  let v1042 : BitVec 32 := Scalar.subi v921 v1041
  let c192_i32_956 : BitVec 32 := 192#32
  let v1155 : BitVec 32 := Scalar.muli v14 c192_i32_956
  let v1156 : BitVec 32 := Scalar.subi v1042 v1155
  let c0_i32_1032 : BitVec 32 := 0#32
  ![v1156.toNat, 0]
def k0_dev19 (d0 : Dev nD) : Nat :=
  let c0_i32_1029 : BitVec 32 := 0#32
  let c1_i32_1026 : BitVec 32 := 1#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let v1252 : BitVec 32 := Scalar.subi c1_i32_1026 v11
  let c4_i32_1028 : BitVec 32 := 4#32
  let v1253 : BitVec 32 := Scalar.muli v1252 c4_i32_1028
  let v1254 : BitVec 32 := Scalar.addi c0_i32_1029 v1253
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c2_i32_1030 : BitVec 32 := 2#32
  let v1255 : BitVec 32 := Scalar.muli v14 c2_i32_1030
  let v1256 : BitVec 32 := Scalar.addi v1254 v1255
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let c1_i32_1031 : BitVec 32 := 1#32
  let v1257 : BitVec 32 := Scalar.muli v17 c1_i32_1031
  let v1258 : BitVec 32 := Scalar.addi v1256 v1257
  v1258.toNat
def k0_off36 (d0 : Dev nD) (c768_i32_506 : BitVec 32) (c2_i32_5 : BitVec 32) (c1_i32_7 : BitVec 32) (c4_i32 : BitVec 32) : Fin 2 → Nat :=
  let v12 : BitVec 32 := Dev.word d0
  let v13 : BitVec 32 := Scalar.divsi v12 c2_i32_5
  let c2_i32_4 : BitVec 32 := 2#32
  let v14 : BitVec 32 := Scalar.remsi v13 c2_i32_4
  let c320_i32_505 : BitVec 32 := 320#32
  let v588 : BitVec 32 := Scalar.muli v14 c320_i32_505
  let v589 : BitVec 32 := Scalar.addi c768_i32_506 v588
  let v15 : BitVec 32 := Dev.word d0
  let v16 : BitVec 32 := Scalar.divsi v15 c1_i32_7
  let c2_i32_6 : BitVec 32 := 2#32
  let v17 : BitVec 32 := Scalar.remsi v16 c2_i32_6
  let c160_i32_705 : BitVec 32 := 160#32
  let v818 : BitVec 32 := Scalar.muli v17 c160_i32_705
  let v819 : BitVec 32 := Scalar.addi v589 v818
  let v9 : BitVec 32 := Dev.word d0
  let v10 : BitVec 32 := Scalar.divsi v9 c4_i32
  let c2_i32_3 : BitVec 32 := 2#32
  let v11 : BitVec 32 := Scalar.remsi v10 c2_i32_3
  let c80_i32_794 : BitVec 32 := 80#32
  let v938 : BitVec 32 := Scalar.muli v11 c80_i32_794
  let v939 : BitVec 32 := Scalar.addi v819 v938
  let c80_i32_886 : BitVec 32 := 80#32
  let v1060 : BitVec 32 := Scalar.muli v11 c80_i32_886
  let v1061 : BitVec 32 := Scalar.subi v939 v1060
  let c160_i32_968 : BitVec 32 := 160#32
  let v1174 : BitVec 32 := Scalar.muli v17 c160_i32_968
  let v1175 : BitVec 32 := Scalar.subi v1061 v1174
  let c0_i32_1043 : BitVec 32 := 0#32
  ![v1175.toNat, 0]
def k0_off36_at (r : Fin 2) : BitVec 32 × BitVec 32 × BitVec 32 × BitVec 32 :=
  if r.val < 1 then
    (768#32, 2#32, 1#32, 4#32)
  else
    (1408#32, 1#32, 4#32, 2#32)
def k0_dev20 (d0 : Dev nD) : Nat :=
  let c0_i32_1040 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c4_i32_1039 : BitVec 32 := 4#32
  let v1270 : BitVec 32 := Scalar.muli v11 c4_i32_1039
  let v1271 : BitVec 32 := Scalar.addi c0_i32_1040 v1270
  let c1_i32_1037 : BitVec 32 := 1#32
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let v1269 : BitVec 32 := Scalar.subi c1_i32_1037 v14
  let c2_i32_1041 : BitVec 32 := 2#32
  let v1272 : BitVec 32 := Scalar.muli v1269 c2_i32_1041
  let v1273 : BitVec 32 := Scalar.addi v1271 v1272
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let c1_i32_1042 : BitVec 32 := 1#32
  let v1274 : BitVec 32 := Scalar.muli v17 c1_i32_1042
  let v1275 : BitVec 32 := Scalar.addi v1273 v1274
  v1275.toNat
def k0_dev21 (d0 : Dev nD) : Nat :=
  let c0_i32_1051 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c4_i32_1050 : BitVec 32 := 4#32
  let v1287 : BitVec 32 := Scalar.muli v11 c4_i32_1050
  let v1288 : BitVec 32 := Scalar.addi c0_i32_1051 v1287
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c2_i32_1052 : BitVec 32 := 2#32
  let v1289 : BitVec 32 := Scalar.muli v14 c2_i32_1052
  let v1290 : BitVec 32 := Scalar.addi v1288 v1289
  let c1_i32_1048 : BitVec 32 := 1#32
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let v1286 : BitVec 32 := Scalar.subi c1_i32_1048 v17
  let c1_i32_1053 : BitVec 32 := 1#32
  let v1291 : BitVec 32 := Scalar.muli v1286 c1_i32_1053
  let v1292 : BitVec 32 := Scalar.addi v1290 v1291
  v1292.toNat
def k0_off37 (d0 : Dev nD) : Fin 2 → Nat :=
  let c0_i32_383 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c384_i32_382 : BitVec 32 := 384#32
  let v455 : BitVec 32 := Scalar.muli v11 c384_i32_382
  let v456 : BitVec 32 := Scalar.addi c0_i32_383 v455
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c192_i32_694 : BitVec 32 := 192#32
  let v800 : BitVec 32 := Scalar.muli v14 c192_i32_694
  let v801 : BitVec 32 := Scalar.addi v456 v800
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let c96_i32_784 : BitVec 32 := 96#32
  let v920 : BitVec 32 := Scalar.muli v17 c96_i32_784
  let v921 : BitVec 32 := Scalar.addi v801 v920
  let c96_i32_874 : BitVec 32 := 96#32
  let v1041 : BitVec 32 := Scalar.muli v17 c96_i32_874
  let v1042 : BitVec 32 := Scalar.subi v921 v1041
  let c1_i32_954 : BitVec 32 := 1#32
  let c2_i32_953 : BitVec 32 := 2#32
  let v1151 : BitVec 32 := Scalar.muli c2_i32_953 v14
  let v1152 : BitVec 32 := Scalar.subi c1_i32_954 v1151
  let c192_i32_955 : BitVec 32 := 192#32
  let v1153 : BitVec 32 := Scalar.muli v1152 c192_i32_955
  let v1154 : BitVec 32 := Scalar.addi v1042 v1153
  let v1303 : Index := Scalar.indexCast v1154
  let c0_1059 : Index := 0#32
  ![v1303.toNat, 0]
def k0_off38 (d0 : Dev nD) (c768_i32_506 : BitVec 32) (c2_i32_5 : BitVec 32) (c1_i32_7 : BitVec 32) (c4_i32 : BitVec 32) : Fin 2 → Nat :=
  let v12 : BitVec 32 := Dev.word d0
  let v13 : BitVec 32 := Scalar.divsi v12 c2_i32_5
  let c2_i32_4 : BitVec 32 := 2#32
  let v14 : BitVec 32 := Scalar.remsi v13 c2_i32_4
  let c320_i32_505 : BitVec 32 := 320#32
  let v588 : BitVec 32 := Scalar.muli v14 c320_i32_505
  let v589 : BitVec 32 := Scalar.addi c768_i32_506 v588
  let v15 : BitVec 32 := Dev.word d0
  let v16 : BitVec 32 := Scalar.divsi v15 c1_i32_7
  let c2_i32_6 : BitVec 32 := 2#32
  let v17 : BitVec 32 := Scalar.remsi v16 c2_i32_6
  let c160_i32_705 : BitVec 32 := 160#32
  let v818 : BitVec 32 := Scalar.muli v17 c160_i32_705
  let v819 : BitVec 32 := Scalar.addi v589 v818
  let v9 : BitVec 32 := Dev.word d0
  let v10 : BitVec 32 := Scalar.divsi v9 c4_i32
  let c2_i32_3 : BitVec 32 := 2#32
  let v11 : BitVec 32 := Scalar.remsi v10 c2_i32_3
  let c80_i32_794 : BitVec 32 := 80#32
  let v938 : BitVec 32 := Scalar.muli v11 c80_i32_794
  let v939 : BitVec 32 := Scalar.addi v819 v938
  let c80_i32_886 : BitVec 32 := 80#32
  let v1060 : BitVec 32 := Scalar.muli v11 c80_i32_886
  let v1061 : BitVec 32 := Scalar.subi v939 v1060
  let c1_i32_966 : BitVec 32 := 1#32
  let c2_i32_965 : BitVec 32 := 2#32
  let v1170 : BitVec 32 := Scalar.muli c2_i32_965 v17
  let v1171 : BitVec 32 := Scalar.subi c1_i32_966 v1170
  let c160_i32_967 : BitVec 32 := 160#32
  let v1172 : BitVec 32 := Scalar.muli v1171 c160_i32_967
  let v1173 : BitVec 32 := Scalar.addi v1061 v1172
  let v1322 : Index := Scalar.indexCast v1173
  let c0_1074 : Index := 0#32
  ![v1322.toNat, 0]
def k0_off38_at (r : Fin 2) : BitVec 32 × BitVec 32 × BitVec 32 × BitVec 32 :=
  if r.val < 1 then
    (768#32, 2#32, 1#32, 4#32)
  else
    (1408#32, 1#32, 4#32, 2#32)
def k0_off39 (d0 : Dev nD) : Fin 2 → Nat :=
  let c0_i32_383 : BitVec 32 := 0#32
  let v9 : BitVec 32 := Dev.word d0
  let c4_i32 : BitVec 32 := 4#32
  let v10 : BitVec 32 := Scalar.divsi v9 c4_i32
  let c2_i32_3 : BitVec 32 := 2#32
  let v11 : BitVec 32 := Scalar.remsi v10 c2_i32_3
  let c384_i32_382 : BitVec 32 := 384#32
  let v455 : BitVec 32 := Scalar.muli v11 c384_i32_382
  let v456 : BitVec 32 := Scalar.addi c0_i32_383 v455
  let v12 : BitVec 32 := Dev.word d0
  let c2_i32_5 : BitVec 32 := 2#32
  let v13 : BitVec 32 := Scalar.divsi v12 c2_i32_5
  let c2_i32_4 : BitVec 32 := 2#32
  let v14 : BitVec 32 := Scalar.remsi v13 c2_i32_4
  let c192_i32_694 : BitVec 32 := 192#32
  let v800 : BitVec 32 := Scalar.muli v14 c192_i32_694
  let v801 : BitVec 32 := Scalar.addi v456 v800
  let v15 : BitVec 32 := Dev.word d0
  let c1_i32_7 : BitVec 32 := 1#32
  let v16 : BitVec 32 := Scalar.divsi v15 c1_i32_7
  let c2_i32_6 : BitVec 32 := 2#32
  let v17 : BitVec 32 := Scalar.remsi v16 c2_i32_6
  let c96_i32_784 : BitVec 32 := 96#32
  let v920 : BitVec 32 := Scalar.muli v17 c96_i32_784
  let v921 : BitVec 32 := Scalar.addi v801 v920
  let c96_i32_874 : BitVec 32 := 96#32
  let v1041 : BitVec 32 := Scalar.muli v17 c96_i32_874
  let v1042 : BitVec 32 := Scalar.subi v921 v1041
  let c192_i32_956 : BitVec 32 := 192#32
  let v1155 : BitVec 32 := Scalar.muli v14 c192_i32_956
  let v1156 : BitVec 32 := Scalar.subi v1042 v1155
  let c1_i32_1035 : BitVec 32 := 1#32
  let c2_i32_1034 : BitVec 32 := 2#32
  let v1265 : BitVec 32 := Scalar.muli c2_i32_1034 v11
  let v1266 : BitVec 32 := Scalar.subi c1_i32_1035 v1265
  let c384_i32_1036 : BitVec 32 := 384#32
  let v1267 : BitVec 32 := Scalar.muli v1266 c384_i32_1036
  let v1268 : BitVec 32 := Scalar.addi v1156 v1267
  let v1360 : Index := Scalar.indexCast v1268
  let c0_1104 : Index := 0#32
  ![v1360.toNat, 0]
def k0_off40 (d0 : Dev nD) (c768_i32_506 : BitVec 32) (c2_i32_5 : BitVec 32) (c1_i32_7 : BitVec 32) (c4_i32 : BitVec 32) : Fin 2 → Nat :=
  let v12 : BitVec 32 := Dev.word d0
  let v13 : BitVec 32 := Scalar.divsi v12 c2_i32_5
  let c2_i32_4 : BitVec 32 := 2#32
  let v14 : BitVec 32 := Scalar.remsi v13 c2_i32_4
  let c320_i32_505 : BitVec 32 := 320#32
  let v588 : BitVec 32 := Scalar.muli v14 c320_i32_505
  let v589 : BitVec 32 := Scalar.addi c768_i32_506 v588
  let v15 : BitVec 32 := Dev.word d0
  let v16 : BitVec 32 := Scalar.divsi v15 c1_i32_7
  let c2_i32_6 : BitVec 32 := 2#32
  let v17 : BitVec 32 := Scalar.remsi v16 c2_i32_6
  let c160_i32_705 : BitVec 32 := 160#32
  let v818 : BitVec 32 := Scalar.muli v17 c160_i32_705
  let v819 : BitVec 32 := Scalar.addi v589 v818
  let v9 : BitVec 32 := Dev.word d0
  let v10 : BitVec 32 := Scalar.divsi v9 c4_i32
  let c2_i32_3 : BitVec 32 := 2#32
  let v11 : BitVec 32 := Scalar.remsi v10 c2_i32_3
  let c80_i32_794 : BitVec 32 := 80#32
  let v938 : BitVec 32 := Scalar.muli v11 c80_i32_794
  let v939 : BitVec 32 := Scalar.addi v819 v938
  let c80_i32_886 : BitVec 32 := 80#32
  let v1060 : BitVec 32 := Scalar.muli v11 c80_i32_886
  let v1061 : BitVec 32 := Scalar.subi v939 v1060
  let c160_i32_968 : BitVec 32 := 160#32
  let v1174 : BitVec 32 := Scalar.muli v17 c160_i32_968
  let v1175 : BitVec 32 := Scalar.subi v1061 v1174
  let c1_i32_1046 : BitVec 32 := 1#32
  let c2_i32_1045 : BitVec 32 := 2#32
  let v1282 : BitVec 32 := Scalar.muli c2_i32_1045 v14
  let v1283 : BitVec 32 := Scalar.subi c1_i32_1046 v1282
  let c320_i32_1047 : BitVec 32 := 320#32
  let v1284 : BitVec 32 := Scalar.muli v1283 c320_i32_1047
  let v1285 : BitVec 32 := Scalar.addi v1175 v1284
  let v1365 : Index := Scalar.indexCast v1285
  let c0_1106 : Index := 0#32
  ![v1365.toNat, 0]
def k0_off40_at (r : Fin 2) : BitVec 32 × BitVec 32 × BitVec 32 × BitVec 32 :=
  if r.val < 1 then
    (768#32, 2#32, 1#32, 4#32)
  else
    (1408#32, 1#32, 4#32, 2#32)
abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x16384 : Shape := ⟨2, ![2048, 16384]⟩
abbrev S16384x2048 : Shape := ⟨2, ![16384, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S2048x16384, .f32⟩
  | .hbm, ⟨2, _⟩ => ⟨S16384x2048, .f32⟩
  | .hbm, ⟨3, _⟩ => ⟨S2048x2048, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Rows.lean ====
/-
Bands of rows of a buffer of `R` rows and 2048 columns.

A band `lo ≤ row < lo + n` of a VMEM buffer is held together with the matrix its elements are entries of.
The rules below split and join bands, read a window of a band and overwrite a band.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Hypercube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds library's algebra for the kernel's cells: a cell has at most three duties. -/
abbrev UB : Type := URounds (GSem nD τ sig) (Fin 3)
/-- The user algebra: the pipeline library's, the cells' and the counters of the local copies. -/
abbrev UU : Type := UR sig nD τ × (UB × Counters)

local notation "𝕄" => MT nD τ sig Unit (Elt F) ℕ UU ℕ

abbrev EP : Emb (UR sig nD τ) (MT nD τ sig Unit (Elt F) ℕ UU ℕ) := embL
/-- The cells' algebra inside the machine's. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' counters inside the machine's algebra. -/
abbrev EC : UEmb Counters (MT nD τ sig Unit (Elt F) ℕ UU ℕ) := countersEmb

abbrev 𝒱₀ : Variants := Variants.none

/-- A matrix of 2048 columns, its rows numbered from zero without bound. -/
abbrev Mat (F : FTy → Type) (e : EltTy) : Type := ℕ → Fin 2048 → Elt F e

/-- `R` rows of 2048 columns. -/
abbrev Sh (R : ℕ) : Shape := ⟨2, ![R, 2048]⟩

/-- The indices of rows `lo ≤ row < lo + n`. -/
def rows (R lo n : ℕ) : Finset (Sh R).Idx := Finset.univ.filter fun i => lo ≤ (i 0).val ∧ (i 0).val < lo + n

/-- An index is among these rows when its row is in their range. -/
theorem mem_rows {R lo n : ℕ} {i : (Sh R).Idx} : i ∈ rows R lo n ↔ lo ≤ (i 0).val ∧ (i 0).val < lo + n := by
  simp only [rows, Finset.mem_filter, Finset.mem_univ, true_and]

/-- Rows `a ≤ row < a + n` of a matrix as an array of `n` rows. -/
def band {e : EltTy} (n : ℕ) (A : Mat F e) (a : ℕ) : (Sh n).Idx → Elt F e := fun i => A (a + (i 0).val) (i 1)

/-- Rows `lo ≤ row < lo + n` of the buffer under `M` on device `d`, at share `q`, with the entries of `A`. -/
def own {R : ℕ} {e : EltTy} (d : Dev nD) (M : Memref sig .tc .vmem (Sh R) e) (lo n : ℕ) (q : PosShare TreeShare) (A : Mat F e) : sProp 𝕄 :=
  iprop(∃ f : Buf (Elt F) (M.view.loc (d.tc : Thread nD τ)), ⌜∀ i ∈ rows R lo n, M.view.read (Elt F) f i = A (i 0).val (i 1)⌝
    ∗ (M.view.loc (d.tc : Thread nD τ) ↦[M.view.setOn (rows R lo n)]{q} f))

/-- The same rows at any contents. -/
def ownAny {R : ℕ} {e : EltTy} (d : Dev nD) (M : Memref sig .tc .vmem (Sh R) e) (lo n : ℕ) : sProp 𝕄 :=
  iprop(∃ A : Mat F e, own d M lo n fullShare A)

variable {R : ℕ} {e : EltTy} (d : Dev nD) (M : Memref sig .tc .vmem (Sh R) e)

omit [FloatOps F] in
/-- Rows with known entries are rows at any contents. -/
theorem own_any (lo n : ℕ) (A : Mat F e) : own d M lo n fullShare A ⊢ (ownAny d M lo n : sProp 𝕄) := by
  unfold ownAny; iintro H; iexists A; iexact H

omit [FloatOps F] in
/-- Only the entries in the band matter. -/
theorem own_congr {lo n : ℕ} {q : PosShare TreeShare} {A B : Mat F e} (h : ∀ r j, lo ≤ r → r < lo + n → A r j = B r j) :
    own d M lo n q A ⊢ (own d M lo n q B : sProp 𝕄) := by
  unfold own
  iintro ⟨%f, %hf, H⟩
  iexists f
  isplitr
  · ipureintro; intro i hi
    rw [hf i hi]; exact h _ _ (mem_rows.1 hi).1 (mem_rows.1 hi).2
  iexact H

omit [FloatOps F] in
/-- A range of rows is its first `n` and the `m` after them. -/
theorem rows_union (lo n m : ℕ) : rows R lo (n + m) = rows R lo n ∪ rows R (lo + n) m := by
  ext i; simp only [Finset.mem_union, mem_rows]; omega

omit [FloatOps F] in
/-- Two ranges that follow each other share no row. -/
theorem rows_disjoint (lo n m : ℕ) : Disjoint (rows R lo n) (rows R (lo + n) m) := by
  rw [Finset.disjoint_left]; intro i h1 h2; rw [mem_rows] at h1 h2; omega

omit [FloatOps F] in
/-- A band is its first `n` rows and the rest. -/
theorem own_split (lo n m : ℕ) (q : PosShare TreeShare) (A : Mat F e) :
    own d M lo (n + m) q A ⊢ (iprop(own d M lo n q A ∗ own d M (lo + n) m q A) : sProp 𝕄) := by
  unfold own
  iintro ⟨%f, %hf, H⟩
  rw [rows_union lo n m, View.setOn, Finset.map_union]
  ihave H2 := (pointsTo_union ((Finset.disjoint_map M.view.emb).2 (rows_disjoint lo n m))).1 $$ H
  icases H2 with ⟨H1, H2⟩
  isplitl [H1]
  · iexists f
    isplitr
    · ipureintro; intro i hi; exact hf i (by rw [rows_union]; exact Finset.mem_union_left _ hi)
    iexact H1
  · iexists f
    isplitr
    · ipureintro; intro i hi; exact hf i (by rw [rows_union]; exact Finset.mem_union_right _ hi)
    iexact H2

omit [FloatOps F] in
/-- Two adjacent bands of one matrix are one band. -/
theorem own_join (lo n m : ℕ) (q : PosShare TreeShare) (A : Mat F e) :
    iprop(own d M lo n q A ∗ own d M (lo + n) m q A) ⊢ (own d M lo (n + m) q A : sProp 𝕄) := by
  unfold own
  iintro ⟨⟨%f, %hf, H1⟩, ⟨%g, %hg, H2⟩⟩
  ihave H := (pointsTo_join (ℓ := M.view.loc (d.tc : Thread nD τ)) (I := M.view.setOn (rows R lo n)) (J := M.view.setOn (rows R (lo + n) m))
    (q := q) (f := f) (g := g) ((Finset.disjoint_map M.view.emb).2 (rows_disjoint (R := R) lo n m))) $$ [H1 H2]
  · isplitl [H1]; · iexact H1
    iexact H2
  iexists ((M.view.setOn (rows R (lo + n) m)).piecewise g f : Buf (Elt F) (M.view.loc (d.tc : Thread nD τ)))
  isplitr; swap
  · rw [show M.view.setOn (rows R lo (n + m)) = M.view.setOn (rows R lo n) ∪ M.view.setOn (rows R (lo + n) m) by
      rw [rows_union lo n m, View.setOn, View.setOn, View.setOn, Finset.map_union]]
    iexact H
  ipureintro; intro i hi
  rw [View.read_apply]
  by_cases h2 : i ∈ rows R (lo + n) m
  · have hp : (M.view.setOn (rows R (lo + n) m)).piecewise g f (M.view.emb i) = g (M.view.emb i) :=
      Finset.piecewise_eq_of_mem _ _ _ (Finset.mem_map_of_mem _ h2)
    exact (congrArg (_root_.cast _) hp).trans (hg i h2)
  · have hp : (M.view.setOn (rows R (lo + n) m)).piecewise g f (M.view.emb i) = f (M.view.emb i) :=
      Finset.piecewise_eq_of_notMem _ _ _ (fun hm => h2 ((Finset.mem_map' M.view.emb).1 hm))
    refine (congrArg (_root_.cast _) hp).trans (hf i ?_)
    rw [rows_union] at hi
    exact (Finset.mem_union.1 hi).resolve_right h2

omit [FloatOps F] in
/-- A band held outright is two halves of it. -/
theorem own_halves (lo n : ℕ) (A : Mat F e) :
    own d M lo n fullShare A ⊢ (iprop(own d M lo n fullShare.left A ∗ own d M lo n fullShare.right A) : sProp 𝕄) := by
  unfold own
  iintro ⟨%f, %hf, H⟩
  ihave H2 := (pointsTo_share (PosShare.mem_left_op_right fullShare)).1 $$ H
  icases H2 with ⟨H1, H2⟩
  isplitl [H1]
  · iexists f; isplitr; · (ipureintro; exact hf)
    iexact H1
  · iexists f; isplitr; · (ipureintro; exact hf)
    iexact H2

omit [FloatOps F] in
/-- The two halves of a band are the band. -/
theorem own_whole (lo n : ℕ) (A : Mat F e) :
    iprop(own d M lo n fullShare.left A ∗ own d M lo n fullShare.right A) ⊢ (own d M lo n fullShare A : sProp 𝕄) := by
  unfold own
  iintro ⟨⟨%f, %hf, H1⟩, ⟨%g, %hg, H2⟩⟩
  iexists f
  isplitr; · (ipureintro; exact hf)
  have hfg : ∀ i ∈ M.view.setOn (rows R lo n), g i = f i := by
    intro i hi
    obtain ⟨x, hx, rfl⟩ := Finset.mem_map.1 hi
    have h1 := hf x hx; have h2 := hg x hx
    rw [View.read_apply] at h1 h2
    exact (cast_inj _).1 (h2.trans h1.symm)
  ihave H2 := (Entails.of_eq (pointsTo_congr hfg)) $$ H2
  iapply (pointsTo_share (PosShare.mem_left_op_right fullShare)).2
  isplitl [H1]; · iexact H1
  iexact H2

omit [FloatOps F] in
/-- The window `a ≤ row < a + n`, all columns, as a set of indices. -/
theorem unit_set {n a : ℕ} (inb : ∀ x, (![a, 0] : Fin 2 → ℕ) x + (Sh n).size x ≤ (Sh R).size x) :
    (Rect.unit (s := Sh R) ![a, 0] (Sh n).size inb).set = rows R a n := by
  ext i
  rw [Rect.mem_set_unit, mem_rows]
  constructor
  · intro h; exact h 0
  · intro h x
    fin_cases x
    · exact h
    · exact ⟨Nat.zero_le _, by simpa using (i 1).isLt⟩

omit [FloatOps F] in
/-- A window of `n` whole rows from row `a` has its index's row `a` further down, and the same column. -/
theorem unit_emb {n a : ℕ} (inb : ∀ x, (![a, 0] : Fin 2 → ℕ) x + (Sh n).size x ≤ (Sh R).size x) (i : (Sh n).Idx) :
    (((Rect.unit (s := Sh R) ![a, 0] (Sh n).size inb).emb i) 0).val = a + (i 0).val
      ∧ (((Rect.unit (s := Sh R) ![a, 0] (Sh n).size inb).emb i) 1).val = (i 1).val := by
  constructor
  · show (![a, 0] : Fin 2 → ℕ) 0 + 1 * (i 0).val = _; simp
  · show (![a, 0] : Fin 2 → ℕ) 1 + 1 * (i 1).val = _; simp

omit [FloatOps F] in
/-- A range inside another has its rows among the other's. -/
theorem rows_mono {lo n lo' n' : ℕ} (h1 : lo' ≤ lo) (h2 : lo + n ≤ lo' + n') : rows R lo n ⊆ rows R lo' n' := by
  intro i hi; rw [mem_rows] at hi ⊢; omega

omit [FloatOps F] in
/-- What a window of a held band reads as. -/
theorem read_band {lo m a n : ℕ} {A : Mat F e} {f : Buf (Elt F) (M.view.loc (d.tc : Thread nD τ))}
    (hf : ∀ i ∈ rows R lo m, M.view.read (Elt F) f i = A (i 0).val (i 1))
    (inb : ∀ x, (![a, 0] : Fin 2 → ℕ) x + (Sh n).size x ≤ (Sh R).size x) (h1 : lo ≤ a) (h2 : a + n ≤ lo + m) :
    (M.access (Rect.unit (s := Sh R) ![a, 0] (Sh n).size inb)).read (Elt F) f = band n A a := by
  funext i
  show M.view.read (Elt F) f ((Rect.unit (s := Sh R) ![a, 0] (Sh n).size inb).emb i) = _
  have hi : (Rect.unit (s := Sh R) ![a, 0] (Sh n).size inb).emb i ∈ rows R a n := by
    rw [← unit_set inb, ← Rect.map_emb_univ]; exact Finset.mem_map_of_mem _ (Finset.mem_univ _)
  rw [hf _ (rows_mono h1 h2 hi)]
  unfold band
  obtain ⟨e0, e1⟩ := unit_emb inb i
  rw [e0]; congr 1; exact Fin.ext e1

/-- The program `P` at once, its value known and its state changed: what one effect does. -/
theorem seq {α β : Type} {p : Prog (TpuEff nD τ sig (Elt F) Λ₀ .tc) α} {k : α → Prog (TpuEff nD τ sig (Elt F) Λ₀ .tc) β} {a : α}
    {P P' : sProp 𝕄} {Q : β → sProp 𝕄}
    (hp : P ⊢ wp frame (wpE (defs₀ (F := F)) 𝒱₀ (d.tc : Thread nD τ) none) Set.univ p (fun v => iprop(⌜v = a⌝ ∗ P')))
    (hk : P' ⊢ wp frame (wpE (defs₀ (F := F)) 𝒱₀ (d.tc : Thread nD τ) none) Set.univ (k a) Q) :
    P ⊢ wp frame (wpE (defs₀ (F := F)) 𝒱₀ (d.tc : Thread nD τ) none) Set.univ (p >>= k) Q := by
  rw [wp_bind]
  refine hp.trans (wp_mono _ _ _ fun v => ?_)
  iintro ⟨%hv, H⟩
  subst hv
  iapply hk; iexact H

omit [FloatOps F] in
/-- Reading a window of a held band. -/
theorem load_band [FloatOps F] {lo m a n : ℕ} {q : PosShare TreeShare} {A : Mat F e} {off : Fin 2 → ℕ}
    {inb : ∀ x, off x + (Sh n).size x ≤ (Sh R).size x} {hl : M.view.LoadsAt (Rect.unit (s := Sh R) off (Sh n).size inb).toLoadRect}
    (ho : off = ![a, 0]) (h1 : lo ≤ a) (h2 : a + n ≤ lo + m) :
    own d M lo m q A ⊢ wp frame (wpE (defs₀ (F := F)) 𝒱₀ (d.tc : Thread nD τ) none) Set.univ
      (Prog.lift (.load M (Rect.unit (s := Sh R) off (Sh n).size inb).toLoadRect hl))
      (fun v => iprop(⌜v = band n A a⌝ ∗ own d M lo m q A)) := by
  subst ho
  unfold own
  iintro ⟨%f, %hf, H⟩
  unfold Prog.lift
  iapply (wp_load_rect 𝒱₀ (d.tc : Thread nD τ) none Set.univ (m := M) (r := Rect.unit (s := Sh R) ![a, 0] (Sh n).size inb) (by
    rw [View.set_slice, unit_set]; exact Finset.map_subset_map.2 (rows_mono h1 h2))) $$ H
  iintro H
  rw [wp_ret]; imodintro
  isplitr
  · ipureintro; exact read_band d M hf inb h1 h2
  iexists f; isplitr; · (ipureintro; exact hf)
  iexact H

omit [FloatOps F] in
/-- Overwriting a held band: it then has the entries of any matrix that the value stored is a band of. -/
theorem store_band [FloatOps F] {a n : ℕ} {A B : Mat F e} {off : Fin 2 → ℕ}
    {inb : ∀ x, off x + (Sh n).size x ≤ (Sh R).size x} {w : (Rect.unit (s := Sh R) off (Sh n).size inb).shape.Idx → Elt F e}
    {hx : (M.access (Rect.unit (s := Sh R) off (Sh n).size inb)).Stores Finset.univ}
    {hm : (Finset.univ : Finset (Rect.unit (s := Sh R) off (Sh n).size inb).shape.Idx) = Finset.univ ∨ ∀ x, (Rect.unit (s := Sh R) off (Sh n).size inb).stride x = 1}
    (ho : off = ![a, 0]) (hw : w = band n B a) :
    own d M a n fullShare A ⊢ wp frame (wpE (defs₀ (F := F)) 𝒱₀ (d.tc : Thread nD τ) none) Set.univ
      (Prog.lift (.store M (Rect.unit (s := Sh R) off (Sh n).size inb) w Finset.univ hx hm))
      (fun v => iprop(⌜v = PUnit.unit⌝ ∗ own d M a n fullShare B)) := by
  subst ho
  unfold own
  iintro ⟨%f, %hf, H⟩
  unfold Prog.lift
  have hs : (M.access (Rect.unit (s := Sh R) ![a, 0] (Sh n).size inb)).setOn Finset.univ = M.view.setOn (rows R a n) := by
    rw [View.setOn_univ, View.set_slice, unit_set]; rfl
  iapply (wp_store 𝒱₀ (d.tc : Thread nD τ) none Set.univ (m := M) (r := Rect.unit (s := Sh R) ![a, 0] (Sh n).size inb)
    (Mk := Finset.univ) (S := M.view.setOn (rows R a n)) (by rw [hs])) $$ H
  iintro H
  rw [wp_ret]; imodintro
  isplitr; · (ipureintro; rfl)
  iexists _; isplitr; swap; · iexact H
  ipureintro; intro i hi
  rw [← unit_set inb] at hi
  obtain ⟨x, rfl⟩ : ∃ x, (Rect.unit (s := Sh R) ![a, 0] (Sh n).size inb).emb x = i := by
    rw [← Rect.map_emb_univ] at hi; obtain ⟨x, -, hx⟩ := Finset.mem_map.1 hi; exact ⟨x, hx⟩
  have hr : M.view.read (Elt F) ((M.access (Rect.unit (s := Sh R) ![a, 0] (Sh n).size inb)).write (Elt F) f w Finset.univ)
      ((Rect.unit (s := Sh R) ![a, 0] (Sh n).size inb).emb x) = w x :=
    View.read_slice_write_emb (v := M.view) (Rect.unit (s := Sh R) ![a, 0] (Sh n).size inb) f w (Finset.mem_univ x)
  rw [hr, hw]
  obtain ⟨e0, e1⟩ := unit_emb inb x
  unfold band
  rw [e0]; congr 1; exact (Fin.ext e1).symm

end Cert.Hypercube
-- ==== Proof.Geometry.lean ====
/-
The hypercube: the eight devices as corners, the three row groups, and the bands each device keeps and sends.

Group `g` halves its rows three times. In round `k` it uses axis `ax g k`: a device keeps the half its bit along that
axis names and gives the other half to its neighbour along the axis.
-/
module

public import proofs.«01_k».proof.Proof.Gen.KernelIdeal

@[expose] public section

noncomputable section

namespace Cert.Hypercube

open Cert.KernelIdeal Cert.KernelIdeal.Gen
open Idealize.ShloMosaic

/-- Device `c`'s coordinate along axis `a`: 0 is x, 1 is y, 2 is z. -/
def bit (c : Dev nD) (a : ℕ) : ℕ := if a = 0 then c.val / 4 else if a = 1 then c.val / 2 % 2 else c.val % 2

set_option backward.proofsInPublic true in
/-- The device with the other coordinate along axis `a`. -/
def nbr (c : Dev nD) (a : ℕ) : Dev nD :=
  ⟨(4 * (if a = 0 then 1 - bit c 0 else bit c 0) + 2 * (if a = 1 then 1 - bit c 1 else bit c 1)
    + (if a = 2 then 1 - bit c 2 else bit c 2)) % 8, Nat.mod_lt _ (by decide)⟩

/-- The axis group `g` uses in round `k`. -/
def ax (g : Fin 3) (k : ℕ) : ℕ := (g.val + k) % 3

/-- The axis of group `g`'s transfer `j`: the reduce-scatter's rounds, then the all-gather's, which go back. -/
def tax (g : Fin 3) (j : ℕ) : ℕ := if j < 3 then ax g j else ax g (5 - j)

/-- Where group `g`'s rows start, and how many there are after `k` halvings. -/
def gs (g : Fin 3) : ℕ := if g = 0 then 0 else if g = 1 then 768 else 1408
def sz (g : Fin 3) (k : ℕ) : ℕ := (if g = 0 then 768 else 640) / 2 ^ k

/-- The first row device `c` keeps after `k` rounds. -/
def st (g : Fin 3) : ℕ → Dev nD → ℕ
  | 0, _ => gs g
  | k + 1, c => st g k c + bit c (ax g k) * sz g (k + 1)

/-- The first row device `c` gives away in round `k`. -/
def sst (g : Fin 3) (k : ℕ) (c : Dev nD) : ℕ := st g k c + (1 - bit c (ax g k)) * sz g (k + 1)

/-- Where round `k` lands in group `g`'s receive buffer. -/
def ro (g : Fin 3) : ℕ → ℕ
  | 0 => 0
  | k + 1 => ro g k + sz g (k + 1)

/-- How many rows transfer `j` moves. -/
def trows (g : Fin 3) (j : ℕ) : ℕ := if j < 3 then sz g (j + 1) else sz g (6 - j)

/-- A neighbour's neighbour along the same axis is the device itself. -/
theorem nbr_nbr (c : Dev nD) (a : Fin 3) : nbr (nbr c a) a = c := by revert c a; decide
/-- The same along the axis of a round. -/
theorem nbr_ax (c : Dev nD) (g : Fin 3) (k : ℕ) : nbr (nbr c (ax g k)) (ax g k) = c :=
  nbr_nbr c ⟨ax g k, Nat.mod_lt _ (by decide)⟩
/-- The same along the axis of a transfer. -/
theorem nbr_tax (c : Dev nD) (g : Fin 3) (j : ℕ) : nbr (nbr c (tax g j)) (tax g j) = c := by
  unfold tax; split <;> exact nbr_ax _ _ _

/-- Two devices with the same neighbour along an axis are one. -/
theorem nbr_inj {c d : Dev nD} {a : Fin 3} (h : nbr c a = nbr d a) : c = d := by
  rw [← nbr_nbr c a, h, nbr_nbr]

/-- What a device keeps of a band is the band its neighbour gives away, and both start from the same band. -/
theorem st_nbr (g : Fin 3) {k : ℕ} (hk : k < 3) (c : Dev nD) : st g (k + 1) (nbr c (ax g k)) = sst g k c :=
  (by decide +kernel : ∀ (c : Dev nD) (g : Fin 3) (k : Fin 3), st g (k.val + 1) (nbr c (ax g k.val)) = sst g k.val c) c g ⟨k, hk⟩
/-- What the neighbour gives away in a round is what this device keeps. -/
theorem sst_nbr (g : Fin 3) {k : ℕ} (hk : k < 3) (c : Dev nD) : sst g k (nbr c (ax g k)) = st g (k + 1) c := by
  conv_rhs => rw [← nbr_ax c g k]
  exact (st_nbr g hk _).symm

/-- A round halves the rows. -/
theorem sz_half (g : Fin 3) {k : ℕ} (hk : k < 3) : sz g k = sz g (k + 1) + sz g (k + 1) :=
  (by decide : ∀ (g : Fin 3) (k : Fin 3), sz g k.val = sz g (k.val + 1) + sz g (k.val + 1)) g ⟨k, hk⟩

/-- A coordinate is 0 or 1. -/
theorem bit_le (c : Dev nD) (a : ℕ) : bit c a = 0 ∨ bit c a = 1 := by
  unfold bit; have : c.val < 8 := c.isLt; split
  · omega
  · split <;> omega

/-- Every transfer moves some row. -/
theorem trows_pos (g : Fin 3) {j : ℕ} (hj : j < 6) : 0 < trows g j :=
  (by decide : ∀ (g : Fin 3) (j : Fin 6), 0 < trows g j.val) g ⟨j, hj⟩

/-! The program's offsets and device numbers are these. -/

section
variable (c : Dev nD)

/-- The devices that the three barrier signals go to. -/
theorem dev_bar : k0_dev1 c = (nbr c 0).val ∧ k0_dev2 c = (nbr c 1).val ∧ k0_dev3 c = (nbr c 2).val := by
  revert c; decide +kernel
/-- The devices that the three groups' first sends go to. -/
theorem dev_rs0 : k0_dev4 c = (nbr c (tax 0 0)).val ∧ k0_dev5 c = (nbr c (tax 1 0)).val ∧ k0_dev6 c = (nbr c (tax 2 0)).val := by
  revert c; decide +kernel
/-- The devices that the second sends go to. -/
theorem dev_rs1 : k0_dev7 c = (nbr c (tax 0 1)).val ∧ k0_dev8 c = (nbr c (tax 1 1)).val ∧ k0_dev9 c = (nbr c (tax 2 1)).val := by
  revert c; decide +kernel
/-- The devices that the third sends go to. -/
theorem dev_rs2 : k0_dev10 c = (nbr c (tax 0 2)).val ∧ k0_dev11 c = (nbr c (tax 1 2)).val ∧ k0_dev12 c = (nbr c (tax 2 2)).val := by
  revert c; decide +kernel
/-- The devices that the all-gather's first sends go to. -/
theorem dev_ag0 : k0_dev13 c = (nbr c (tax 0 3)).val ∧ k0_dev14 c = (nbr c (tax 1 3)).val ∧ k0_dev15 c = (nbr c (tax 2 3)).val := by
  revert c; decide +kernel
/-- The devices that the all-gather's second sends go to. -/
theorem dev_ag1 : k0_dev16 c = (nbr c (tax 0 4)).val ∧ k0_dev17 c = (nbr c (tax 1 4)).val ∧ k0_dev18 c = (nbr c (tax 2 4)).val := by
  revert c; decide +kernel
/-- The devices that the all-gather's third sends go to. -/
theorem dev_ag2 : k0_dev19 c = (nbr c (tax 0 5)).val ∧ k0_dev20 c = (nbr c (tax 1 5)).val ∧ k0_dev21 c = (nbr c (tax 2 5)).val := by
  revert c; decide +kernel

/-- The bands given away in the three rounds. -/
theorem off_sent0 : k0_off17 c = ![sst 0 0 c, 0] ∧ k0_off18 c 768#32 2#32 = ![sst 1 0 c, 0] ∧ k0_off18 c 1408#32 1#32 = ![sst 2 0 c, 0] := by
  revert c; decide +kernel
/-- Where the rows sent in round 1 start. -/
theorem off_sent1 : k0_off21 c = ![sst 0 1 c, 0] ∧ k0_off22 c 768#32 2#32 1#32 = ![sst 1 1 c, 0] ∧ k0_off22 c 1408#32 1#32 4#32 = ![sst 2 1 c, 0] := by
  revert c; decide +kernel
/-- Where the rows sent in round 2 start. -/
theorem off_sent2 : k0_off25 c = ![sst 0 2 c, 0] ∧ k0_off26 c 768#32 2#32 1#32 4#32 = ![sst 1 2 c, 0]
    ∧ k0_off26 c 1408#32 1#32 4#32 2#32 = ![sst 2 2 c, 0] := by
  revert c; decide +kernel
/-- The bands kept in the three rounds. -/
theorem off_kept0 : k0_off19 c = ![st 0 1 c, 0] ∧ k0_off20 c 768#32 2#32 = ![st 1 1 c, 0] ∧ k0_off20 c 1408#32 1#32 = ![st 2 1 c, 0] := by
  revert c; decide +kernel
/-- Where the rows kept in round 1 start. -/
theorem off_kept1 : k0_off23 c = ![st 0 2 c, 0] ∧ k0_off24 c 768#32 2#32 1#32 = ![st 1 2 c, 0] ∧ k0_off24 c 1408#32 1#32 4#32 = ![st 2 2 c, 0] := by
  revert c; decide +kernel
/-- Where the rows kept in round 2 start. -/
theorem off_kept2 : k0_off27 c = ![st 0 3 c, 0] ∧ k0_off28 c 768#32 2#32 1#32 4#32 = ![st 1 3 c, 0]
    ∧ k0_off28 c 1408#32 1#32 4#32 2#32 = ![st 2 3 c, 0] := by
  revert c; decide +kernel
/-- The bands the all-gather copies. -/
theorem off_src0 : k0_off29 c = ![st 0 3 c, 0] ∧ k0_off30 c 768#32 2#32 1#32 4#32 = ![st 1 3 c, 0]
    ∧ k0_off30 c 1408#32 1#32 4#32 2#32 = ![st 2 3 c, 0] := by
  revert c; decide +kernel
/-- Where the finished rows that the all-gather's second send reads start. -/
theorem off_src1 : k0_off31 c = ![st 0 2 c, 0] ∧ k0_off32 c 768#32 2#32 1#32 4#32 = ![st 1 2 c, 0]
    ∧ k0_off32 c 1408#32 1#32 4#32 2#32 = ![st 2 2 c, 0] := by
  revert c; decide +kernel
/-- Where the finished rows that its third send reads start. -/
theorem off_src2 : k0_off35 c = ![st 0 1 c, 0] ∧ k0_off36 c 768#32 2#32 1#32 4#32 = ![st 1 1 c, 0]
    ∧ k0_off36 c 1408#32 1#32 4#32 2#32 = ![st 2 1 c, 0] := by
  revert c; decide +kernel
/-- The bands the all-gather brings back, as they are written to the result. -/
theorem off_back2 : k0_off33 c = ![sst 0 2 c, 0] ∧ k0_off34 c 768#32 2#32 1#32 4#32 = ![sst 1 2 c, 0]
    ∧ k0_off34 c 1408#32 1#32 4#32 2#32 = ![sst 2 2 c, 0] := by
  revert c; decide +kernel
/-- Where the rows that its second transfer brings back start. -/
theorem off_back1 : k0_off37 c = ![sst 0 1 c, 0] ∧ k0_off38 c 768#32 2#32 1#32 4#32 = ![sst 1 1 c, 0]
    ∧ k0_off38 c 1408#32 1#32 4#32 2#32 = ![sst 2 1 c, 0] := by
  revert c; decide +kernel
/-- Where the rows that its third transfer brings back start. -/
theorem off_back0 : k0_off39 c = ![sst 0 0 c, 0] ∧ k0_off40 c 768#32 2#32 1#32 4#32 = ![sst 1 0 c, 0]
    ∧ k0_off40 c 1408#32 1#32 4#32 2#32 = ![sst 2 0 c, 0] := by
  revert c; decide +kernel

end

/-- The device whose reduced band holds row `r` of group `g`. -/
def owner (g : Fin 3) (r : ℕ) : Dev nD :=
  (List.finRange 8).find? (fun c => st g 3 c ≤ r ∧ r < st g 3 c + sz g 3) |>.getD 0

/-- The owner of a row in a device's reduced band is that device. -/
theorem owner_eq (g : Fin 3) (c : Dev nD) {r : ℕ} (h1 : st g 3 c ≤ r) (h2 : r < st g 3 c + sz g 3) : owner g r = c := by
  have h := (by decide +kernel : ∀ (g : Fin 3) (c : Dev nD) (i : Fin 96), i.val < sz g 3 → owner g (st g 3 c + i.val) = c)
  have hs : sz g 3 ≤ 96 := (by decide : ∀ g : Fin 3, sz g 3 ≤ 96) g
  have := h g c ⟨r - st g 3 c, by omega⟩ (by show r - st g 3 c < _; omega)
  rwa [show st g 3 c + (⟨r - st g 3 c, by omega⟩ : Fin 96).val = r by show st g 3 c + (r - st g 3 c) = r; omega] at this

end Cert.Hypercube
-- ==== Proof.Protocol.lean ====
/-
What the devices promise each other: the semaphore cells, what completing each hands over, what each device owes.

Transfer `j` of group `g` (0, 1, 2 the reduce-scatter's rounds, 3, 4, 5 the all-gather's) has a send cell and a
receive cell on each device. A barrier cell takes one unit from each neighbour, which hands over its receive buffers.
-/
module

public import proofs.«01_k».proof.Proof.Rows
public import proofs.«01_k».proof.Proof.Geometry

@[expose] public section

noncomputable section

namespace Cert.Hypercube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Contents -/

/-- Device `c`'s sum of group `g` after `k` rounds, from the devices' own products `A`: right on the rows it keeps. -/
def part (A : Dev nD → Mat F .bf16) (g : Fin 3) : ℕ → Dev nD → Mat F .bf16
  | 0, c => A c
  | k + 1, c => fun r j => FloatOps.addf (part A g k c r j) (part A g k (nbr c (ax g k)) r j)

/-- The finished rows of group `g`: each row as its owner sums it. -/
def fin (A : Dev nD → Mat F .bf16) (g : Fin 3) : Mat F .bf16 := fun r j => part A g 3 (owner g r) r j

/-- The result's rows: the finished ones, widened. -/
def res (A : Dev nD → Mat F .bf16) (g : Fin 3) : Mat F .f32 := fun r j => FloatOps.extf .f32 bitsLt_bf16_f32 (fin A g r j)

/-! ## The buffers and cells -/

abbrev accM : Memref sig .tc .vmem (Sh 2048) .bf16 := Memref.whole cc0_scratch0
abbrev outM : Memref sig .tc .vmem (Sh 2048) .f32 := Memref.whole cc0_stg0_0

/-- The receive buffers' heights, and the buffers. -/
abbrev rvR : Fin 3 → ℕ
  | 0 => 672
  | 1 => 560
  | 2 => 560
abbrev rvM : (g : Fin 3) → Memref sig .tc .vmem (Sh (rvR g)) .bf16
  | 0 => Memref.whole cc0_scratch4
  | 1 => Memref.whole cc0_scratch5
  | 2 => Memref.whole cc0_scratch6

abbrev barS : Sem sig := (SemArray.scalar (sig.barrier 0 rfl) : Sems sig S_).sem
set_option backward.proofsInPublic true in
abbrev sq (g : Fin 3) (j : ℕ) : DmaSem sig := (⟨(3 + 6 * g.val + j) % 39, Nat.mod_lt _ (by decide)⟩ : Fin 39)
set_option backward.proofsInPublic true in
abbrev rq (g : Fin 3) (j : ℕ) : DmaSem sig := (⟨(21 + 6 * g.val + j) % 39, Nat.mod_lt _ (by decide)⟩ : Fin 39)

abbrev barCell (c : Dev nD) : GSem nD τ sig := ((c.tc : Thread nD τ), .reg barS)
abbrev scell (c : Dev nD) (g : Fin 3) (j : ℕ) : GSem nD τ sig := ((c.tc : Thread nD τ), .dma (sq g j))
abbrev rcell (c : Dev nD) (g : Fin 3) (j : ℕ) : GSem nD τ sig := ((c.tc : Thread nD τ), .dma (rq g j))

/-- What a transfer of `n` rows adds to the cells it credits. -/
abbrev cr (n : ℕ) : ℕ := (cc0_scratch0 : Ref sig .tc).dmaCredit (Sh n) .bf16

/-- A transfer of some rows adds something. -/
theorem cr_pos {n : ℕ} (h : 0 < n) : 0 < cr n :=
  sig.dmaCredit_pos _ _ _ _ _ (by show 0 < ∏ i, (Sh n).size i; rw [Fin.prod_univ_two]; exact Nat.mul_pos h (show 0 < 2048 by decide))

/-! ## What a cell hands over -/

/-- The round in which group `g` uses axis `a`. -/
def rd (a g : Fin 3) : ℕ := (a.val + 3 - g.val) % 3

/-- What the neighbour along `a` hands device `d` with its barrier signal: its receive buffers' windows for `d`. -/
def barPart (d : Dev nD) (a g : Fin 3) : sProp 𝕄 := ownAny (nbr d a) (rvM g) (ro g (rd a g)) (sz g (rd a g + 1))
def barPay (d : Dev nD) (a : Fin 3) : sProp 𝕄 := iprop(barPart d a 0 ∗ barPart d a 1 ∗ barPart d a 2)

/-- A finished send hands back what was lent: an all-gather send the half it read; a reduce-scatter send nothing. -/
def sendPay (A : Dev nD → Mat F .bf16) (c : Dev nD) (g : Fin 3) (j : ℕ) : sProp 𝕄 :=
  if j < 3 then iprop(emp) else own c accM (st g (6 - j) c) (sz g (6 - j)) fullShare.left (fin A g)

/-- What lands in round `k`: the neighbour's band, in the receive buffer's row numbers. -/
def arrive (A : Dev nD → Mat F .bf16) (c : Dev nD) (g : Fin 3) (k : ℕ) : Mat F .bf16 :=
  fun r x => part A g k (nbr c (ax g k)) (r - ro g k + st g (k + 1) c) x

/-- A landed transfer: in the reduce-scatter the neighbour's band and the place it came from; in the all-gather finished rows. -/
def recvPay (A : Dev nD → Mat F .bf16) (c : Dev nD) (g : Fin 3) (j : ℕ) : sProp 𝕄 :=
  if j < 3 then iprop(own c (rvM g) (ro g j) (sz g (j + 1)) fullShare (arrive A c g j)
    ∗ ownAny (nbr c (ax g j)) accM (st g (j + 1) c) (sz g (j + 1)))
  else own c accM (sst g (5 - j) c) (sz g (6 - j)) fullShare (fin A g)

omit [FloatOps F] in
instance own_storable {R : ℕ} {e : EltTy} (d : Dev nD) (M : Memref sig .tc .vmem (Sh R) e) (lo n : ℕ) (q : PosShare TreeShare) (A : Mat F e) :
    BI.Storable (upEmb : UEmb _ 𝕄) (own d M lo n q A) := by unfold own; infer_instance
omit [FloatOps F] in
instance ownAny_storable {R : ℕ} {e : EltTy} (d : Dev nD) (M : Memref sig .tc .vmem (Sh R) e) (lo n : ℕ) :
    BI.Storable (upEmb : UEmb _ 𝕄) (ownAny (F := F) d M lo n) := by unfold ownAny; infer_instance

/-! ## The schedule -/

abbrev IsBar (g : GSem nD τ sig) : Prop := g.1.2 = .tc ∧ g.2 = .reg barS
abbrev IsXfer (g : GSem nD τ sig) : Prop := g.1.2 = .tc ∧ ∃ (h : Fin 3) (j : Fin 6), g.2 = .dma (sq h j) ∨ g.2 = .dma (rq h j)

/-- The number of a transfer semaphore, and the group and transfer it belongs to. -/
def num : SemLoc sig → ℕ
  | .reg _ => 0
  | .dma q => (show Fin 39 from q).val
set_option backward.proofsInPublic true in
def grp (n : ℕ) : Fin 3 := ⟨(n - 3) / 6 % 3, Nat.mod_lt _ (by decide)⟩
def stp (n : ℕ) : ℕ := (n - 3) % 6

/-- One round. A barrier cell has a duty of one unit for each neighbour; a transfer cell one duty of the rows' credit. -/
def sched (A : Dev nD → Mat F .bf16) : Rounds.Schedule (GSem nD τ sig) (Fin 3) 𝕄 where
  duties g r := if r = 0 ∧ IsBar g then Finset.univ else if r = 0 ∧ IsXfer g then {0} else ∅
  unitless _ := False
  amount g _ _ := if g.2 = .reg barS then 1 else cr (trows (grp (num g.2)) (stp (num g.2)))
  payload g _ d :=
    if g.2 = .reg barS then barPay g.1.1 d
    else if num g.2 < 21 then sendPay A g.1.1 (grp (num g.2)) (stp (num g.2))
    else recvPay A g.1.1 (grp (num g.2)) (stp (num g.2))
  amount_pos g _ _ _ := by
    by_cases h : g.2 = .reg barS
    · rw [if_pos h]; exact Nat.one_pos
    · rw [if_neg h]; exact cr_pos (trows_pos _ (Nat.mod_lt _ (by decide)))

instance sched_payload_storable (A : Dev nD → Mat F .bf16) (g : GSem nD τ sig) (r : ℕ) (d : Fin 3) :
    BI.Storable (upEmb : UEmb _ 𝕄) ((sched A).payload g r d) := by
  show BI.Storable upEmb (if g.2 = .reg barS then barPay g.1.1 d
    else if num g.2 < 21 then sendPay A g.1.1 (grp (num g.2)) (stp (num g.2))
    else recvPay A g.1.1 (grp (num g.2)) (stp (num g.2)))
  unfold barPay barPart sendPay recvPay
  (repeat' split) <;> infer_instance

section Sched
variable (A : Dev nD → Mat F .bf16) (c : Dev nD) (g : Fin 3) {j : ℕ}

/-- A copy's semaphore is not the barrier's. -/
theorem dma_ne_bar (q : DmaSem sig) : (SemLoc.dma q : SemLoc sig) ≠ .reg barS := fun h => by cases h
/-- The number of a send's semaphore. -/
theorem num_sq (hj : j < 6) : num (.dma (sq g j)) = 3 + 6 * g.val + j := Nat.mod_eq_of_lt (by have := g.isLt; omega)
/-- The number of a receive's semaphore. -/
theorem num_rq (hj : j < 6) : num (.dma (rq g j)) = 21 + 6 * g.val + j := Nat.mod_eq_of_lt (by have := g.isLt; omega)
/-- A send's semaphore belongs to its group, -/
theorem grp_sq (hj : j < 6) : grp (num (.dma (sq g j))) = g := by
  rw [num_sq g hj]; apply Fin.ext; show (3 + 6 * g.val + j - 3) / 6 % 3 = g.val; have := g.isLt; omega
/-- and to its transfer. -/
theorem stp_sq (hj : j < 6) : stp (num (.dma (sq g j))) = j := by
  rw [num_sq g hj]; show (3 + 6 * g.val + j - 3) % 6 = j; omega
/-- A receive's semaphore belongs to its group, -/
theorem grp_rq (hj : j < 6) : grp (num (.dma (rq g j))) = g := by
  rw [num_rq g hj]; apply Fin.ext; show (21 + 6 * g.val + j - 3) / 6 % 3 = g.val; have := g.isLt; omega
/-- and to its transfer. -/
theorem stp_rq (hj : j < 6) : stp (num (.dma (rq g j))) = j := by
  rw [num_rq g hj]; show (21 + 6 * g.val + j - 3) % 6 = j; omega

omit [FloatOps F] in
/-- A barrier cell has a duty for each neighbour. -/
theorem duties_bar [FloatOps F] : (sched A).duties (barCell c) 0 = Finset.univ := by dsimp only [sched]; exact if_pos ⟨rfl, rfl, rfl⟩
/-- A send cell has one duty. -/
theorem duties_send (hj : j < 6) : (sched A).duties (scell c g j) 0 = {0} := by
  dsimp only [sched]; rw [if_neg (fun h => dma_ne_bar _ h.2.2)]; exact if_pos ⟨rfl, rfl, g, ⟨j, hj⟩, .inl rfl⟩
/-- A receive cell has one duty. -/
theorem duties_recv (hj : j < 6) : (sched A).duties (rcell c g j) 0 = {0} := by
  dsimp only [sched]; rw [if_neg (fun h => dma_ne_bar _ h.2.2)]; exact if_pos ⟨rfl, rfl, g, ⟨j, hj⟩, .inr rfl⟩
/-- No cell has a second round. -/
theorem duties_later (e : GSem nD τ sig) : ∀ r, 1 ≤ r → (sched A).duties e r = ∅ :=
  fun r hr => by dsimp only [sched]; rw [if_neg fun h => by omega, if_neg fun h => by omega]

/-- A barrier signal is one unit. -/
theorem amount_bar (d : Fin 3) : (sched A).amount (barCell c) 0 d = 1 := by dsimp only [sched]; exact if_pos rfl
/-- A send cell is paid the credit of the rows sent. -/
theorem amount_send (hj : j < 6) (d : Fin 3) : (sched A).amount (scell c g j) 0 d = cr (trows g j) := by
  dsimp only [sched]; rw [if_neg (dma_ne_bar _), grp_sq g hj, stp_sq g hj]
/-- A receive cell is paid the credit of the rows received. -/
theorem amount_recv (hj : j < 6) (d : Fin 3) : (sched A).amount (rcell c g j) 0 d = cr (trows g j) := by
  dsimp only [sched]; rw [if_neg (dma_ne_bar _), grp_rq g hj, stp_rq g hj]

/-- A barrier cell expects three units. -/
theorem expect_bar : (sched A).expect (barCell c) 0 = 3 := by
  unfold Schedule.expect Schedule.amountOf
  rw [duties_bar, Finset.sum_congr rfl fun d _ => amount_bar A c d]; rfl
/-- A send cell expects one transfer's credit. -/
theorem expect_send (hj : j < 6) : (sched A).expect (scell c g j) 0 = cr (trows g j) := by
  unfold Schedule.expect Schedule.amountOf; rw [duties_send A c g hj, Finset.sum_singleton, amount_send A c g hj]
/-- A receive cell expects one transfer's credit. -/
theorem expect_recv (hj : j < 6) : (sched A).expect (rcell c g j) 0 = cr (trows g j) := by
  unfold Schedule.expect Schedule.amountOf; rw [duties_recv A c g hj, Finset.sum_singleton, amount_recv A c g hj]

/-- A barrier signal hands over the signaller's receive windows. -/
theorem payload_bar (d : Fin 3) : (sched A).payload (barCell c) 0 d = barPay c d := by dsimp only [sched]; rw [if_pos rfl]
/-- A send cell hands back what the send was lent. -/
theorem payload_send (hj : j < 6) (d : Fin 3) : (sched A).payload (scell c g j) 0 d = sendPay A c g j := by
  dsimp only [sched]; rw [if_neg (dma_ne_bar _), grp_sq g hj, stp_sq g hj, if_pos (by rw [num_sq g hj]; have := g.isLt; omega)]
/-- A receive cell hands over what has landed. -/
theorem payload_recv (hj : j < 6) (d : Fin 3) : (sched A).payload (rcell c g j) 0 d = recvPay A c g j := by
  dsimp only [sched]; rw [if_neg (dma_ne_bar _), grp_rq g hj, stp_rq g hj, if_neg (by rw [num_rq g hj]; omega)]

/-- A round's payloads, no duty taken yet. -/
theorem rest_bar : bigSep ((sched A).duties (barCell c) 0 \ ∅) (fun d => (sched A).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
/-- All that a send cell hands over is its one payload. -/
theorem rest_send (hj : j < 6) : bigSep ((sched A).duties (scell c g j) 0 \ ∅) (fun d => (sched A).payload (scell c g j) 0 d) = sendPay A c g j := by
  rw [Finset.sdiff_empty, duties_send A c g hj, bigSep_singleton, payload_send A c g hj]
/-- All that a receive cell hands over is its one payload. -/
theorem rest_recv (hj : j < 6) : bigSep ((sched A).duties (rcell c g j) 0 \ ∅) (fun d => (sched A).payload (rcell c g j) 0 d) = recvPay A c g j := by
  rw [Finset.sdiff_empty, duties_recv A c g hj, bigSep_singleton, payload_recv A c g hj]

end Sched

/-! ## What a device owes, and the order of the cells -/

set_option backward.proofsInPublic true in
/-- The group and transfer of the `t`-th send, three barrier signals before it. -/
def dg (t : ℕ) : Fin 3 := ⟨t % 3, Nat.mod_lt _ (by decide)⟩
def dj (t : ℕ) : ℕ := (t - 3) / 3

/-- The `t`-th payment of device `c`: the cell and the amount. -/
def dueCell (c : Dev nD) (t : ℕ) : GSem nD τ sig :=
  if t < 3 then barCell (nbr c t) else rcell (nbr c (tax (dg t) (dj t))) (dg t) (dj t)
def dueAmt (t : ℕ) : ℕ := if t < 3 then 1 else cr (trows (dg t) (dj t))
def due (c : Dev nD) (t : ℕ) : CellTallies nD τ sig Unit := tallyAt (dueCell c t) () (dueAmt t)

/-- What device `c` owes with its last `n` payments to make. -/
def Ow (c : Dev nD) : ℕ → CellTallies nD τ sig Unit
  | 0 => 0
  | n + 1 => Ow c n + due c (20 - n)

def L (g : GSem nD τ sig) : Finset Unit := if g.1.2 = .tc then {()} else ∅
/-- Barrier cells at 1, receive cells of transfer `j` at `2 + j`, everything else at 0. -/
def slv (s : SemLoc sig) : ℕ := if s = .reg barS then 1 else if num s < 21 then 0 else 2 + stp (num s)
def lv (g : GSem nD τ sig) (_ : Unit) : ℕ := slv g.2

/-- Only TensorCore cells are ordered. -/
theorem L_of_ne (g : GSem nD τ sig) (h : g.1.2 ≠ .tc) : L g = ∅ := if_neg h
/-- Each of those has one place in the order. -/
theorem L_tc (c : Dev nD) (sm : SemLoc sig) : L ((c.tc : Thread nD τ), sm) = {()} := if_pos rfl

/-- What a device owes is owed at the cells of the payments still to make. -/
theorem Ow_pos {c : Dev nD} {g : GSem nD τ sig} {u : Unit} : ∀ {n : ℕ}, 0 < Ow c n g u → ∃ t, 21 - n ≤ t ∧ t < 21 ∧ g = dueCell c t
  | 0, h => absurd h (Nat.lt_irrefl 0)
  | n + 1, h => by
    unfold Ow at h
    rw [Pi.add_apply, Finsupp.add_apply] at h
    by_cases h1 : 0 < Ow c n g u
    · obtain ⟨t, ht, h2⟩ := Ow_pos h1; exact ⟨t, by omega, h2⟩
    · have h2 : 0 < due c (20 - n) g u := by omega
      unfold due at h2; rw [tallyAt_apply] at h2
      by_cases h3 : g = dueCell c (20 - n) ∧ u = ()
      · exact ⟨20 - n, by omega, by omega, h3.1⟩
      · rw [if_neg h3] at h2; exact absurd h2 (Nat.lt_irrefl 0)

/-- The level of the cell that a payment goes to. -/
theorem lv_due (c : Dev nD) {t : ℕ} (ht : t < 21) : lv (dueCell c t) () = if t < 3 then 1 else 2 + dj t := by
  unfold lv dueCell
  by_cases h : t < 3
  · rw [if_pos h, if_pos h]; exact if_pos rfl
  · have hj : dj t < 6 := by unfold dj; omega
    rw [if_neg h, if_neg h]; unfold slv
    rw [if_neg (dma_ne_bar _), if_neg (by rw [num_rq _ hj]; omega), stp_rq _ hj]

/-- A device may wait on a cell below all it still owes. -/
theorem mayWait (c : Dev nD) (sm : SemLoc sig) (n : ℕ) (h : ∀ t, 21 - n ≤ t → t < 21 → slv sm < if t < 3 then 1 else 2 + dj t) :
    (levAts L lv : sProp 𝕄) ⊢ MayWait (c.tc : Thread nD τ) sm () (Ow c n) :=
  MayOwe.of_cut (L := L) (lev := lv) (slv sm) (fun p hp => by rw [Finset.mem_singleton.mp hp, L_tc]; exact Finset.mem_singleton_self _)
    (fun g u hg => by
      obtain ⟨t, -, -, rfl⟩ := Ow_pos hg
      unfold dueCell; split <;> exact Finset.mem_singleton_self _)
    (fun p hp => by rw [Finset.mem_singleton.mp hp]; exact le_refl _)
    (fun g u hg => by
      obtain ⟨t, h1, h2, rfl⟩ := Ow_pos hg
      have := h t h1 h2; rw [← lv_due c h2] at this; exact this)

/-! ## The records every device reads -/

set_option backward.proofsInPublic true in
/-- The thirty-seven cells of a device: its barrier, then its transfer semaphores. -/
abbrev csem (i : Fin 37) : SemLoc sig := if i.val = 0 then .reg barS else .dma (⟨i.val + 2, by have := i.isLt; omega⟩ : Fin 39)
abbrev kcell (ck : Dev nD × Fin 37) : GSem nD τ sig := ((ck.1.tc : Thread nD τ), csem ck.2)
set_option backward.proofsInPublic true in
def si (g : Fin 3) (j : ℕ) : Fin 37 := ⟨(1 + 6 * g.val + j) % 37, Nat.mod_lt _ (by decide)⟩
set_option backward.proofsInPublic true in
def ri (g : Fin 3) (j : ℕ) : Fin 37 := ⟨(19 + 6 * g.val + j) % 37, Nat.mod_lt _ (by decide)⟩

/-- A device's first cell is its barrier's, -/
theorem kcell_bar (c : Dev nD) : kcell (c, 0) = barCell c := rfl
/-- then come its sends', -/
theorem kcell_send (c : Dev nD) (g : Fin 3) {j : ℕ} (hj : j < 6) : kcell (c, si g j) = scell c g j := by
  have := g.isLt
  have hv : (si g j).val = 1 + 6 * g.val + j := Nat.mod_eq_of_lt (by omega)
  unfold kcell csem scell
  rw [if_neg (by rw [hv]; omega)]
  congr 2; apply Fin.ext; show (si g j).val + 2 = (3 + 6 * g.val + j) % 39; rw [hv]; omega
/-- then its receives'. -/
theorem kcell_recv (c : Dev nD) (g : Fin 3) {j : ℕ} (hj : j < 6) : kcell (c, ri g j) = rcell c g j := by
  have := g.isLt
  have hv : (ri g j).val = 19 + 6 * g.val + j := Nat.mod_eq_of_lt (by omega)
  unfold kcell csem rcell
  rw [if_neg (by rw [hv]; omega)]
  congr 2; apply Fin.ext; show (ri g j).val + 2 = (21 + 6 * g.val + j) % 39; rw [hv]; omega

/-- Every cell's invariant, under the names `K`; that every cell has reached its round; the cells' order. -/
def env (A : Dev nD → Mat F .bf16) (K : Dev nD × Fin 37 → ℕ) : sProp 𝕄 :=
  iprop(bigSep Finset.univ (fun ck : Dev nD × Fin 37 => cellInv ER (sched A) (K ck) (kcell ck))
    ∗ bigSep Finset.univ (fun ck : Dev nD × Fin 37 => reached ER (kcell ck) 0) ∗ levAts L lv)

instance env_persistent (A : Dev nD → Mat F .bf16) (K : Dev nD × Fin 37 → ℕ) : BI.Persistent (env A K : sProp 𝕄) := by unfold env; infer_instance

section Env
variable (A : Dev nD → Mat F .bf16) (K : Dev nD × Fin 37 → ℕ) (c : Dev nD) (g : Fin 3) {j : ℕ}

/-- The shared facts give any cell's invariant, -/
theorem env_inv (ck : Dev nD × Fin 37) : env A K ⊢ (cellInv ER (sched A) (K ck) (kcell ck) : sProp 𝕄) := by
  unfold env; iintro ⟨#H, -, -⟩
  iapply (show bigSep Finset.univ (fun ck : Dev nD × Fin 37 => (cellInv ER (sched A) (K ck) (kcell ck) : sProp 𝕄)) ⊢ cellInv ER (sched A) (K ck) (kcell ck)
    from bigSep_elim (Finset.mem_univ ck))
  iexact H
/-- that any cell has reached its round, -/
theorem env_reached (ck : Dev nD × Fin 37) : env A K ⊢ (reached ER (kcell ck) 0 : sProp 𝕄) := by
  unfold env; iintro ⟨-, #H, -⟩
  iapply (show bigSep Finset.univ (fun ck : Dev nD × Fin 37 => (reached ER (kcell ck) 0 : sProp 𝕄)) ⊢ reached ER (kcell ck) 0
    from bigSep_elim (Finset.mem_univ ck))
  iexact H
/-- and the order of the cells. -/
theorem env_lev : env A K ⊢ (levAts L lv : sProp 𝕄) := by unfold env; iintro ⟨-, -, #H⟩; iexact H

/-- What a barrier signal or wait needs of them. -/
theorem env_bar : env A K ⊢ (iprop(cellInv ER (sched A) (K (c, 0)) (barCell c) ∗ reached ER (barCell c) 0) : sProp 𝕄) := by
  iintro #H; isplitr
  · iapply (env_inv A K (c, 0)); iexact H
  · iapply (env_reached A K (c, 0)); iexact H
/-- What a send's semaphore needs of them. -/
theorem env_send (hj : j < 6) : env A K ⊢ (iprop(cellInv ER (sched A) (K (c, si g j)) (scell c g j) ∗ reached ER (scell c g j) 0) : sProp 𝕄) := by
  rw [← kcell_send c g hj]
  iintro #H; isplitr
  · iapply (env_inv A K (c, si g j)); iexact H
  · iapply (env_reached A K (c, si g j)); iexact H
/-- What a receive's semaphore needs of them. -/
theorem env_recv (hj : j < 6) : env A K ⊢ (iprop(cellInv ER (sched A) (K (c, ri g j)) (rcell c g j) ∗ reached ER (rcell c g j) 0) : sProp 𝕄) := by
  rw [← kcell_recv c g hj]
  iintro #H; isplitr
  · iapply (env_inv A K (c, ri g j)); iexact H
  · iapply (env_reached A K (c, ri g j)); iexact H
end Env

end Cert.Hypercube
-- ==== Proof.Steps.lean ====
/-
What one effect of the communication does to a device's holdings: a signal, a send, a wait.
-/
module

public import proofs.«01_k».proof.Proof.Protocol

@[expose] public section

noncomputable section

namespace Cert.Hypercube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Programs with a known result, and framing -/

/-- On device `c` the program `p` takes `P` to `P'` and returns `a`. -/
abbrev Does {α : Type} (c : Dev nD) (P : sProp 𝕄) (p : Prog (TpuEff nD τ sig (Elt F) Λ₀ .tc) α) (a : α) (P' : sProp 𝕄) : Prop :=
  P ⊢ wp frame (wpE (defs₀ (F := F)) 𝒱₀ (c.tc : Thread nD τ) none) Set.univ p (fun v => iprop(⌜v = a⌝ ∗ P'))

/-- A stronger start and a weaker end. -/
theorem Does.mono {α : Type} {c : Dev nD} {P P' P₁ P₁' : sProp 𝕄} {p : Prog (TpuEff nD τ sig (Elt F) Λ₀ .tc) α} {a : α}
    (h : Does c P p a P') (h1 : P₁ ⊢ P) (h2 : P' ⊢ P₁') : Does c P₁ p a P₁' := by
  exact h1.trans (h.trans (wp_mono _ _ _ fun v => sep_mono_right h2))

/-- What an effect does not touch stays. -/
theorem Does.frame {α : Type} {c : Dev nD} {P P' R : sProp 𝕄} {p : Prog (TpuEff nD τ sig (Elt F) Λ₀ .tc) α} {a : α}
    (h : Does c P p a P') : Does c iprop(P ∗ R) p a iprop(P' ∗ R) := by
  refine (sep_mono_left h).trans ((wp_frame_r _ _ _).trans (wp_mono _ _ _ fun v => ?_))
  iintro ⟨⟨%hv, H⟩, HR⟩
  isplitr; · (ipureintro; exact hv)
  isplitl [H] <;> iassumption

/-- A step leaves what it does not mention, on the left. -/
theorem Does.frame_l {α : Type} {c : Dev nD} {P P' R : sProp 𝕄} {p : Prog (TpuEff nD τ sig (Elt F) Λ₀ .tc) α} {a : α}
    (h : Does c P p a P') : Does c iprop(R ∗ P) p a iprop(R ∗ P') := by
  refine (sep_mono_right h).trans ((wp_frame_l _ _ _).trans (wp_mono _ _ _ fun v => ?_))
  iintro ⟨HR, %hv, H⟩
  isplitr; · (ipureintro; exact hv)
  isplitl [HR] <;> iassumption

/-! ## Windows of a buffer -/

section Window
variable {R : ℕ} {e : EltTy} (d : Dev nD) (M : Memref sig .tc .vmem (Sh R) e) {a n : ℕ} {q : PosShare TreeShare} {A : Mat F e}
  (inb : ∀ x, (![a, 0] : Fin 2 → ℕ) x + (Sh n).size x ≤ (Sh R).size x)

abbrev win : Memref sig .tc .vmem (Sh n) e := M.slice (Rect.unit (s := Sh R) ![a, 0] (Sh n).size inb) (fun _ => rfl)

omit [FloatOps F] in
/-- A window of rows covers just those rows of its buffer. -/
theorem win_set : (win M inb).view.set = M.view.setOn (rows R a n) := by
  show (M.view.slice (Rect.unit (s := Sh R) ![a, 0] (Sh n).size inb)).set = _
  rw [View.set_slice, unit_set]; rfl

omit [FloatOps F] in
/-- A held band is its window's elements, read as the band. -/
theorem own_window : own d M a n q A ⊢ (iprop(∃ f : Buf (Elt F) ((win M inb).view.loc (d.tc : Thread nD τ)),
    ⌜(win M inb).view.read (Elt F) f = band n A a⌝ ∗ ((win M inb).view.loc (d.tc : Thread nD τ) ↦[(win M inb).view.set]{q} f)) : sProp 𝕄) := by
  rw [win_set]; unfold own
  iintro ⟨%f, %hf, H⟩
  iexists f
  isplitr; · (ipureintro; exact read_band d M hf inb (le_refl _) (le_refl _))
  iexact H

omit [FloatOps F] in
/-- A window read as a band is ownership of its rows with the band's entries. -/
theorem window_own {f : Buf (Elt F) ((win M inb).view.loc (d.tc : Thread nD τ))} (hf : (win M inb).view.read (Elt F) f = band n A a) :
    ((win M inb).view.loc (d.tc : Thread nD τ) ↦[(win M inb).view.set]{q} f) ⊢ (own d M a n q A : sProp 𝕄) := by
  rw [win_set]; unfold own
  iintro H
  iexists (f : Buf (Elt F) (M.view.loc (d.tc : Thread nD τ)))
  isplitr; swap; · iexact H
  ipureintro; intro i hi
  rw [← unit_set inb] at hi
  obtain ⟨x, rfl⟩ : ∃ x, (Rect.unit (s := Sh R) ![a, 0] (Sh n).size inb).emb x = i := by
    rw [← Rect.map_emb_univ] at hi; obtain ⟨x, -, hx⟩ := Finset.mem_map.1 hi; exact ⟨x, hx⟩
  have := congrFun hf x
  refine (show M.view.read (Elt F) f ((Rect.unit (s := Sh R) ![a, 0] (Sh n).size inb).emb x) = band n A a x from this).trans ?_
  obtain ⟨e0, e1⟩ := unit_emb inb x
  unfold band
  rw [e0]; congr 1; exact (Fin.ext e1).symm
end Window

/-! ## What a device owes, with the records -/

section Steps
variable (A : Dev nD → Mat F .bf16) (K : Dev nD × Fin 37 → ℕ) (c : Dev nD)

/-- Device `c` with its last `n` payments to make. -/
def owesW (n : ℕ) : sProp 𝕄 := iprop((∃ W, owes (c.tc : Thread nD τ) (Ow c n) W) ∗ env A K)

/-- The next payment splits off what is owed. -/
theorem Ow_succ {n t : ℕ} (h : n + t = 20) : Ow c (n + 1) = Ow c n + tallyAt (dueCell c t) () (dueAmt t) := by
  show Ow c n + due c (20 - n) = _; rw [show 20 - n = t by omega]; rfl

/-- The signal to the neighbour along axis `a` hands over this device's receive buffers' windows for it. -/
theorem signal (a : Fin 3) {n : ℕ} (hn : n + a.val = 20) {p : Dev nD} (hp : p = nbr c a) :
    Does c iprop((barPay (nbr c a) a ∗ dutyTok ER (barCell (nbr c a)) 0 a) ∗ owesW A K c (n + 1)) (semSignalWord p barS 1#32) ⟨⟩
      (owesW A K c n) := by
  subst hp
  unfold owesW
  iintro ⟨⟨HP, Ht⟩, ⟨%W, HO⟩, #He⟩
  ihave #Hb := (env_bar A K (nbr c a)) $$ He
  icases Hb with ⟨#HI, #Hr⟩
  unfold semSignalWord
  iapply (Rounds.wp_signal 𝒱₀ ER (sched A) (c.tc : Thread nD τ) none (dst := (((nbr c a).tc : Thread nD τ))) (κ := K (nbr c a, 0))
      (d := a) (by rw [duties_bar]; exact Finset.mem_univ _) ((amount_bar A (nbr c a) a).trans (by decide)) () (O₀ := Ow c (n + 1)) (Ow c n)
      (by rw [Ow_succ c hn]; unfold dueCell dueAmt; rw [if_pos a.isLt, if_pos a.isLt]; rfl)) $$ [HO Ht HP]
  · isplitr; · iexact HI
    isplitl [HO]; · iexact HO
    isplitl [Ht]; · iexact Ht
    isplitl [HP]; · rw [payload_bar]; iexact HP
    iexact Hr
  iintro HO
  rw [wp_ret]; imodintro
  isplitr; · (ipureintro; rfl)
  isplitl [HO]; · (iexists W; iexact HO)
  iexact He

/-- The wait for the three neighbours' signals. -/
theorem bar_wait :
    Does c iprop((cred (tallyAt (barCell c) () 3) ∗ atPos ER (barCell c) 0 ∅ 0) ∗ owesW A K c 18) (semWaitWord barS 3#32) ⟨⟩
      iprop((barPay c 0 ∗ barPay c 1 ∗ barPay c 2 ∗ semVal (barCell c) 0) ∗ owesW A K c 18) := by
  unfold owesW
  iintro ⟨⟨HC, Ha⟩, ⟨%W, HO⟩, #He⟩
  ihave #Hb := (env_bar A K c) $$ He
  icases Hb with ⟨#HI, -⟩
  ihave #Hl := (env_lev A K) $$ He
  unfold semWaitWord
  iapply (Rounds.wp_wait_rest_token 𝒱₀ ER (sched A) (c.tc : Thread nD τ) none (κ := K (c, 0))
      (wpE_semWait_eq 𝒱₀ (c.tc : Thread nD τ) none Set.univ) (Set.mem_univ _) () (O := Ow c 18) (W := W) (R := 0) (m := 0) (T := ∅)
      (by rw [expect_bar]; decide)) $$ [HC HO Ha]
  · isplitr; · iexact HI
    isplitl [HC]; · iexact HC
    isplitl [HO]; · iexact HO
    isplitr
    · iapply (mayWait c (.reg barS) 18 (fun t h1 h2 => by
        rw [if_neg (by omega)]; show (if (SemLoc.reg barS : SemLoc sig) = .reg barS then 1 else _) < _; rw [if_pos rfl]; omega))
      iexact Hl
    iexact Ha
  iintro ⟨HO, Ha, -, Hp⟩
  ihave Hp := (Entails.of_eq (rest_bar A c)) $$ Hp
  icases Hp with ⟨H0, H1, H2⟩
  imod (Rounds.cell_close ER (sched A) (Set.mem_univ (K (c, 0))) (fun h => h) (R := 0 + 1) (duties_later A (barCell c))) $$ [Ha] with HzB
  · isplitr; · iexact HI
    iexact Ha
  rw [wp_ret]; imodintro
  isplitr; · (ipureintro; rfl)
  isplitl [H0 H1 H2 HzB]
  · isplitl [H0]; · iexact H0
    isplitl [H1]; · iexact H1
    isplitl [H2] <;> iassumption
  isplitl [HO]; · (iexists _; iexact HO)
  iexact He

section Wait
variable (g : Fin 3) {j : ℕ} (hj : j < 6) {n : ℕ} {s s' : Shape} {sp sp' : Space} {e e' : EltTy}
  {srcw : Memref sig .tc sp s e} {dstw : Memref sig .tc sp' s' e'} {h1 : srcw.view.WordExact} {h2 : dstw.view.WordExact} {q : DmaSem sig}
include hj

/-- The wait for one of the device's own sends. -/
theorem wait_send (hq : q = sq g j) (hN : dstw.view.dmaCredit = cr (trows g j)) (hn : n ≤ 18) :
    Does c iprop((cred (tallyAt (scell c g j) () (cr (trows g j))) ∗ atPos ER (scell c g j) 0 ∅ 0) ∗ owesW A K c n)
      (Prog.lift (.waitDma2 q srcw dstw h1 h2)) ⟨⟩ iprop((sendPay A c g j ∗ semVal (scell c g j) 0) ∗ owesW A K c n) := by
  subst hq
  unfold owesW
  iintro ⟨⟨HC, Ha⟩, ⟨%W, HO⟩, #He⟩
  ihave #Hb := (env_send A K c g hj) $$ He
  icases Hb with ⟨#HI, -⟩
  ihave #Hl := (env_lev A K) $$ He
  unfold Prog.lift
  iapply (Rounds.wp_wait_rest_token 𝒱₀ ER (sched A) (c.tc : Thread nD τ) none (κ := K (c, si g j))
      (wpE_waitDma2_eq 𝒱₀ (c.tc : Thread nD τ) none Set.univ) (Set.mem_univ _) () (O := Ow c n) (W := W) (R := 0) (m := 0) (T := ∅)
      (by rw [Nat.zero_add, expect_send A c g hj]; exact hN)) $$ [HC HO Ha]
  · isplitr; · iexact HI
    isplitl [HC]; · rw [hN]; iexact HC
    isplitl [HO]; · iexact HO
    isplitr
    · iapply (mayWait c (.dma (sq g j)) n (fun t h1 h2 => by
        rw [if_neg (by omega)]; unfold slv
        rw [if_neg (dma_ne_bar _), if_pos (by rw [num_sq g hj]; have := g.isLt; omega)]; omega))
      iexact Hl
    iexact Ha
  iintro ⟨HO, Ha, -, Hp⟩
  ihave Hp := (Entails.of_eq (rest_send A c g hj)) $$ Hp
  imod (Rounds.cell_close ER (sched A) (Set.mem_univ (K (c, si g j))) (fun h => h) (R := 0 + 1) (duties_later A (scell c g j))) $$ [Ha] with Hz
  · isplitr; · iexact HI
    iexact Ha
  rw [wp_ret]; imodintro
  isplitr; · (ipureintro; rfl)
  isplitl [Hp Hz]
  · isplitl [Hp] <;> iassumption
  isplitl [HO]; · (iexists _; iexact HO)
  iexact He

/-- The wait for what a neighbour sends, when only later transfers are still owed. -/
theorem wait_recv (hq : q = rq g j) (hN : dstw.view.dmaCredit = cr (trows g j)) (hn : n + 3 * j ≤ 15) :
    Does c iprop((cred (tallyAt (rcell c g j) () (cr (trows g j))) ∗ atPos ER (rcell c g j) 0 ∅ 0) ∗ owesW A K c n)
      (Prog.lift (.waitDma2 q srcw dstw h1 h2)) ⟨⟩ iprop((recvPay A c g j ∗ semVal (rcell c g j) 0) ∗ owesW A K c n) := by
  subst hq
  unfold owesW
  iintro ⟨⟨HC, Ha⟩, ⟨%W, HO⟩, #He⟩
  ihave #Hb := (env_recv A K c g hj) $$ He
  icases Hb with ⟨#HI, -⟩
  ihave #Hl := (env_lev A K) $$ He
  unfold Prog.lift
  iapply (Rounds.wp_wait_rest_token 𝒱₀ ER (sched A) (c.tc : Thread nD τ) none (κ := K (c, ri g j))
      (wpE_waitDma2_eq 𝒱₀ (c.tc : Thread nD τ) none Set.univ) (Set.mem_univ _) () (O := Ow c n) (W := W) (R := 0) (m := 0) (T := ∅)
      (by rw [Nat.zero_add, expect_recv A c g hj]; exact hN)) $$ [HC HO Ha]
  · isplitr; · iexact HI
    isplitl [HC]; · rw [hN]; iexact HC
    isplitl [HO]; · iexact HO
    isplitr
    · iapply (mayWait c (.dma (rq g j)) n (fun t h1 h2 => by
        rw [if_neg (by omega)]; unfold slv
        rw [if_neg (dma_ne_bar _), if_neg (by rw [num_rq g hj]; omega), stp_rq g hj]; unfold dj; omega))
      iexact Hl
    iexact Ha
  iintro ⟨HO, Ha, -, Hp⟩
  ihave Hp := (Entails.of_eq (rest_recv A c g hj)) $$ Hp
  imod (Rounds.cell_close ER (sched A) (Set.mem_univ (K (c, ri g j))) (fun h => h) (R := 0 + 1) (duties_later A (rcell c g j))) $$ [Ha] with Hz
  · isplitr; · iexact HI
    iexact Ha
  rw [wp_ret]; imodintro
  isplitr; · (ipureintro; rfl)
  isplitl [Hp Hz]
  · isplitl [Hp] <;> iassumption
  isplitl [HO]; · (iexists _; iexact HO)
  iexact He
end Wait

section Send
variable (g : Fin 3) {k : ℕ} (hk : k < 3) {n nr : ℕ} {off offd : Fin 2 → ℕ} {p : Dev nD} {sS rS : DmaSem sig}

/-- The payment of a send is the credit of its rows at the neighbour's receive cell. -/
theorem due_send {j n : ℕ} (hj : j < 6) (hn : n + (3 + 3 * j + g.val) = 20) :
    Ow c (n + 1) = Ow c n + tallyAt (rcell (nbr c (tax g j)) g j) () (cr (trows g j)) := by
  rw [Ow_succ c hn]
  have hg : dg (3 + 3 * j + g.val) = g := by apply Fin.ext; show (3 + 3 * j + g.val) % 3 = g.val; have := g.isLt; omega
  have hd : dj (3 + 3 * j + g.val) = j := by unfold dj; have := g.isLt; omega
  unfold dueCell dueAmt
  rw [if_neg (by omega), if_neg (by omega), hg, hd]

include hk

/-- A reduce-scatter send: the band this device gives up, into the neighbour's receive buffer. -/
theorem rs_send (hn : n + (3 + 3 * k + g.val) = 20) (ho : off = ![sst g k c, 0]) (hod : offd = ![ro g k, 0]) (hr : nr = sz g (k + 1))
    (hp : p = nbr c (tax g k)) (hs : sS = sq g k) (hs' : rS = rq g k)
    {inb : ∀ x, off x + (Sh nr).size x ≤ (Sh 2048).size x} {inbd : ∀ x, offd x + (Sh nr).size x ≤ (Sh (rvR g)).size x}
    {hsc} {hw} {hw'} {hty} :
    Does c iprop((own c accM (sst g k c) (sz g (k + 1)) fullShare (part A g k c) ∗ ownAny (nbr c (ax g k)) (rvM g) (ro g k) (sz g (k + 1))
        ∗ dutyTok ER (scell c g k) 0 0 ∗ dutyTok ER (rcell (nbr c (tax g k)) g k) 0 0) ∗ owesW A K c (n + 1))
      (Prog.lift (.enqueueDma (accM.slice (Rect.unit (s := Sh 2048) off (Sh nr).size inb) (fun _ => rfl))
        (.remote (Dev.tc p) ((rvM g).slice (Rect.unit (s := Sh (rvR g)) offd (Sh nr).size inbd) (fun _ => rfl)) (.dma sS) hsc) (.dma rS) hw hw' hty)) ⟨⟩
      iprop(cred (tallyAt (scell c g k) () (cr (trows g k))) ∗ owesW A K c n) := by
  subst ho; subst hod; subst hr; subst hs; subst hs'
  have hj : k < 6 := by omega
  have htr : trows g k = sz g (k + 1) := if_pos hk
  have htx : tax g k = ax g k := if_pos hk
  have hpp : nbr (nbr c (ax g k)) (ax g k) = c := nbr_ax c g k
  have hpk : st g (k + 1) (nbr c (ax g k)) = sst g k c := st_nbr g hk c
  unfold owesW ownAny
  rw [due_send c g hj hn, htr, htx]
  rw [htx] at hp; subst hp
  iintro ⟨⟨Hs, ⟨%B, Hd⟩, Ht, Ht'⟩, ⟨%W, HO⟩, #He⟩
  ihave #Hb := (env_send A K c g hj) $$ He
  icases Hb with ⟨#HI, #HR⟩
  ihave #Hb' := (env_recv A K (nbr c (ax g k)) g hj) $$ He
  icases Hb' with ⟨#HI', #HR'⟩
  ihave Hs := (own_window c accM inb) $$ Hs
  icases Hs with ⟨%fs, %hfs, Hs⟩
  ihave Hd := (own_window (nbr c (ax g k)) (rvM g) inbd) $$ Hd
  icases Hd with ⟨%fd, %hfd, Hd⟩
  unfold Prog.lift
  iapply (Rounds.wp_send_landing_pointsTo 𝒱₀ ER (sched A) (c.tc : Thread nD τ) none (κ₁ := K (c, si g k)) (κ₂ := K (nbr c (ax g k), ri g k))
      (r₁ := 0) (r₂ := 0) (d₁ := 0) (d₂ := 0) (fd := fd) (by rw [duties_send A c g hj]; exact Finset.mem_singleton_self _)
      (by rw [duties_recv A _ g hj]; exact Finset.mem_singleton_self _) () () (cr (sz g (k + 1)))
      (by fin_cases g <;> rfl) ((amount_send A c g hj 0).trans (by rw [htr])) ((amount_recv A _ g hj 0).trans (by rw [htr])) (Ow c n) rfl
      (by rw [payload_send A c g hj]; unfold sendPay; rw [if_pos hk])
      (by
        rw [payload_recv A _ g hj]; unfold recvPay; rw [if_pos hk, hpp, hpk]
        refine BI.sep_mono ?_ ((window_own c accM inb hfs).trans (own_any _ _ _ _ _))
        refine window_own (nbr c (ax g k)) (rvM g) inbd ?_
        rw [View.read_write_univ, hfs]
        funext i
        unfold band arrive
        rw [hpp, hpk]; congr 1; omega)) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact HR
    isplitl [Ht']; · iexact Ht'
    iexact HR'
  iintro ⟨HC, HO⟩
  rw [wp_ret]; imodintro
  isplitr; · (ipureintro; rfl)
  isplitl [HC]; · iexact HC
  isplitl [HO]; · (iexists _; iexact HO)
  iexact He

/-- An all-gather send: finished rows into the same rows of the neighbour's accumulator; half of them is lent meanwhile. -/
theorem ag_send (hn : n + (3 + 3 * (5 - k) + g.val) = 20) (ho : off = ![st g (k + 1) c, 0]) (hod : offd = ![st g (k + 1) c, 0]) (hr : nr = sz g (k + 1))
    (hp : p = nbr c (tax g (5 - k))) (hs : sS = sq g (5 - k)) (hs' : rS = rq g (5 - k))
    {inb : ∀ x, off x + (Sh nr).size x ≤ (Sh 2048).size x} {inbd : ∀ x, offd x + (Sh nr).size x ≤ (Sh 2048).size x}
    {hsc} {hw} {hw'} {hty} :
    Does c iprop((own c accM (st g (k + 1) c) (sz g (k + 1)) fullShare (fin A g) ∗ ownAny (nbr c (ax g k)) accM (st g (k + 1) c) (sz g (k + 1))
        ∗ dutyTok ER (scell c g (5 - k)) 0 0 ∗ dutyTok ER (rcell (nbr c (tax g (5 - k))) g (5 - k)) 0 0) ∗ owesW A K c (n + 1))
      (Prog.lift (.enqueueDma (accM.slice (Rect.unit (s := Sh 2048) off (Sh nr).size inb) (fun _ => rfl))
        (.remote (Dev.tc p) (accM.slice (Rect.unit (s := Sh 2048) offd (Sh nr).size inbd) (fun _ => rfl)) (.dma sS) hsc) (.dma rS) hw hw' hty)) ⟨⟩
      iprop((cred (tallyAt (scell c g (5 - k)) () (cr (trows g (5 - k)))) ∗ own c accM (st g (k + 1) c) (sz g (k + 1)) fullShare.right (fin A g))
        ∗ owesW A K c n) := by
  subst ho; subst hod; subst hr; subst hs; subst hs'
  have hj : 5 - k < 6 := by omega
  have hj3 : ¬ 5 - k < 3 := by omega
  have htr : trows g (5 - k) = sz g (k + 1) := by unfold trows; rw [if_neg hj3]; congr 1; omega
  have htx : tax g (5 - k) = ax g k := by unfold tax; rw [if_neg hj3]; congr 1; omega
  have hpk : sst g k (nbr c (ax g k)) = st g (k + 1) c := sst_nbr g hk c
  unfold owesW ownAny
  rw [due_send c g hj hn, htr, htx]
  rw [htx] at hp; subst hp
  iintro ⟨⟨Hs, ⟨%B, Hd⟩, Ht, Ht'⟩, ⟨%W, HO⟩, #He⟩
  ihave #Hb := (env_send A K c g hj) $$ He
  icases Hb with ⟨#HI, #HR⟩
  ihave #Hb' := (env_recv A K (nbr c (ax g k)) g hj) $$ He
  icases Hb' with ⟨#HI', #HR'⟩
  ihave Hs := (own_halves c accM (st g (k + 1) c) (sz g (k + 1)) (fin A g)) $$ Hs
  icases Hs with ⟨Hs, HsR⟩
  ihave Hs := (own_window c accM inb) $$ Hs
  icases Hs with ⟨%fs, %hfs, Hs⟩
  ihave Hd := (own_window (nbr c (ax g k)) accM inbd) $$ Hd
  icases Hd with ⟨%fd, %hfd, Hd⟩
  unfold Prog.lift
  iapply (Rounds.wp_send_pointsTo 𝒱₀ ER (sched A) (c.tc : Thread nD τ) none (κ₁ := K (c, si g (5 - k))) (κ₂ := K (nbr c (ax g k), ri g (5 - k)))
      (r₁ := 0) (r₂ := 0) (d₁ := 0) (d₂ := 0) (fd := fd) (by rw [duties_send A c g hj]; exact Finset.mem_singleton_self _)
      (by rw [duties_recv A _ g hj]; exact Finset.mem_singleton_self _) () () (cr (sz g (k + 1)))
      rfl ((amount_send A c g hj 0).trans (by rw [htr])) ((amount_recv A _ g hj 0).trans (by rw [htr])) (Ow c n) rfl
      (by
        rw [payload_send A c g hj]; unfold sendPay; rw [if_neg hj3, show 6 - (5 - k) = k + 1 by omega]
        exact window_own c accM inb hfs)
      (by
        rw [payload_recv A _ g hj]; unfold recvPay; rw [if_neg hj3, show 6 - (5 - k) = k + 1 by omega, show 5 - (5 - k) = k by omega, hpk]
        refine window_own (nbr c (ax g k)) accM inbd ?_
        rw [View.read_write_univ, hfs])) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact HR
    isplitl [Ht']; · iexact Ht'
    iexact HR'
  iintro ⟨HC, HO⟩
  rw [wp_ret]; imodintro
  isplitr; · (ipureintro; rfl)
  isplitl [HC HsR]
  · isplitl [HC] <;> iassumption
  isplitl [HO]; · (iexists _; iexact HO)
  iexact He
end Send
end Steps

end Cert.Hypercube
-- ==== Proof.Stages.lean ====
/-
The stages a row group goes through on a device, and what each effect does to them.

Reduce-scatter round `k`: send, wait for the send, wait for the neighbour's band, add it. All-gather step with `k` rounds
left to undo: send the finished band, write the band that came last to the result, wait for the send, wait for the
neighbour's band.
-/
module

public import proofs.«01_k».proof.Proof.Steps

@[expose] public section

noncomputable section

namespace Cert.Hypercube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Stages
variable (A : Dev nD → Mat F .bf16) (c : Dev nD) (g : Fin 3)

/-! ## What is left to do and what is done -/

/-- The rights transfer `j` needs: to pay its two cells, to wait on this device's two, and the credit for its arrival. -/
def todo (j : ℕ) : sProp 𝕄 :=
  iprop((dutyTok ER (scell c g j) 0 0 ∗ dutyTok ER (rcell (nbr c (tax g j)) g j) 0 0)
    ∗ atPos ER (scell c g j) 0 ∅ 0 ∗ atPos ER (rcell c g j) 0 ∅ 0 ∗ cred (tallyAt (rcell c g j) () (cr (trows g j))))
/-- The last `n` transfers' rights. -/
def todos : ℕ → sProp 𝕄
  | 0 => iprop(emp)
  | n + 1 => iprop(todo c g (5 - n) ∗ todos n)
/-- The first `j` transfers' cells, at zero again. -/
def dones : ℕ → sProp 𝕄
  | 0 => iprop(emp)
  | j + 1 => iprop(dones j ∗ semVal (scell c g j) 0 ∗ semVal (rcell c g j) 0)
/-- The neighbour's receive window for round `k`, and those of the last `n` rounds. -/
def dst (k : ℕ) : sProp 𝕄 := ownAny (nbr c (ax g k)) (rvM g) (ro g k) (sz g (k + 1))
def dsts : ℕ → sProp 𝕄
  | 0 => iprop(emp)
  | n + 1 => iprop(dst c g (2 - n) ∗ dsts n)
/-- This device's receive windows of the first `k` rounds, used. -/
def got : ℕ → sProp 𝕄
  | 0 => iprop(emp)
  | k + 1 => iprop(got k ∗ ownAny c (rvM g) (ro g k) (sz g (k + 1)))
/-- The bands of the neighbours' accumulators they gave up in the first `k` rounds. -/
def peers : ℕ → sProp 𝕄
  | 0 => iprop(emp)
  | k + 1 => iprop(peers k ∗ ownAny (nbr c (ax g k)) accM (st g (k + 1) c) (sz g (k + 1)))

/-- The four bands of the result, in the order they are written. -/
def pst (i : ℕ) : ℕ := if i = 0 then st g 3 c else sst g (3 - i) c
def psz (i : ℕ) : ℕ := if i = 0 then sz g 3 else sz g (4 - i)
def wr : ℕ → sProp 𝕄
  | 0 => iprop(emp)
  | i + 1 => iprop(wr i ∗ own c outM (pst c g i) (psz g i) fullShare (res A g))
def un : ℕ → sProp 𝕄
  | 0 => iprop(emp)
  | n + 1 => iprop(ownAny c outM (pst c g (3 - n)) (psz g (3 - n)) ∗ un n)

/-- The rights of one more transfer, counted from the last. -/
theorem todos_succ (n : ℕ) : todos c g (n + 1) = (iprop(todo c g (5 - n) ∗ todos c g n) : sProp 𝕄) := rfl
/-- One more transfer's cells at zero. -/
theorem dones_succ (j : ℕ) : dones c g (j + 1) = (iprop(dones c g j ∗ semVal (scell c g j) 0 ∗ semVal (rcell c g j) 0) : sProp 𝕄) := rfl
/-- One more receive window used. -/
theorem got_succ (k : ℕ) : got c g (k + 1) = (iprop(got c g k ∗ ownAny c (rvM g) (ro g k) (sz g (k + 1))) : sProp 𝕄) := rfl
/-- One more band given up by a neighbour. -/
theorem peers_succ (k : ℕ) :
    peers c g (k + 1) = (iprop(peers c g k ∗ ownAny (nbr c (ax g k)) accM (st g (k + 1) c) (sz g (k + 1))) : sProp 𝕄) := rfl
/-- One more band of the result written. -/
theorem wr_succ (i : ℕ) : wr A c g (i + 1) = (iprop(wr A c g i ∗ own c outM (pst c g i) (psz g i) fullShare (res A g)) : sProp 𝕄) := rfl

/-- The rights of the next transfer come off the rest. -/
theorem todos_step {k : ℕ} (h : k < 6) : todos c g (6 - k) = (iprop(todo c g k ∗ todos c g (5 - k)) : sProp 𝕄) := by
  rw [show 6 - k = (5 - k) + 1 by omega]; show iprop(todo c g (5 - (5 - k)) ∗ _) = _; rw [show 5 - (5 - k) = k by omega]
/-- The next round's window at the neighbour comes off the rest. -/
theorem dsts_step {k : ℕ} (h : k < 3) : dsts c g (3 - k) = (iprop(dst c g k ∗ dsts c g (2 - k)) : sProp 𝕄) := by
  rw [show 3 - k = (2 - k) + 1 by omega]; show iprop(dst c g (2 - (2 - k)) ∗ _) = _; rw [show 2 - (2 - k) = k by omega]
/-- The next band of the result to write comes off the rest. -/
theorem un_step {i : ℕ} (h : i < 4) :
    un c g (4 - i) = (iprop(ownAny c outM (pst c g i) (psz g i) ∗ un c g (3 - i)) : sProp 𝕄) := by
  rw [show 4 - i = (3 - i) + 1 by omega]; show iprop(ownAny c outM (pst c g (3 - (3 - i))) (psz g (3 - (3 - i))) ∗ _) = _
  rw [show 3 - (3 - i) = i by omega]

/-! ## Halving a band and putting it together -/

/-- A round's rows are the half kept and the half given away, -/
theorem band_split {e : EltTy} (M : Memref sig .tc .vmem (Sh 2048) e) {k : ℕ} (hk : k < 3) (q : PosShare TreeShare) (X : Mat F e) :
    own c M (st g k c) (sz g k) q X
      ⊢ (iprop(own c M (st g (k + 1) c) (sz g (k + 1)) q X ∗ own c M (sst g k c) (sz g (k + 1)) q X) : sProp 𝕄) := by
  have h1 : st g (k + 1) c = st g k c + bit c (ax g k) * sz g (k + 1) := rfl
  have h2 : sst g k c = st g k c + (1 - bit c (ax g k)) * sz g (k + 1) := rfl
  rw [sz_half g hk, h1, h2]
  rcases bit_le c (ax g k) with h | h <;> rw [h]
  · rw [Nat.zero_mul, Nat.add_zero, Nat.sub_zero, Nat.one_mul]; exact own_split c M _ _ _ _ _
  · rw [Nat.one_mul, Nat.sub_self, Nat.zero_mul, Nat.add_zero]
    refine (own_split c M _ _ _ _ _).trans ?_
    iintro ⟨H1, H2⟩; isplitl [H2] <;> iassumption

/-- and the halves make up the round's rows again. -/
theorem band_join {e : EltTy} (M : Memref sig .tc .vmem (Sh 2048) e) {k : ℕ} (hk : k < 3) (q : PosShare TreeShare) (X : Mat F e) :
    (iprop(own c M (st g (k + 1) c) (sz g (k + 1)) q X ∗ own c M (sst g k c) (sz g (k + 1)) q X) : sProp 𝕄)
      ⊢ own c M (st g k c) (sz g k) q X := by
  have h1 : st g (k + 1) c = st g k c + bit c (ax g k) * sz g (k + 1) := rfl
  have h2 : sst g k c = st g k c + (1 - bit c (ax g k)) * sz g (k + 1) := rfl
  rw [sz_half g hk, h1, h2]
  rcases bit_le c (ax g k) with h | h <;> rw [h]
  · rw [Nat.zero_mul, Nat.add_zero, Nat.sub_zero, Nat.one_mul]; exact own_join c M _ _ _ _ _
  · rw [Nat.one_mul, Nat.sub_self, Nat.zero_mul, Nat.add_zero]
    iintro ⟨H1, H2⟩; iapply (own_join c M _ _ _ _ _); isplitl [H2] <;> iassumption

/-! ## The stages -/

/-- What a group holds besides the band in hand, with round `k` sent. -/
def rsRest (k : ℕ) : sProp 𝕄 := iprop(dsts c g (2 - k) ∗ todos c g (5 - k) ∗ got c g k ∗ peers c g k ∗ dones c g k ∗ un c g 4)

/-- Before round `k`; sent; the send done; the neighbour's band arrived. -/
def rs0 (k : ℕ) : sProp 𝕄 := iprop(own c accM (st g k c) (sz g k) fullShare (part A g k c)
  ∗ dsts c g (3 - k) ∗ todos c g (6 - k) ∗ got c g k ∗ peers c g k ∗ dones c g k ∗ un c g 4)
def rs1 (k : ℕ) : sProp 𝕄 := iprop((cred (tallyAt (scell c g k) () (cr (trows g k))) ∗ atPos ER (scell c g k) 0 ∅ 0)
  ∗ own c accM (st g (k + 1) c) (sz g (k + 1)) fullShare (part A g k c)
  ∗ (cred (tallyAt (rcell c g k) () (cr (trows g k))) ∗ atPos ER (rcell c g k) 0 ∅ 0) ∗ rsRest c g k)
def rs2 (k : ℕ) : sProp 𝕄 := iprop((cred (tallyAt (rcell c g k) () (cr (trows g k))) ∗ atPos ER (rcell c g k) 0 ∅ 0)
  ∗ own c accM (st g (k + 1) c) (sz g (k + 1)) fullShare (part A g k c) ∗ semVal (scell c g k) 0 ∗ rsRest c g k)
def rs3 (k : ℕ) : sProp 𝕄 := iprop(own c accM (st g (k + 1) c) (sz g (k + 1)) fullShare (part A g k c)
  ∗ own c (rvM g) (ro g k) (sz g (k + 1)) fullShare (arrive A c g k)
  ∗ ownAny (nbr c (ax g k)) accM (st g (k + 1) c) (sz g (k + 1)) ∗ semVal (scell c g k) 0 ∗ semVal (rcell c g k) 0 ∗ rsRest c g k)

/-- What a group holds in the all-gather besides the finished band, with `k` rounds left to undo. -/
def agRest (k : ℕ) : sProp 𝕄 := iprop(todos c g k ∗ got c g 3 ∗ peers c g k ∗ dones c g (5 - k))

/-- With `k` rounds left to undo; the finished band sent; the last band written to the result; the send done. -/
def ag0 (k : ℕ) : sProp 𝕄 := iprop(own c accM (st g k c) (sz g k) fullShare (fin A g)
  ∗ (todos c g k ∗ got c g 3 ∗ peers c g k ∗ dones c g (6 - k)) ∗ wr A c g (3 - k) ∗ un c g (k + 1))
def agSent (k : ℕ) : sProp 𝕄 := iprop((cred (tallyAt (scell c g (5 - k)) () (cr (trows g (5 - k)))) ∗ atPos ER (scell c g (5 - k)) 0 ∅ 0)
  ∗ own c accM (st g (k + 1) c) (sz g (k + 1)) fullShare.right (fin A g)
  ∗ (cred (tallyAt (rcell c g (5 - k)) () (cr (trows g (5 - k)))) ∗ atPos ER (rcell c g (5 - k)) 0 ∅ 0) ∗ agRest c g k)
def ag1 (k : ℕ) : sProp 𝕄 := iprop(agSent A c g k ∗ wr A c g (2 - k) ∗ un c g (k + 2))
def ag2 (k : ℕ) : sProp 𝕄 := iprop(agSent A c g k ∗ wr A c g (3 - k) ∗ un c g (k + 1))
def ag3 (k : ℕ) : sProp 𝕄 := iprop((cred (tallyAt (rcell c g (5 - k)) () (cr (trows g (5 - k)))) ∗ atPos ER (rcell c g (5 - k)) 0 ∅ 0)
  ∗ own c accM (st g (k + 1) c) (sz g (k + 1)) fullShare (fin A g) ∗ semVal (scell c g (5 - k)) 0 ∗ agRest c g k ∗ wr A c g (3 - k) ∗ un c g (k + 1))
/-- The group finished: all its rows in the accumulator and in the result. -/
def ag4 : sProp 𝕄 := iprop(own c accM (gs g) (sz g 0) fullShare (fin A g) ∗ (todos c g 0 ∗ got c g 3 ∗ peers c g 0 ∗ dones c g 6) ∗ wr A c g 4 ∗ un c g 0)

/-! ## The reduce-scatter's effects -/

variable (K : Dev nD × Fin 37 → ℕ) {k : ℕ} (hk : k < 3) {n nr : ℕ} {off offd : Fin 2 → ℕ}

section RS
include hk

/-- A reduce-scatter round's send: the half given away goes into the neighbour's window. -/
theorem rs0_send {p : Dev nD} {sS rS : DmaSem sig} (hn : n + (3 + 3 * k + g.val) = 20) (ho : off = ![sst g k c, 0]) (hod : offd = ![ro g k, 0])
    (hr : nr = sz g (k + 1)) (hp : p = nbr c (tax g k)) (hs : sS = sq g k) (hs' : rS = rq g k)
    {inb : ∀ x, off x + (Sh nr).size x ≤ (Sh 2048).size x} {inbd : ∀ x, offd x + (Sh nr).size x ≤ (Sh (rvR g)).size x} {hsc} {hw} {hw'} {hty} :
    Does c iprop(rs0 A c g k ∗ owesW A K c (n + 1))
      (Prog.lift (.enqueueDma (accM.slice (Rect.unit (s := Sh 2048) off (Sh nr).size inb) (fun _ => rfl))
        (.remote (Dev.tc p) ((rvM g).slice (Rect.unit (s := Sh (rvR g)) offd (Sh nr).size inbd) (fun _ => rfl)) (.dma sS) hsc) (.dma rS) hw hw' hty)) ⟨⟩
      iprop(rs1 A c g k ∗ owesW A K c n) := by
  refine Does.mono (Does.frame (R := iprop(own c accM (st g (k + 1) c) (sz g (k + 1)) fullShare (part A g k c)
    ∗ atPos ER (scell c g k) 0 ∅ 0 ∗ (cred (tallyAt (rcell c g k) () (cr (trows g k))) ∗ atPos ER (rcell c g k) 0 ∅ 0) ∗ rsRest c g k))
    (rs_send A K c g hk hn ho hod hr hp hs hs')) ?_ ?_
  · unfold rs0 rsRest
    rw [dsts_step c g hk, todos_step c g (show k < 6 by omega)]
    unfold todo dst
    iintro ⟨⟨Ho, ⟨Hd, Hds⟩, ⟨⟨⟨Ht, Ht'⟩, Ha, Ha', Hc⟩, Hts⟩, Hg, Hpe, Hdo, Hun⟩, HW⟩
    ihave Ho := (band_split c g accM hk fullShare (part A g k c)) $$ Ho
    icases Ho with ⟨Hk, Hs⟩
    isplitl [Hs Hd Ht Ht' HW]
    · isplitr [HW]; swap; · iexact HW
      isplitl [Hs]; · iexact Hs
      isplitl [Hd]; · iexact Hd
      isplitl [Ht] <;> iassumption
    isplitl [Hk]; · iexact Hk
    isplitl [Ha]; · iexact Ha
    isplitl [Ha' Hc]; · (isplitl [Hc] <;> iassumption)
    isplitl [Hds]; · iexact Hds
    isplitl [Hts]; · iexact Hts
    isplitl [Hg]; · iexact Hg
    isplitl [Hpe]; · iexact Hpe
    isplitl [Hdo] <;> iassumption
  · unfold rs1
    iintro ⟨⟨HC, HW⟩, Hk, Ha, HR⟩
    isplitr [HW]; swap; · iexact HW
    isplitl [HC Ha]; · (isplitl [HC] <;> iassumption)
    isplitl [Hk] <;> iassumption

section
variable {s s' : Shape} {sp sp' : Space} {e e' : EltTy}
  {srcw : Memref sig .tc sp s e} {dstw : Memref sig .tc sp' s' e'} {h1 : srcw.view.WordExact} {h2 : dstw.view.WordExact} {q : DmaSem sig}

/-- The wait for that send. -/
theorem rs1_wait (hq : q = sq g k) (hN : dstw.view.dmaCredit = cr (trows g k)) (hn : n ≤ 18) :
    Does c iprop(rs1 A c g k ∗ owesW A K c n) (Prog.lift (.waitDma2 q srcw dstw h1 h2)) ⟨⟩ iprop(rs2 A c g k ∗ owesW A K c n) := by
  refine Does.mono (Does.frame (R := iprop(own c accM (st g (k + 1) c) (sz g (k + 1)) fullShare (part A g k c)
    ∗ (cred (tallyAt (rcell c g k) () (cr (trows g k))) ∗ atPos ER (rcell c g k) 0 ∅ 0) ∗ rsRest c g k))
    (wait_send A K c g (show k < 6 by omega) hq hN hn)) ?_ ?_
  · unfold rs1
    iintro ⟨⟨HC, HR⟩, HW⟩
    isplitl [HC HW]; · (isplitl [HC] <;> iassumption)
    iexact HR
  · unfold rs2
    iintro ⟨⟨⟨-, Hz⟩, HW⟩, Ho, HC, HR⟩
    isplitr [HW]; swap; · iexact HW
    isplitl [HC]; · iexact HC
    isplitl [Ho]; · iexact Ho
    isplitl [Hz] <;> iassumption

/-- The wait for the neighbour's half, which is then in the receive window. -/
theorem rs2_wait (hq : q = rq g k) (hN : dstw.view.dmaCredit = cr (trows g k)) (hn : n + 3 * k ≤ 15) :
    Does c iprop(rs2 A c g k ∗ owesW A K c n) (Prog.lift (.waitDma2 q srcw dstw h1 h2)) ⟨⟩ iprop(rs3 A c g k ∗ owesW A K c n) := by
  refine Does.mono (Does.frame (R := iprop(own c accM (st g (k + 1) c) (sz g (k + 1)) fullShare (part A g k c)
    ∗ semVal (scell c g k) 0 ∗ rsRest c g k))
    (wait_recv A K c g (show k < 6 by omega) hq hN hn)) ?_ ?_
  · unfold rs2
    iintro ⟨⟨HC, HR⟩, HW⟩
    isplitl [HC HW]; · (isplitl [HC] <;> iassumption)
    iexact HR
  · unfold rs3 recvPay
    rw [if_pos hk]
    iintro ⟨⟨⟨⟨Hv, Hp⟩, Hz⟩, HW⟩, Ho, Hs, HR⟩
    isplitr [HW]; swap; · iexact HW
    isplitl [Ho]; · iexact Ho
    isplitl [Hv]; · iexact Hv
    isplitl [Hp]; · iexact Hp
    isplitl [Hs]; · iexact Hs
    isplitl [Hz] <;> iassumption
end

/-- The two reads of round `k`, and the sum stored. -/
theorem rs3_load (ho : off = ![st g (k + 1) c, 0]) (hr : nr = sz g (k + 1))
    {inb : ∀ x, off x + (Sh nr).size x ≤ (Sh 2048).size x} {hl} :
    Does c (rs3 A c g k) (Prog.lift (.load accM (Rect.unit (s := Sh 2048) off (Sh nr).size inb).toLoadRect hl))
      (band nr (part A g k c) (st g (k + 1) c)) (rs3 A c g k) := by
  subst hr; exact Does.frame (load_band c accM ho (le_refl _) (le_refl _))

/-- The load of what has arrived. -/
theorem rs3_load' (ho : offd = ![ro g k, 0]) (hr : nr = sz g (k + 1))
    {inb : ∀ x, offd x + (Sh nr).size x ≤ (Sh (rvR g)).size x} {hl} :
    Does c (rs3 A c g k) (Prog.lift (.load (rvM g) (Rect.unit (s := Sh (rvR g)) offd (Sh nr).size inb).toLoadRect hl))
      (band nr (arrive A c g k) (ro g k)) (rs3 A c g k) := by
  subst hr; exact Does.frame_l (Does.frame (load_band c (rvM g) ho (le_refl _) (le_refl _)))

/-- The store of the sum, which makes the rows those of the next round. -/
theorem rs3_store (ho : off = ![st g (k + 1) c, 0]) (hr : nr = sz g (k + 1))
    {inb : ∀ x, off x + (Sh nr).size x ≤ (Sh 2048).size x} {w : (Rect.unit (s := Sh 2048) off (Sh nr).size inb).shape.Idx → Elt F .bf16} {hx} {hm}
    (hw : w = fun i => FloatOps.addf (band nr (part A g k c) (st g (k + 1) c) i) (band nr (arrive A c g k) (ro g k) i)) :
    Does c (rs3 A c g k) (Prog.lift (.store accM (Rect.unit (s := Sh 2048) off (Sh nr).size inb) w Finset.univ hx hm)) ⟨⟩ (rs0 A c g (k + 1)) := by
  subst hr
  refine Does.mono (Does.frame (store_band c accM (B := part A g (k + 1) c) ho ?_)) (Entails.of_eq rfl) ?_
  · rw [hw]; funext i
    show FloatOps.addf (part A g k c _ _) (part A g k (nbr c (ax g k)) (ro g k + (i 0).val - ro g k + st g (k + 1) c) (i 1))
      = FloatOps.addf (part A g k c _ _) (part A g k (nbr c (ax g k)) (st g (k + 1) c + (i 0).val) (i 1))
    congr 2; omega
  · unfold rs0 rsRest
    rw [show 3 - (k + 1) = 2 - k by omega, show 6 - (k + 1) = 5 - k by omega]
    iintro ⟨Ho, Hv, Hp, Hs, Hz, Hds, Hts, Hg, Hpe, Hdo, Hun⟩
    isplitl [Ho]; · iexact Ho
    isplitl [Hds]; · iexact Hds
    isplitl [Hts]; · iexact Hts
    isplitl [Hg Hv]
    · rw [got_succ]
      isplitl [Hg]; · iexact Hg
      iapply (own_any c (rvM g) _ _ _); iexact Hv
    isplitl [Hpe Hp]
    · rw [peers_succ]; isplitl [Hpe] <;> iassumption
    isplitr [Hun]; swap; · iexact Hun
    rw [dones_succ]
    isplitl [Hdo]; · iexact Hdo
    isplitl [Hs] <;> iassumption
end RS

/-- The reduced band is finished. -/
theorem rs_ag : rs0 A c g 3 ⊢ (ag0 A c g 3 : sProp 𝕄) := by
  unfold rs0 ag0
  iintro ⟨Ho, -, Hts, Hg, Hp, Hd, Hu⟩
  ihave Ho := (own_congr c accM (B := fin A g) (fun r j h1 h2 => by unfold fin; rw [owner_eq g c h1 h2])) $$ Ho
  isplitl [Ho]; · iexact Ho
  isplitr [Hu]
  · isplitl [Hts]; · iexact Hts
    isplitl [Hg]; · iexact Hg
    isplitl [Hp] <;> iassumption
  isplitr; · (unfold wr; iempintro)
  iexact Hu

/-! ## The all-gather's effects -/

section AG
include hk

/-- An all-gather send: the finished rows, read at half a share, go to the same rows of the neighbour. -/
theorem ag0_send {p : Dev nD} {sS rS : DmaSem sig} (hn : n + (3 + 3 * (5 - k) + g.val) = 20) (ho : off = ![st g (k + 1) c, 0])
    (hod : offd = ![st g (k + 1) c, 0]) (hr : nr = sz g (k + 1)) (hp : p = nbr c (tax g (5 - k))) (hs : sS = sq g (5 - k)) (hs' : rS = rq g (5 - k))
    {inb : ∀ x, off x + (Sh nr).size x ≤ (Sh 2048).size x} {inbd : ∀ x, offd x + (Sh nr).size x ≤ (Sh 2048).size x} {hsc} {hw} {hw'} {hty} :
    Does c iprop(ag0 A c g (k + 1) ∗ owesW A K c (n + 1))
      (Prog.lift (.enqueueDma (accM.slice (Rect.unit (s := Sh 2048) off (Sh nr).size inb) (fun _ => rfl))
        (.remote (Dev.tc p) (accM.slice (Rect.unit (s := Sh 2048) offd (Sh nr).size inbd) (fun _ => rfl)) (.dma sS) hsc) (.dma rS) hw hw' hty)) ⟨⟩
      iprop(ag1 A c g k ∗ owesW A K c n) := by
  refine Does.mono (Does.frame (R := iprop(atPos ER (scell c g (5 - k)) 0 ∅ 0
    ∗ (cred (tallyAt (rcell c g (5 - k)) () (cr (trows g (5 - k)))) ∗ atPos ER (rcell c g (5 - k)) 0 ∅ 0) ∗ agRest c g k
    ∗ wr A c g (2 - k) ∗ un c g (k + 2)))
    (ag_send A K c g hk hn ho hod hr hp hs hs')) ?_ ?_
  · unfold ag0 agRest
    rw [todos_succ, peers_succ, show 6 - (k + 1) = 5 - k by omega, show 3 - (k + 1) = 2 - k by omega]
    unfold todo
    iintro ⟨⟨Ho, ⟨⟨⟨⟨Ht, Ht'⟩, Ha, Ha', Hc⟩, Hts⟩, Hg, ⟨Hpe, Hp⟩, Hdo⟩, Hwr, Hun⟩, HW⟩
    isplitl [Ho Hp Ht Ht' HW]
    · isplitr [HW]; swap; · iexact HW
      isplitl [Ho]; · iexact Ho
      isplitl [Hp]; · iexact Hp
      isplitl [Ht] <;> iassumption
    isplitl [Ha]; · iexact Ha
    isplitl [Ha' Hc]; · (isplitl [Hc] <;> iassumption)
    isplitl [Hts Hg Hpe Hdo]
    · isplitl [Hts]; · iexact Hts
      isplitl [Hg]; · iexact Hg
      isplitl [Hpe] <;> iassumption
    isplitl [Hwr] <;> iassumption
  · unfold ag1 agSent
    iintro ⟨⟨⟨HC, Ho⟩, HW⟩, Ha, HC', HR, Hwr, Hun⟩
    isplitr [HW]; swap; · iexact HW
    isplitr [Hwr Hun]
    · isplitl [HC Ha]; · (isplitl [HC] <;> iassumption)
      isplitl [Ho]; · iexact Ho
      isplitl [HC'] <;> iassumption
    isplitl [Hwr] <;> iassumption

/-- The band written to the result at this step lies in the band just sent. -/
theorem pst_in : st g (k + 1) c ≤ pst c g (2 - k) ∧ pst c g (2 - k) + psz g (2 - k) ≤ st g (k + 1) c + sz g (k + 1) :=
  (by decide +kernel : ∀ (c : Dev nD) (g k : Fin 3), st g (k.val + 1) c ≤ pst c g (2 - k.val)
    ∧ pst c g (2 - k.val) + psz g (2 - k.val) ≤ st g (k.val + 1) c + sz g (k.val + 1)) c g ⟨k, hk⟩

/-- The load of the rows that came last, to be written to the result. -/
theorem ag1_load (ho : off = ![pst c g (2 - k), 0]) (hr : nr = psz g (2 - k))
    {inb : ∀ x, off x + (Sh nr).size x ≤ (Sh 2048).size x} {hl} :
    Does c (ag1 A c g k) (Prog.lift (.load accM (Rect.unit (s := Sh 2048) off (Sh nr).size inb).toLoadRect hl))
      (band nr (fin A g) (pst c g (2 - k))) (ag1 A c g k) := by
  subst hr; exact Does.frame (Does.frame_l (Does.frame (load_band c accM ho (pst_in c g hk).1 (pst_in c g hk).2)))
end AG

/-- Reading a band of the result that is about to be overwritten. -/
theorem dead_load {lo : ℕ} (ho : off = ![lo, 0]) {inb : ∀ x, off x + (Sh nr).size x ≤ (Sh 2048).size x} {hl} :
    ownAny c outM lo nr ⊢ wp frame (wpE (defs₀ (F := F)) 𝒱₀ (c.tc : Thread nD τ) none) Set.univ
      (Prog.lift (.load outM (Rect.unit (s := Sh 2048) off (Sh nr).size inb).toLoadRect hl)) (fun _ => ownAny c outM lo nr) := by
  unfold ownAny
  iintro ⟨%X, H⟩
  iapply (wp_mono _ _ _ (Q := fun v => iprop(⌜v = band nr X lo⌝ ∗ own c outM lo nr fullShare X)) fun v => ?_)
  · iintro ⟨-, H⟩; iexists X; iexact H
  iapply (load_band c outM ho (le_refl _) (le_refl _)); iexact H

/-- Writing the next band of the result. -/
theorem un_store {i : ℕ} (hi : i < 4) (ho : off = ![pst c g i, 0]) (hr : nr = psz g i)
    {inb : ∀ x, off x + (Sh nr).size x ≤ (Sh 2048).size x} {w : (Rect.unit (s := Sh 2048) off (Sh nr).size inb).shape.Idx → Elt F .f32} {hx} {hm}
    (hw : w = fun j => FloatOps.extf .f32 bitsLt_bf16_f32 (band nr (fin A g) (pst c g i) j)) :
    Does c iprop(wr A c g i ∗ un c g (4 - i))
      (Prog.lift (.store outM (Rect.unit (s := Sh 2048) off (Sh nr).size inb) w Finset.univ hx hm)) ⟨⟩ iprop(wr A c g (i + 1) ∗ un c g (3 - i)) := by
  subst hr
  rw [un_step c g hi]
  unfold ownAny
  iintro ⟨Hw, ⟨%X, H⟩, Hu⟩
  iapply (Does.mono (Does.frame (R := iprop(wr A c g i ∗ un c g (3 - i))) (store_band c outM (A := X) (B := res A g) ho hw)) (Entails.of_eq rfl) (by
    iintro ⟨H, Hw, Hu⟩
    isplitr [Hu]; swap; · iexact Hu
    rw [wr_succ]
    isplitl [Hw] <;> iassumption))
  isplitl [H]; · iexact H
  isplitl [Hw] <;> iassumption

/-- A load of result rows that are about to be overwritten changes nothing. -/
theorem un_dead {i : ℕ} (hi : i < 4) (ho : off = ![pst c g i, 0]) (hr : nr = psz g i)
    {inb : ∀ x, off x + (Sh nr).size x ≤ (Sh 2048).size x} {hl} :
    iprop(wr A c g i ∗ un c g (4 - i)) ⊢ wp frame (wpE (defs₀ (F := F)) 𝒱₀ (c.tc : Thread nD τ) none) Set.univ
      (Prog.lift (.load outM (Rect.unit (s := Sh 2048) off (Sh nr).size inb).toLoadRect hl)) (fun _ => iprop(wr A c g i ∗ un c g (4 - i))) := by
  subst hr
  rw [un_step c g hi]
  exact (sep_mono_right ((sep_mono_left (dead_load c ho)).trans (wp_frame_r _ _ _))).trans (wp_frame_l _ _ _)

section AG'
include hk

/-- The same with a send in flight. -/
theorem ag1_dead (ho : off = ![pst c g (2 - k), 0]) (hr : nr = psz g (2 - k))
    {inb : ∀ x, off x + (Sh nr).size x ≤ (Sh 2048).size x} {hl} :
    ag1 A c g k ⊢ wp frame (wpE (defs₀ (F := F)) 𝒱₀ (c.tc : Thread nD τ) none) Set.univ
      (Prog.lift (.load outM (Rect.unit (s := Sh 2048) off (Sh nr).size inb).toLoadRect hl)) (fun _ => ag1 A c g k) := by
  have h := un_dead A c g (i := 2 - k) (by omega) ho hr (inb := inb) (hl := hl)
  rw [show 4 - (2 - k) = k + 2 by omega] at h
  exact (sep_mono_right h).trans (wp_frame_l _ _ _)

/-- The store of those rows, widened, into the result. -/
theorem ag1_store (ho : off = ![pst c g (2 - k), 0]) (hr : nr = psz g (2 - k))
    {inb : ∀ x, off x + (Sh nr).size x ≤ (Sh 2048).size x} {w : (Rect.unit (s := Sh 2048) off (Sh nr).size inb).shape.Idx → Elt F .f32} {hx} {hm}
    (hw : w = fun j => FloatOps.extf .f32 bitsLt_bf16_f32 (band nr (fin A g) (pst c g (2 - k)) j)) :
    Does c (ag1 A c g k) (Prog.lift (.store outM (Rect.unit (s := Sh 2048) off (Sh nr).size inb) w Finset.univ hx hm)) ⟨⟩ (ag2 A c g k) := by
  have h := un_store A c g (i := 2 - k) (by omega) ho hr (hx := hx) (hm := hm) hw
  rw [show 4 - (2 - k) = k + 2 by omega, show 3 - (2 - k) = k + 1 by omega, show 2 - k + 1 = 3 - k by omega] at h
  exact Does.frame_l h

section
variable {s s' : Shape} {sp sp' : Space} {e e' : EltTy}
  {srcw : Memref sig .tc sp s e} {dstw : Memref sig .tc sp' s' e'} {h1 : srcw.view.WordExact} {h2 : dstw.view.WordExact} {q : DmaSem sig}

/-- The wait for an all-gather send, which gives its half share back. -/
theorem ag2_wait (hq : q = sq g (5 - k)) (hN : dstw.view.dmaCredit = cr (trows g (5 - k))) (hn : n ≤ 18) :
    Does c iprop(ag2 A c g k ∗ owesW A K c n) (Prog.lift (.waitDma2 q srcw dstw h1 h2)) ⟨⟩ iprop(ag3 A c g k ∗ owesW A K c n) := by
  refine Does.mono (Does.frame (R := iprop(own c accM (st g (k + 1) c) (sz g (k + 1)) fullShare.right (fin A g)
    ∗ (cred (tallyAt (rcell c g (5 - k)) () (cr (trows g (5 - k)))) ∗ atPos ER (rcell c g (5 - k)) 0 ∅ 0) ∗ agRest c g k ∗ wr A c g (3 - k) ∗ un c g (k + 1)))
    (wait_send A K c g (show 5 - k < 6 by omega) hq hN hn)) ?_ ?_
  · unfold ag2 agSent
    iintro ⟨⟨⟨HC, Ho, HC', HR⟩, HR'⟩, HW⟩
    isplitl [HC HW]; · (isplitl [HC] <;> iassumption)
    isplitl [Ho]; · iexact Ho
    isplitl [HC']; · iexact HC'
    isplitl [HR] <;> iassumption
  · unfold ag3 sendPay
    rw [if_neg (show ¬ 5 - k < 3 by omega), show 6 - (5 - k) = k + 1 by omega]
    iintro ⟨⟨⟨Hl, Hz⟩, HW⟩, Ho, HC, HR⟩
    isplitr [HW]; swap; · iexact HW
    isplitl [HC]; · iexact HC
    isplitl [Ho Hl]
    · iapply (own_whole c accM _ _ _); isplitl [Hl] <;> iassumption
    isplitl [Hz] <;> iassumption

/-- The wait for the neighbour's finished rows, which doubles the finished rows here. -/
theorem ag3_wait (hq : q = rq g (5 - k)) (hN : dstw.view.dmaCredit = cr (trows g (5 - k))) (hn : n ≤ 3 * k) :
    Does c iprop(ag3 A c g k ∗ owesW A K c n) (Prog.lift (.waitDma2 q srcw dstw h1 h2)) ⟨⟩ iprop(ag0 A c g k ∗ owesW A K c n) := by
  refine Does.mono (Does.frame (R := iprop(own c accM (st g (k + 1) c) (sz g (k + 1)) fullShare (fin A g) ∗ semVal (scell c g (5 - k)) 0
    ∗ agRest c g k ∗ wr A c g (3 - k) ∗ un c g (k + 1)))
    (wait_recv A K c g (show 5 - k < 6 by omega) (n := n) hq hN (by omega))) ?_ ?_
  · unfold ag3
    iintro ⟨⟨HC, HR⟩, HW⟩
    isplitl [HC HW]; · (isplitl [HC] <;> iassumption)
    iexact HR
  · unfold ag0 agRest recvPay
    rw [if_neg (show ¬ 5 - k < 3 by omega), show 6 - (5 - k) = k + 1 by omega, show 5 - (5 - k) = k by omega, show 6 - k = (5 - k) + 1 by omega]
    iintro ⟨⟨⟨Hn, Hz⟩, HW⟩, Ho, Hs, ⟨Hts, Hg, Hp, Hd⟩, Hwu⟩
    isplitr [HW]; swap; · iexact HW
    isplitl [Ho Hn]
    · iapply (band_join c g accM hk fullShare (fin A g)); isplitl [Ho] <;> iassumption
    isplitr [Hwu]; swap; · iexact Hwu
    isplitl [Hts]; · iexact Hts
    isplitl [Hg]; · iexact Hg
    isplitl [Hp]; · iexact Hp
    rw [dones_succ]
    isplitl [Hd]; · iexact Hd
    isplitl [Hs] <;> iassumption
end
end AG'

/-! ## The last band of the result -/

/-- The load of the rows that the last transfer brought. -/
theorem end_load (ho : off = ![pst c g 3, 0]) (hr : nr = psz g 3) {inb : ∀ x, off x + (Sh nr).size x ≤ (Sh 2048).size x} {hl} :
    Does c (ag0 A c g 0) (Prog.lift (.load accM (Rect.unit (s := Sh 2048) off (Sh nr).size inb).toLoadRect hl))
      (band nr (fin A g) (pst c g 3)) (ag0 A c g 0) := by
  have h := (by decide +kernel : ∀ (c : Dev nD) (g : Fin 3), st g 0 c ≤ pst c g 3 ∧ pst c g 3 + psz g 3 ≤ st g 0 c + sz g 0) c g
  subst hr; exact Does.frame (load_band c accM ho h.1 h.2)

/-- A load of the last result rows before they are overwritten changes nothing. -/
theorem end_dead (ho : off = ![pst c g 3, 0]) (hr : nr = psz g 3) {inb : ∀ x, off x + (Sh nr).size x ≤ (Sh 2048).size x} {hl} :
    ag0 A c g 0 ⊢ wp frame (wpE (defs₀ (F := F)) 𝒱₀ (c.tc : Thread nD τ) none) Set.univ
      (Prog.lift (.load outM (Rect.unit (s := Sh 2048) off (Sh nr).size inb).toLoadRect hl)) (fun _ => ag0 A c g 0) :=
  (sep_mono_right ((sep_mono_right (un_dead A c g (i := 3) (by omega) ho hr)).trans (wp_frame_l _ _ _))).trans (wp_frame_l _ _ _)

/-- The store of the last rows into the result, which finishes the group. -/
theorem end_store (ho : off = ![pst c g 3, 0]) (hr : nr = psz g 3)
    {inb : ∀ x, off x + (Sh nr).size x ≤ (Sh 2048).size x} {w : (Rect.unit (s := Sh 2048) off (Sh nr).size inb).shape.Idx → Elt F .f32} {hx} {hm}
    (hw : w = fun j => FloatOps.extf .f32 bitsLt_bf16_f32 (band nr (fin A g) (pst c g 3) j)) :
    Does c (ag0 A c g 0) (Prog.lift (.store outM (Rect.unit (s := Sh 2048) off (Sh nr).size inb) w Finset.univ hx hm)) ⟨⟩ (ag4 A c g) :=
  Does.frame_l (Does.frame_l (un_store A c g (i := 3) (by omega) ho hr hw))

end Stages

end Cert.Hypercube
-- ==== Proof.Comm.lean ====
/-
The parts of the kernel's body that communicate: the three rounds of the reduce-scatter and of the all-gather.
-/
module

public import proofs.«01_k».proof.Proof.Stages

@[expose] public section

noncomputable section

namespace Cert.Hypercube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Chaining effects -/

/-- Running `p`, whatever its value, takes `P` to `P'`. -/
abbrev Takes {α : Type} (c : Dev nD) (P : sProp 𝕄) (p : Prog (TpuEff nD τ sig (Elt F) Λ₀ .tc) α) (P' : sProp 𝕄) : Prop :=
  P ⊢ wp frame (wpE (defs₀ (F := F)) 𝒱₀ (c.tc : Thread nD τ) none) Set.univ p (fun _ => P')

/-- An effect whose value is not used. -/
theorem skip {α β : Type} (c : Dev nD) {p : Prog (TpuEff nD τ sig (Elt F) Λ₀ .tc) α} {k : α → Prog (TpuEff nD τ sig (Elt F) Λ₀ .tc) β}
    {P P' : sProp 𝕄} {Q : β → sProp 𝕄} (hp : Takes c P p P')
    (hk : ∀ a, P' ⊢ wp frame (wpE (defs₀ (F := F)) 𝒱₀ (c.tc : Thread nD τ) none) Set.univ (k a) Q) :
    P ⊢ wp frame (wpE (defs₀ (F := F)) 𝒱₀ (c.tc : Thread nD τ) none) Set.univ (p >>= k) Q := by
  rw [wp_bind]; exact hp.trans (wp_mono _ _ _ hk)

/-- A finished program. -/
theorem done {α : Type} (c : Dev nD) {P : sProp 𝕄} {a : α} : Takes c P (pure a) P := by
  show P ⊢ wp _ _ _ (Prog.ret a) _; rw [wp_ret]; iintro H; imodintro; iexact H

/-- A finished program and its value. -/
theorem done_with {α : Type} (c : Dev nD) {P : sProp 𝕄} {a : α} : Does c P (pure a) a P := by
  show P ⊢ wp _ _ _ (Prog.ret a) _; rw [wp_ret]; iintro H; imodintro
  isplitr; · (ipureintro; rfl)
  iexact H

/-- A run leaves what it does not mention, on the right, -/
theorem Takes.frame {α : Type} {c : Dev nD} {P P' R : sProp 𝕄} {p : Prog (TpuEff nD τ sig (Elt F) Λ₀ .tc) α}
    (h : Takes c P p P') : Takes c iprop(P ∗ R) p iprop(P' ∗ R) := (sep_mono_left h).trans (wp_frame_r _ _ _)
/-- and on the left. -/
theorem Takes.frame_l {α : Type} {c : Dev nD} {P P' R : sProp 𝕄} {p : Prog (TpuEff nD τ sig (Elt F) Λ₀ .tc) α}
    (h : Takes c P p P') : Takes c iprop(R ∗ P) p iprop(R ∗ P') := (sep_mono_right h).trans (wp_frame_l _ _ _)
/-- A step of known value, its value dropped. -/
theorem Does.takes {α : Type} {c : Dev nD} {P P' : sProp 𝕄} {p : Prog (TpuEff nD τ sig (Elt F) Λ₀ .tc) α} {a : α}
    (h : Does c P p a P') : Takes c P p P' := h.trans (wp_mono _ _ _ fun v => by iintro ⟨-, H⟩; iexact H)

section Comm
variable (A : Dev nD → Mat F .bf16) (K : Dev nD × Fin 37 → ℕ) (c : Dev nD)

/-- The three groups' states, and the payments left. -/
abbrev St (P Q R : sProp (MT nD τ sig Unit (Elt F) ℕ UU ℕ)) (n : ℕ) : sProp (MT nD τ sig Unit (Elt F) ℕ UU ℕ) :=
  iprop(P ∗ Q ∗ R ∗ owesW A K c n)

section Lifts
variable {α : Type} {p : Prog (TpuEff nD τ sig (Elt F) Λ₀ .tc) α} {a : α} {n n' : ℕ}
  {P Q R P' : sProp (MT nD τ sig Unit (Elt F) ℕ UU ℕ)} {A K c}

/-! An effect on one group's state, alone or with the payments. -/

/-- A step of group 0 alone. -/
theorem on0 (h : Does c P p a P') : Does c (St A K c P Q R n) p a (St A K c P' Q R n) := Does.frame h
/-- A step of group 1 alone. -/
theorem on1 (h : Does c P p a P') : Does c (St A K c Q P R n) p a (St A K c Q P' R n) := Does.frame_l (Does.frame h)
/-- A step of group 2 alone. -/
theorem on2 (h : Does c P p a P') : Does c (St A K c Q R P n) p a (St A K c Q R P' n) := Does.frame_l (Does.frame_l (Does.frame h))
/-- A step of group 0 whose value is not used. -/
theorem dead0 (h : Takes c P p P') : Takes c (St A K c P Q R n) p (St A K c P' Q R n) := Takes.frame h
/-- A step of group 1 whose value is not used. -/
theorem dead1 (h : Takes c P p P') : Takes c (St A K c Q P R n) p (St A K c Q P' R n) := Takes.frame_l (Takes.frame h)
/-- A step of group 2 whose value is not used. -/
theorem dead2 (h : Takes c P p P') : Takes c (St A K c Q R P n) p (St A K c Q R P' n) := Takes.frame_l (Takes.frame_l (Takes.frame h))
/-- A step of group 2 that makes or orders payments. -/
theorem pay2 (h : Does c iprop(P ∗ owesW A K c n) p a iprop(P' ∗ owesW A K c n')) :
    Does c (St A K c Q R P n) p a (St A K c Q R P' n') := Does.frame_l (Does.frame_l h)
/-- A step of group 1 that makes or orders payments. -/
theorem pay1 (h : Does c iprop(P ∗ owesW A K c n) p a iprop(P' ∗ owesW A K c n')) :
    Does c (St A K c Q P R n) p a (St A K c Q P' R n') := by
  refine Does.mono (Does.frame_l (R := Q) (Does.frame (R := R) h)) ?_ ?_
  · iintro ⟨HQ, HP, HR, HW⟩
    isplitl [HQ]; · iexact HQ
    isplitl [HP HW]; · (isplitl [HP] <;> iassumption)
    iexact HR
  · iintro ⟨HQ, ⟨HP, HW⟩, HR⟩
    isplitl [HQ]; · iexact HQ
    isplitl [HP]; · iexact HP
    isplitl [HR] <;> iassumption
/-- A step of group 0 that makes or orders payments. -/
theorem pay0 (h : Does c iprop(P ∗ owesW A K c n) p a iprop(P' ∗ owesW A K c n')) :
    Does c (St A K c P Q R n) p a (St A K c P' Q R n') := by
  refine Does.mono (Does.frame (R := iprop(Q ∗ R)) h) ?_ ?_
  · iintro ⟨HP, HQ, HR, HW⟩
    isplitl [HP HW]; · (isplitl [HP] <;> iassumption)
    isplitl [HQ] <;> iassumption
  · iintro ⟨⟨HP, HW⟩, HQ, HR⟩
    isplitl [HP]; · iexact HP
    isplitl [HQ]; · iexact HQ
    isplitl [HR] <;> iassumption
end Lifts

omit A K c in
/-- A sum stored is the sum of the bands entry by entry. -/
theorem pay_add {n : ℕ} (v w : FVec F (Sh n) .bf16) (h : (Sh n).ShapeCasts (Sh n)) :
    shapeCast (Sh n) (addf v w) h = fun i => FloatOps.addf (v i) (w i) := by
  funext i; show addf v w (Shape.reshapeEquiv h i) = _; rw [Shape.reshapeEquiv_self]; rfl

/-! ## The reduce-scatter -/

/-- Group 2's first send; group 0's first waits and addition. -/
theorem part26 (v14 v17 v442 v456 : BitVec 32) :
    Takes c (St A K c (rs1 A c 0 0) (rs1 A c 1 0) (rs0 A c 2 0) 16) (k0_part26 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v14 v17 v442 v456)
      (St A K c (rs0 A c 0 1) (rs1 A c 1 0) (rs1 A c 2 0) 15) := by
  rw [k0_part26_eq_skeleton]; unfold k0_part26_skel; dsimp only
  refine seq c (pay2 (rs0_send A c 2 K (k := 0) (by omega) rfl (off_sent0 c).2.2 rfl rfl (Fin.ext (dev_rs0 c).2.2) rfl rfl)) ?_
  refine seq c (pay0 (rs1_wait A c 0 K (k := 0) (by omega) rfl rfl (by omega))) ?_
  refine seq c (pay0 (rs2_wait A c 0 K (k := 0) (by omega) rfl rfl (by omega))) ?_
  refine seq c (on0 (rs3_load A c 0 (k := 0) (by omega) (off_kept0 c).1 rfl)) ?_
  refine seq c (on0 (rs3_load' A c 0 (k := 0) (by omega) rfl rfl)) ?_
  refine seq c (on0 (rs3_load A c 0 (k := 0) (by omega) (off_kept0 c).1 rfl)) ?_
  refine seq c (on0 (rs3_store A c 0 (k := 0) (by omega) (off_kept0 c).1 rfl (pay_add _ _ _))) ?_
  exact done c

/-- Group 1's first waits and addition; group 2's first send is done. -/
theorem part27 (v11 v14 v17 v575 v589 v703 : BitVec 32) :
    Takes c (St A K c (rs0 A c 0 1) (rs1 A c 1 0) (rs1 A c 2 0) 15) (k0_part27 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v11 v14 v17 v575 v589 v703)
      (St A K c (rs0 A c 0 1) (rs0 A c 1 1) (rs2 A c 2 0) 15) := by
  rw [k0_part27_eq_skeleton]; unfold k0_part27_skel; dsimp only
  refine seq c (pay1 (rs1_wait A c 1 K (k := 0) (by omega) rfl rfl (by omega))) ?_
  refine seq c (pay1 (rs2_wait A c 1 K (k := 0) (by omega) rfl rfl (by omega))) ?_
  refine seq c (on1 (rs3_load A c 1 (k := 0) (by omega) (off_kept0 c).2.1 rfl)) ?_
  refine seq c (on1 (rs3_load' A c 1 (k := 0) (by omega) rfl rfl)) ?_
  refine seq c (on1 (rs3_load A c 1 (k := 0) (by omega) (off_kept0 c).2.1 rfl)) ?_
  refine seq c (on1 (rs3_store A c 1 (k := 0) (by omega) (off_kept0 c).2.1 rfl (pay_add _ _ _))) ?_
  refine seq c (pay2 (rs1_wait A c 2 K (k := 0) (by omega) rfl rfl (by omega))) ?_
  exact done c

/-- Group 2's first arrival and addition; group 0's second send. -/
theorem part28 (v11 v14 v17 v456 v589 v717 : BitVec 32) :
    Takes c (St A K c (rs0 A c 0 1) (rs0 A c 1 1) (rs2 A c 2 0) 15) (k0_part28 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v11 v14 v17 v456 v589 v717)
      (St A K c (rs1 A c 0 1) (rs0 A c 1 1) (rs0 A c 2 1) 14) := by
  rw [k0_part28_eq_skeleton]; unfold k0_part28_skel; dsimp only
  refine seq c (pay2 (rs2_wait A c 2 K (k := 0) (by omega) rfl rfl (by omega))) ?_
  refine seq c (on2 (rs3_load A c 2 (k := 0) (by omega) (off_kept0 c).2.2 rfl)) ?_
  refine seq c (on2 (rs3_load' A c 2 (k := 0) (by omega) rfl rfl)) ?_
  refine seq c (on2 (rs3_load A c 2 (k := 0) (by omega) (off_kept0 c).2.2 rfl)) ?_
  refine seq c (on2 (rs3_store A c 2 (k := 0) (by omega) (off_kept0 c).2.2 rfl (pay_add _ _ _))) ?_
  refine seq c (pay0 (rs0_send A c 0 K (k := 1) (by omega) rfl (off_sent1 c).1 rfl rfl (Fin.ext (dev_rs1 c).1) rfl rfl)) ?_
  exact done c

/-- The second sends of groups 1 and 2. -/
theorem part29 (v11 v14 v17 v589 v717 v805 : BitVec 32) :
    Takes c (St A K c (rs1 A c 0 1) (rs0 A c 1 1) (rs0 A c 2 1) 14) (k0_part29 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v11 v14 v17 v589 v717 v805)
      (St A K c (rs1 A c 0 1) (rs1 A c 1 1) (rs1 A c 2 1) 12) := by
  rw [k0_part29_eq_skeleton]; unfold k0_part29_skel; dsimp only
  refine seq c (pay1 (rs0_send A c 1 K (k := 1) (by omega) rfl (off_sent1 c).2.1 rfl rfl (Fin.ext (dev_rs1 c).2.1) rfl rfl)) ?_
  refine seq c (pay2 (rs0_send A c 2 K (k := 1) (by omega) rfl (off_sent1 c).2.2 rfl rfl (Fin.ext (dev_rs1 c).2.2) rfl rfl)) ?_
  exact done c

/-- Group 0's second waits and addition; group 1's second send is done. -/
theorem part30 (v11 v14 v17 v787 v801 : BitVec 32) :
    Takes c (St A K c (rs1 A c 0 1) (rs1 A c 1 1) (rs1 A c 2 1) 12) (k0_part30 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v11 v14 v17 v787 v801)
      (St A K c (rs0 A c 0 2) (rs2 A c 1 1) (rs1 A c 2 1) 12) := by
  rw [k0_part30_eq_skeleton]; unfold k0_part30_skel; dsimp only
  refine seq c (pay0 (rs1_wait A c 0 K (k := 1) (by omega) rfl rfl (by omega))) ?_
  refine seq c (pay0 (rs2_wait A c 0 K (k := 1) (by omega) rfl rfl (by omega))) ?_
  refine seq c (on0 (rs3_load A c 0 (k := 1) (by omega) (off_kept1 c).1 rfl)) ?_
  refine seq c (on0 (rs3_load' A c 0 (k := 1) (by omega) rfl rfl)) ?_
  refine seq c (on0 (rs3_load A c 0 (k := 1) (by omega) (off_kept1 c).1 rfl)) ?_
  refine seq c (on0 (rs3_store A c 0 (k := 1) (by omega) (off_kept1 c).1 rfl (pay_add _ _ _))) ?_
  refine seq c (pay1 (rs1_wait A c 1 K (k := 1) (by omega) rfl rfl (by omega))) ?_
  exact done c

/-- Group 1's second arrival and addition; group 2's second waits and the loads for its addition. -/
theorem part31 (v14 v17 v805 v819 v823 v837 v867 c1_i32_748 : BitVec 32) :
    Does c (St A K c (rs0 A c 0 2) (rs2 A c 1 1) (rs1 A c 2 1) 12) (k0_part31 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v14 v17 v805 v819 v823 v837 v867 c1_i32_748)
      ⟨band 160 (part A 2 1 c) (st 2 2 c), band 160 (arrive A c 2 1) (ro 2 1)⟩ (St A K c (rs0 A c 0 2) (rs0 A c 1 2) (rs3 A c 2 1) 12) := by
  rw [k0_part31_eq_skeleton]; unfold k0_part31_skel; dsimp only
  refine seq c (pay1 (rs2_wait A c 1 K (k := 1) (by omega) rfl rfl (by omega))) ?_
  refine seq c (on1 (rs3_load A c 1 (k := 1) (by omega) (off_kept1 c).2.1 rfl)) ?_
  refine seq c (on1 (rs3_load' A c 1 (k := 1) (by omega) rfl rfl)) ?_
  refine seq c (on1 (rs3_load A c 1 (k := 1) (by omega) (off_kept1 c).2.1 rfl)) ?_
  refine seq c (on1 (rs3_store A c 1 (k := 1) (by omega) (off_kept1 c).2.1 rfl (pay_add _ _ _))) ?_
  refine seq c (pay2 (rs1_wait A c 2 K (k := 1) (by omega) rfl rfl (by omega))) ?_
  refine seq c (pay2 (rs2_wait A c 2 K (k := 1) (by omega) rfl rfl (by omega))) ?_
  refine seq c (on2 (rs3_load A c 2 (k := 1) (by omega) (off_kept1 c).2.2 rfl)) ?_
  refine seq c (on2 (rs3_load' A c 2 (k := 1) (by omega) rfl rfl)) ?_
  exact done_with c

/-- Group 2's second addition; group 0's third send. -/
theorem part32 (v11 v14 v17 v801 v819 v837 : BitVec 32) :
    Takes c (St A K c (rs0 A c 0 2) (rs0 A c 1 2) (rs3 A c 2 1) 12) (k0_part32 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v11 v14 v17 v801 v819 v837 (band 160 (part A 2 1 c) (st 2 2 c)) (band 160 (arrive A c 2 1) (ro 2 1)))
      (St A K c (rs1 A c 0 2) (rs0 A c 1 2) (rs0 A c 2 2) 11) := by
  rw [k0_part32_eq_skeleton]; unfold k0_part32_skel; dsimp only
  refine seq c (on2 (rs3_load A c 2 (k := 1) (by omega) (off_kept1 c).2.2 rfl)) ?_
  refine seq c (on2 (rs3_store A c 2 (k := 1) (by omega) (off_kept1 c).2.2 rfl (pay_add _ _ _))) ?_
  refine seq c (pay0 (rs0_send A c 0 K (k := 2) (by omega) rfl (off_sent2 c).1 rfl rfl (Fin.ext (dev_rs2 c).1) rfl rfl)) ?_
  exact done c

/-- The third sends of groups 1 and 2; group 0's is done. -/
theorem part33 (v11 v14 v17 v819 v837 : BitVec 32) :
    Takes c (St A K c (rs1 A c 0 2) (rs0 A c 1 2) (rs0 A c 2 2) 11) (k0_part33 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v11 v14 v17 v819 v837)
      (St A K c (rs2 A c 0 2) (rs1 A c 1 2) (rs1 A c 2 2) 9) := by
  rw [k0_part33_eq_skeleton]; unfold k0_part33_skel; dsimp only
  refine seq c (pay1 (rs0_send A c 1 K (k := 2) (by omega) rfl (off_sent2 c).2.1 rfl rfl (Fin.ext (dev_rs2 c).2.1) rfl rfl)) ?_
  refine seq c (pay2 (rs0_send A c 2 K (k := 2) (by omega) rfl (off_sent2 c).2.2 rfl rfl (Fin.ext (dev_rs2 c).2.2) rfl rfl)) ?_
  refine seq c (pay0 (rs1_wait A c 0 K (k := 2) (by omega) rfl rfl (by omega))) ?_
  exact done c

/-- Group 0's third arrival and addition; group 1's third waits. -/
theorem part34 (v14 v17 v907 v921 v925 v939 v963 : BitVec 32) :
    Takes c (St A K c (rs2 A c 0 2) (rs1 A c 1 2) (rs1 A c 2 2) 9) (k0_part34 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v14 v17 v907 v921 v925 v939 v963)
      (St A K c (rs0 A c 0 3) (rs3 A c 1 2) (rs1 A c 2 2) 9) := by
  rw [k0_part34_eq_skeleton]; unfold k0_part34_skel; dsimp only
  refine seq c (pay0 (rs2_wait A c 0 K (k := 2) (by omega) rfl rfl (by omega))) ?_
  refine seq c (on0 (rs3_load A c 0 (k := 2) (by omega) (off_kept2 c).1 rfl)) ?_
  refine seq c (on0 (rs3_load' A c 0 (k := 2) (by omega) rfl rfl)) ?_
  refine seq c (on0 (rs3_load A c 0 (k := 2) (by omega) (off_kept2 c).1 rfl)) ?_
  refine seq c (on0 (rs3_store A c 0 (k := 2) (by omega) (off_kept2 c).1 rfl (pay_add _ _ _))) ?_
  refine seq c (pay1 (rs1_wait A c 1 K (k := 2) (by omega) rfl rfl (by omega))) ?_
  refine seq c (pay1 (rs2_wait A c 1 K (k := 2) (by omega) rfl rfl (by omega))) ?_
  exact done c

/-- The third additions of groups 1 and 2: every group's band is finished. -/
theorem part35 (v11 v17 v939 v943 v957 : BitVec 32) :
    Takes c (St A K c (rs0 A c 0 3) (rs3 A c 1 2) (rs1 A c 2 2) 9) (k0_part35 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v11 v17 v939 v943 v957)
      (St A K c (rs0 A c 0 3) (rs0 A c 1 3) (rs0 A c 2 3) 9) := by
  rw [k0_part35_eq_skeleton]; unfold k0_part35_skel; dsimp only
  refine seq c (on1 (rs3_load A c 1 (k := 2) (by omega) (off_kept2 c).2.1 rfl)) ?_
  refine seq c (on1 (rs3_load' A c 1 (k := 2) (by omega) rfl rfl)) ?_
  refine seq c (on1 (rs3_load A c 1 (k := 2) (by omega) (off_kept2 c).2.1 rfl)) ?_
  refine seq c (on1 (rs3_store A c 1 (k := 2) (by omega) (off_kept2 c).2.1 rfl (pay_add _ _ _))) ?_
  refine seq c (pay2 (rs1_wait A c 2 K (k := 2) (by omega) rfl rfl (by omega))) ?_
  refine seq c (pay2 (rs2_wait A c 2 K (k := 2) (by omega) rfl rfl (by omega))) ?_
  refine seq c (on2 (rs3_load A c 2 (k := 2) (by omega) (off_kept2 c).2.2 rfl)) ?_
  refine seq c (on2 (rs3_load' A c 2 (k := 2) (by omega) rfl rfl)) ?_
  refine seq c (on2 (rs3_load A c 2 (k := 2) (by omega) (off_kept2 c).2.2 rfl)) ?_
  refine seq c (on2 (rs3_store A c 2 (k := 2) (by omega) (off_kept2 c).2.2 rfl (pay_add _ _ _))) ?_
  exact done c

/-! ## The all-gather -/

/-- Groups 0 and 1 send their finished bands. -/
theorem part36 (v11 v14 v17 v921 v939 v1024 c4_i32_865 : BitVec 32) :
    Takes c (St A K c (ag0 A c 0 3) (ag0 A c 1 3) (ag0 A c 2 3) 9) (k0_part36 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v11 v14 v17 v921 v939 v1024 c4_i32_865)
      (St A K c (ag1 A c 0 2) (ag1 A c 1 2) (ag0 A c 2 3) 7) := by
  rw [k0_part36_eq_skeleton]; unfold k0_part36_skel; dsimp only
  refine seq c (pay0 (ag0_send A c 0 K (k := 2) (by omega) (by omega) (off_src0 c).1 (off_src0 c).1 rfl (Fin.ext (dev_ag0 c).1) rfl rfl)) ?_
  refine seq c (pay1 (ag0_send A c 1 K (k := 2) (by omega) (by omega) (off_src0 c).2.1 (off_src0 c).2.1 rfl (Fin.ext (dev_ag0 c).2.1) rfl rfl)) ?_
  exact done c

/-- Group 2 sends its finished band; group 0 writes its own to the result, and its send is done. -/
theorem part37 (v11 v14 v17 v921 v939 v957 v1060 : BitVec 32) :
    Takes c (St A K c (ag1 A c 0 2) (ag1 A c 1 2) (ag0 A c 2 3) 7) (k0_part37 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v11 v14 v17 v921 v939 v957 v1060)
      (St A K c (ag3 A c 0 2) (ag1 A c 1 2) (ag1 A c 2 2) 6) := by
  rw [k0_part37_eq_skeleton]; unfold k0_part37_skel; dsimp only
  refine seq c (pay2 (ag0_send A c 2 K (k := 2) (by omega) (by omega) (off_src0 c).2.2 (off_src0 c).2.2 rfl (Fin.ext (dev_ag0 c).2.2) rfl rfl)) ?_
  refine seq c (on0 (ag1_load A c 0 (k := 2) (by omega) (off_kept2 c).1 rfl)) ?_
  refine skip c (dead0 (ag1_dead A c 0 (k := 2) (by omega) (off_kept2 c).1 rfl)) fun _ => ?_
  refine seq c (on0 (ag1_store A c 0 (k := 2) (by omega) (off_kept2 c).1 rfl rfl)) ?_
  refine seq c (pay0 (ag2_wait A c 0 K (k := 2) (by omega) rfl rfl (by omega))) ?_
  exact done c

/-- Group 0's arrival; group 1's write, waits and arrival; group 2's write. -/
theorem part38 (v14 v17 v939 v957 v1024 v1043 v1091 v1092 : BitVec 32) :
    Takes c (St A K c (ag3 A c 0 2) (ag1 A c 1 2) (ag1 A c 2 2) 6) (k0_part38 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v14 v17 v939 v957 v1024 v1043 v1091 v1092)
      (St A K c (ag0 A c 0 2) (ag0 A c 1 2) (ag2 A c 2 2) 6) := by
  rw [k0_part38_eq_skeleton]; unfold k0_part38_skel; dsimp only
  refine seq c (pay0 (ag3_wait A c 0 K (k := 2) (by omega) rfl rfl (by omega))) ?_
  refine seq c (on1 (ag1_load A c 1 (k := 2) (by omega) (off_kept2 c).2.1 rfl)) ?_
  refine skip c (dead1 (ag1_dead A c 1 (k := 2) (by omega) (off_kept2 c).2.1 rfl)) fun _ => ?_
  refine seq c (on1 (ag1_store A c 1 (k := 2) (by omega) (off_kept2 c).2.1 rfl rfl)) ?_
  refine seq c (pay1 (ag2_wait A c 1 K (k := 2) (by omega) rfl rfl (by omega))) ?_
  refine seq c (pay1 (ag3_wait A c 1 K (k := 2) (by omega) rfl rfl (by omega))) ?_
  refine seq c (on2 (ag1_load A c 2 (k := 2) (by omega) (off_kept2 c).2.2 rfl)) ?_
  refine skip c (dead2 (ag1_dead A c 2 (k := 2) (by omega) (off_kept2 c).2.2 rfl)) fun _ => ?_
  refine seq c (on2 (ag1_store A c 2 (k := 2) (by omega) (off_kept2 c).2.2 rfl rfl)) ?_
  exact done c

/-- Group 2's waits and arrival; group 0's second all-gather send. -/
theorem part39 (v11 v14 v17 v1042 v1062 : BitVec 32) :
    Takes c (St A K c (ag0 A c 0 2) (ag0 A c 1 2) (ag2 A c 2 2) 6) (k0_part39 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v11 v14 v17 v1042 v1062)
      (St A K c (ag1 A c 0 1) (ag0 A c 1 2) (ag0 A c 2 2) 5) := by
  rw [k0_part39_eq_skeleton]; unfold k0_part39_skel; dsimp only
  refine seq c (pay2 (ag2_wait A c 2 K (k := 2) (by omega) rfl rfl (by omega))) ?_
  refine seq c (pay2 (ag3_wait A c 2 K (k := 2) (by omega) rfl rfl (by omega))) ?_
  refine seq c (pay0 (ag0_send A c 0 K (k := 1) (by omega) (by omega) (off_src1 c).1 (off_src1 c).1 rfl (Fin.ext (dev_ag1 c).1) rfl rfl)) ?_
  exact done c

/-- The second all-gather sends of groups 1 and 2. -/
theorem part40 (v11 v14 v17 v1061 v1157 : BitVec 32) :
    Takes c (St A K c (ag1 A c 0 1) (ag0 A c 1 2) (ag0 A c 2 2) 5) (k0_part40 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v11 v14 v17 v1061 v1157)
      (St A K c (ag1 A c 0 1) (ag1 A c 1 1) (ag1 A c 2 1) 3) := by
  rw [k0_part40_eq_skeleton]; unfold k0_part40_skel; dsimp only
  refine seq c (pay1 (ag0_send A c 1 K (k := 1) (by omega) (by omega) (off_src1 c).2.1 (off_src1 c).2.1 rfl (Fin.ext (dev_ag1 c).2.1) rfl rfl)) ?_
  refine seq c (pay2 (ag0_send A c 2 K (k := 1) (by omega) (by omega) (off_src1 c).2.2 (off_src1 c).2.2 rfl (Fin.ext (dev_ag1 c).2.2) rfl rfl)) ?_
  exact done c

/-- Group 0's write, waits and arrival; group 1's write, and its send is done. -/
theorem part41 (v11 v17 v1040 v1059 v1080 v1138 v1191 : BitVec 32) :
    Takes c (St A K c (ag1 A c 0 1) (ag1 A c 1 1) (ag1 A c 2 1) 3) (k0_part41 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v11 v17 v1040 v1059 v1080 v1138 v1191)
      (St A K c (ag0 A c 0 1) (ag3 A c 1 1) (ag1 A c 2 1) 3) := by
  rw [k0_part41_eq_skeleton]; unfold k0_part41_skel; dsimp only
  refine seq c (on0 (ag1_load A c 0 (k := 1) (by omega) (off_back2 c).1 rfl)) ?_
  refine skip c (dead0 (ag1_dead A c 0 (k := 1) (by omega) (off_back2 c).1 rfl)) fun _ => ?_
  refine seq c (on0 (ag1_store A c 0 (k := 1) (by omega) (off_back2 c).1 rfl rfl)) ?_
  refine seq c (pay0 (ag2_wait A c 0 K (k := 1) (by omega) rfl rfl (by omega))) ?_
  refine seq c (pay0 (ag3_wait A c 0 K (k := 1) (by omega) rfl rfl (by omega))) ?_
  refine seq c (on1 (ag1_load A c 1 (k := 1) (by omega) (off_back2 c).2.1 rfl)) ?_
  refine skip c (dead1 (ag1_dead A c 1 (k := 1) (by omega) (off_back2 c).2.1 rfl)) fun _ => ?_
  refine seq c (on1 (ag1_store A c 1 (k := 1) (by omega) (off_back2 c).2.1 rfl rfl)) ?_
  refine seq c (pay1 (ag2_wait A c 1 K (k := 1) (by omega) rfl rfl (by omega))) ?_
  exact done c

/-- Group 1's arrival; group 2's write, waits and arrival. -/
theorem part42 (v11 v14 v17 v1078 v1157 v1176 : BitVec 32) :
    Takes c (St A K c (ag0 A c 0 1) (ag3 A c 1 1) (ag1 A c 2 1) 3) (k0_part42 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v11 v14 v17 v1078 v1157 v1176)
      (St A K c (ag0 A c 0 1) (ag0 A c 1 1) (ag0 A c 2 1) 3) := by
  rw [k0_part42_eq_skeleton]; unfold k0_part42_skel; dsimp only
  refine seq c (pay1 (ag3_wait A c 1 K (k := 1) (by omega) rfl rfl (by omega))) ?_
  refine seq c (on2 (ag1_load A c 2 (k := 1) (by omega) (off_back2 c).2.2 rfl)) ?_
  refine skip c (dead2 (ag1_dead A c 2 (k := 1) (by omega) (off_back2 c).2.2 rfl)) fun _ => ?_
  refine seq c (on2 (ag1_store A c 2 (k := 1) (by omega) (off_back2 c).2.2 rfl rfl)) ?_
  refine seq c (pay2 (ag2_wait A c 2 K (k := 1) (by omega) rfl rfl (by omega))) ?_
  refine seq c (pay2 (ag3_wait A c 2 K (k := 1) (by omega) rfl rfl (by omega))) ?_
  exact done c

/-- The last sends of groups 0 and 1. -/
theorem part43 (v11 v14 v17 v1156 v1175 v1252 c4_i32_1028 : BitVec 32) :
    Takes c (St A K c (ag0 A c 0 1) (ag0 A c 1 1) (ag0 A c 2 1) 3) (k0_part43 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v11 v14 v17 v1156 v1175 v1252 c4_i32_1028)
      (St A K c (ag1 A c 0 0) (ag1 A c 1 0) (ag0 A c 2 1) 1) := by
  rw [k0_part43_eq_skeleton]; unfold k0_part43_skel; dsimp only
  refine seq c (pay0 (ag0_send A c 0 K (k := 0) (by omega) (by omega) (off_src2 c).1 (off_src2 c).1 rfl (Fin.ext (dev_ag2 c).1) rfl rfl)) ?_
  refine seq c (pay1 (ag0_send A c 1 K (k := 0) (by omega) (by omega) (off_src2 c).2.1 (off_src2 c).2.1 rfl (Fin.ext (dev_ag2 c).2.1) rfl rfl)) ?_
  exact done c

/-- The last send of group 2; group 0's write, and its send is done. -/
theorem part44 (v11 v14 v17 v1154 v1194 v1252 v1286 c4_i32_1050 : BitVec 32) :
    Takes c (St A K c (ag1 A c 0 0) (ag1 A c 1 0) (ag0 A c 2 1) 1) (k0_part44 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v11 v14 v17 v1154 v1194 v1252 v1286 c4_i32_1050)
      (St A K c (ag3 A c 0 0) (ag1 A c 1 0) (ag1 A c 2 0) 0) := by
  rw [k0_part44_eq_skeleton]; unfold k0_part44_skel; dsimp only
  refine seq c (pay2 (ag0_send A c 2 K (k := 0) (by omega) (by omega) (off_src2 c).2.2 (off_src2 c).2.2 rfl (Fin.ext (dev_ag2 c).2.2) rfl rfl)) ?_
  refine seq c (on0 (ag1_load A c 0 (k := 0) (by omega) (off_back1 c).1 rfl)) ?_
  refine skip c (dead0 (ag1_dead A c 0 (k := 0) (by omega) (off_back1 c).1 rfl)) fun _ => ?_
  refine seq c (on0 (ag1_store A c 0 (k := 0) (by omega) (off_back1 c).1 rfl rfl)) ?_
  refine seq c (pay0 (ag2_wait A c 0 K (k := 0) (by omega) rfl rfl (by omega))) ?_
  exact done c

/-- Group 0's last arrival; group 1's write, waits and arrival; group 2's write, and its send is done. -/
theorem part45 (v11 v17 v1173 v1192 v1269 : BitVec 32) :
    Takes c (St A K c (ag3 A c 0 0) (ag1 A c 1 0) (ag1 A c 2 0) 0) (k0_part45 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v11 v17 v1173 v1192 v1269)
      (St A K c (ag0 A c 0 0) (ag0 A c 1 0) (ag3 A c 2 0) 0) := by
  rw [k0_part45_eq_skeleton]; unfold k0_part45_skel; dsimp only
  refine seq c (pay0 (ag3_wait A c 0 K (k := 0) (by omega) rfl rfl (by omega))) ?_
  refine seq c (on1 (ag1_load A c 1 (k := 0) (by omega) (off_back1 c).2.1 rfl)) ?_
  refine skip c (dead1 (ag1_dead A c 1 (k := 0) (by omega) (off_back1 c).2.1 rfl)) fun _ => ?_
  refine seq c (on1 (ag1_store A c 1 (k := 0) (by omega) (off_back1 c).2.1 rfl rfl)) ?_
  refine seq c (pay1 (ag2_wait A c 1 K (k := 0) (by omega) rfl rfl (by omega))) ?_
  refine seq c (pay1 (ag3_wait A c 1 K (k := 0) (by omega) rfl rfl (by omega))) ?_
  refine seq c (on2 (ag1_load A c 2 (k := 0) (by omega) (off_back1 c).2.2 rfl)) ?_
  refine skip c (dead2 (ag1_dead A c 2 (k := 0) (by omega) (off_back1 c).2.2 rfl)) fun _ => ?_
  refine seq c (on2 (ag1_store A c 2 (k := 0) (by omega) (off_back1 c).2.2 rfl rfl)) ?_
  refine seq c (pay2 (ag2_wait A c 2 K (k := 0) (by omega) rfl rfl (by omega))) ?_
  exact done c

end Comm
end Cert.Hypercube
-- ==== Proof.Local.lean ====
/-
One device's own products: the double-buffered copies of its columns of the two arguments, the operands they become,
and the strips of the product.
-/
module

public import proofs.«01_k».proof.Proof.Comm

@[expose] public section

noncomputable section

namespace Cert.Hypercube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The arguments -/

abbrev argR : Fin 2 → Memref sig .tc .hbm S2048x8192 .f32
  | 0 => Memref.whole main_arg0
  | 1 => Memref.whole main_arg1

/-- The two arguments' contents on every device. -/
abbrev Inp (F : FTy → Type) : Type := (c : Dev nD) → (a : Fin 2) → Buf (Elt F) ((argR a).view.loc (c.tc : Thread nD τ))

/-- The index of a shape with the given coordinates, each taken modulo its extent. -/
def ix {n : ℕ} {d : Fin n → ℕ} (h : ∀ x, 0 < d x) (p : Fin n → ℕ) : (⟨n, d⟩ : Shape).Idx := fun x => ⟨p x % d x, Nat.mod_lt _ (h x)⟩

/-- An index is the one with its own coordinates. -/
theorem ix_val {n : ℕ} {d : Fin n → ℕ} (h : ∀ x, 0 < d x) (y : (⟨n, d⟩ : Shape).Idx) : ix h (fun x => (y x).val) = y := by
  funext x; exact Fin.ext (Nat.mod_eq_of_lt (y x).isLt)

/-- The first of device `c`'s columns. -/
def col0 (c : Dev nD) : ℕ := 4096 * ((c.val / 2) % 2) + 2048 * (c.val % 2)

/-- The arguments' extents are positive. -/
theorem pos_arg : ∀ x : Fin 2, 0 < (![2048, 8192] : Fin 2 → ℕ) x := by decide
/-- A strip's extents are positive. -/
theorem pos_strip : ∀ x : Fin 2, 0 < (![128, 2048] : Fin 2 → ℕ) x := by decide

/-- Device `c`'s columns of argument `a`. -/
def cols (X : Inp F) (c : Dev nD) (a : Fin 2) : Mat F .f32 :=
  fun r j => (argR a).view.read (Elt F) (X c a) (ix pos_arg ![r, col0 c + j.val])

/-- The same, narrowed: an operand of the product. -/
def bfs (X : Inp F) (c : Dev nD) (a : Fin 2) : Mat F .bf16 := fun r j => FloatOps.truncf .bf16 bitsLt_bf16_f32 (cols X c a r j)

/-- Device `c`'s product, a strip of 128 rows at a time. -/
def prod (X : Inp F) (c : Dev nD) : Mat F .bf16 :=
  fun r j => k0_pay23 (band 128 (bfs X c 0) (128 * (r / 128))) (band 2048 (bfs X c 1) 0) (ix pos_strip ![r, j.val])

/-- The product's strip `i` is the strip of the left operand times the whole right one. -/
theorem prod_band (X : Inp F) (c : Dev nD) (i : ℕ) :
    k0_pay23 (band 128 (bfs X c 0) (128 * i)) (band 2048 (bfs X c 1) 0) = band 128 (prod X c) (128 * i) := by
  funext y
  show _ = k0_pay23 (band 128 (bfs X c 0) (128 * ((128 * i + (y 0).val) / 128))) (band 2048 (bfs X c 1) 0) (ix pos_strip ![128 * i + (y 0).val, (y 1).val])
  have h0 : (y 0).val < 128 := (y 0).isLt
  have h1 : (y 1).val < 2048 := (y 1).isLt
  rw [show (128 * i + (y 0).val) / 128 = i by omega]
  congr 1
  funext x
  fin_cases x
  · apply Fin.ext; show (y 0).val = (128 * i + (y 0).val) % 128; omega
  · apply Fin.ext; show (y 1).val = (y 1).val % 2048; omega

section Ring
variable (X : Inp F) (c : Dev nD) (A : Dev nD → Mat F .bf16) (K : Dev nD × Fin 37 → ℕ)

/-- A strip of an argument, as a copy reads it. -/
theorem read_strip (a : Fin 2) {i : ℕ} (hi : i < 16) {off : Fin 2 → ℕ} (ho : off = ![128 * i, col0 c])
    (inb : ∀ x, off x + S128x2048.size x ≤ S2048x8192.size x) :
    ((argR a).slice (Rect.unit (s := S2048x8192) off S128x2048.size inb) (fun _ => rfl)).view.read (Elt F) (X c a) = band 128 (cols X c a) (128 * i) := by
  subst ho
  funext y
  show (argR a).view.read (Elt F) (X c a) ((Rect.unit (s := S2048x8192) ![128 * i, col0 c] S128x2048.size inb).emb y)
    = (argR a).view.read (Elt F) (X c a) (ix pos_arg ![128 * i + (y 0).val, col0 c + (y 1).val])
  congr 1
  have h0 : (y 0).val < 128 := (y 0).isLt
  have h1 : (y 1).val < 2048 := (y 1).isLt
  have hc : col0 c ≤ 6144 := by unfold col0; omega
  funext x
  fin_cases x
  · apply Fin.ext; show 128 * i + 1 * (y 0).val = (128 * i + (y 0).val) % 2048; omega
  · apply Fin.ext; show col0 c + 1 * (y 1).val = (col0 c + (y 1).val) % 8192; omega

/-! ## The two slots -/

abbrev ldM : Memref sig .tc .vmem S2x128x2048 .f32 := Memref.whole cc0_scratch3
set_option backward.proofsInPublic true in
abbrev lq (s : ℕ) : DmaSem sig := (⟨(1 + s) % 39, Nat.mod_lt _ (by decide)⟩ : Fin 39)

abbrev SlotIn (s : ℕ) : Prop := ∀ x, (![s, 0, 0] : Fin 3 → ℕ) x + S1x128x2048.size x ≤ S2x128x2048.size x

abbrev slot {s : ℕ} (h : SlotIn s) : Memref sig .tc .vmem S128x2048 .f32 :=
  (ldM.slice (Rect.unit (s := S2x128x2048) ![s, 0, 0] S1x128x2048.size h) (fun _ => rfl)).squeeze S128x2048 squeezes_S1x128x2048_S128x2048

/-- Slot 0 copies from one half of the arguments, slot 1 from the other. -/
def half (s : ℕ) : PosShare TreeShare := if s = 0 then fullShare.left else fullShare.right
def argH (s : ℕ) (a : Fin 2) : sProp 𝕄 := iprop((argR a).view.loc (c.tc : Thread nD τ) ↦[Finset.univ]{half s} X c a)
def args (s : ℕ) : sProp 𝕄 := iprop(argH X c s 0 ∗ argH X c s 1)

/-- A slot at any contents; a strip on its way into it; a strip in it. -/
def idle {s : ℕ} (h : SlotIn s) : sProp 𝕄 := iprop((∃ f : Buf (Elt F) ((slot h).view.loc (c.tc : Thread nD τ)), (slot h).view.loc (c.tc : Thread nD τ) ↦[(slot h).view.set]{fullShare} f)
  ∗ semVal ((c.tc : Thread nD τ), .dma (lq s)) 0 ∗ args X c s)
def holds {s : ℕ} (h : SlotIn s) (a : Fin 2) (i : ℕ) : sProp 𝕄 := iprop(∃ f : Buf (Elt F) ((slot h).view.loc (c.tc : Thread nD τ)),
  ⌜(slot h).view.read (Elt F) f = band 128 (cols X c a) (128 * i)⌝ ∗ ((slot h).view.loc (c.tc : Thread nD τ) ↦[(slot h).view.set]{fullShare} f))
def full {s : ℕ} (h : SlotIn s) (a : Fin 2) (i : ℕ) : sProp 𝕄 := iprop(holds X c h a i ∗ semVal ((c.tc : Thread nD τ), .dma (lq s)) 0 ∗ args X c s)
def fly {s : ℕ} (h : SlotIn s) (a : Fin 2) (i : ℕ) : sProp 𝕄 := iprop(∃ W : Finset (Idx ((argR a).view.loc (c.tc : Thread nD τ))),
  Transfers.Flight EC (c.tc : Thread nD τ) (.dma (lq s)) () (slot h).view.dmaCredit
      iprop(holds X c h a i ∗ ((argR a).view.loc (c.tc : Thread nD τ) ↦[W]{half s} X c a))
    ∗ ((argR a).view.loc (c.tc : Thread nD τ) ↦[Wᶜ]{half s} X c a) ∗ argH X c s (1 - a))

/-- A slot with a strip in it may be filled anew. -/
theorem full_idle {s : ℕ} (h : SlotIn s) (a : Fin 2) (i : ℕ) : full X c h a i ⊢ (idle X c h : sProp 𝕄) := by
  unfold full idle holds
  iintro ⟨⟨%f, -, H⟩, HR⟩
  isplitl [H]; · (iexists f; iexact H)
  iexact HR

/-- A slot's share of the arguments is that of one argument and that of the other, -/
theorem args_take (s : ℕ) (a : Fin 2) : args X c s ⊢ (iprop(argH X c s a ∗ argH X c s (1 - a)) : sProp 𝕄) := by
  unfold args
  fin_cases a
  · exact Entails.of_eq rfl
  · iintro ⟨H0, H1⟩; isplitl [H1]; · iexact H1
    iexact H0
/-- and is made up of the two again. -/
theorem args_put (s : ℕ) (a : Fin 2) : (iprop(argH X c s a ∗ argH X c s (1 - a)) : sProp 𝕄) ⊢ args X c s := by
  unfold args
  fin_cases a
  · exact Entails.of_eq rfl
  · iintro ⟨H1, H0⟩; isplitl [H0]; · iexact H0
    iexact H1

section
variable {s : ℕ} (h : SlotIn s) (a : Fin 2) {i : ℕ}

/-- Starting a strip's copy into a slot. -/
theorem ld_start (hi : i < 16) {off : Fin 2 → ℕ} (ho : off = ![128 * i, col0 c]) {q : DmaSem sig} (hq : q = lq s)
    {inb : ∀ x, off x + S128x2048.size x ≤ S2048x8192.size x} {hw} {hw'} {hty} :
    Does c (idle X c h) (Prog.lift (.enqueueDma ((argR a).slice (Rect.unit (s := S2048x8192) off S128x2048.size inb) (fun _ => rfl))
      (.here (slot h)) (.dma q) hw hw' hty)) ⟨⟩ (fly X c h a i) := by
  subst hq
  have hr := read_strip X c a hi ho inb
  unfold idle fly
  iintro ⟨⟨%f, Hd⟩, Hv, Ha⟩
  ihave Ha := (args_take X c s a) $$ Ha
  icases Ha with ⟨Ha, Ho⟩
  unfold argH
  rw [← Finset.union_compl ((argR a).slice (Rect.unit (s := S2048x8192) off S128x2048.size inb) (fun _ => rfl)).view.set]
  ihave Ha := (pointsTo_union (disjoint_compl_right)).1 $$ Ha
  icases Ha with ⟨Hs, Hc⟩
  unfold Prog.lift
  iapply (Transfers.wp_dmaLocal EC 𝒱₀ (c.tc : Thread nD τ) none () (slot h).view.dmaCredit rfl
    (View.dmaCredit_pos _ (Shape.numel_pos fun x => by fin_cases x <;> decide)) (Finset.Subset.refl _)) $$ [Hs Hd Hv]
  · isplitl [Hs]; · iexact Hs
    isplitl [Hd] <;> iassumption
  iintro HF
  rw [wp_ret]; imodintro
  isplitr; · (ipureintro; rfl)
  iexists ((argR a).slice (Rect.unit (s := S2048x8192) off S128x2048.size inb) (fun _ => rfl)).view.set
  isplitl [HF]
  · iapply (Transfers.Flight_mono EC (c.tc : Thread nD τ) ?_) $$ HF
    refine sep_mono_left ?_
    unfold holds
    iintro H
    iexists _
    isplitr; swap; · iexact H
    ipureintro
    rw [View.read_write_univ]; exact hr
  isplitl [Hc]; · iexact Hc
  iexact Ho

/-- Waiting for it. -/
theorem ld_wait {n : ℕ} (hn : n ≤ 18) {s₁ s₂ : Shape} {sp sp' : Space} {e e' : EltTy}
    {srcw : Memref sig .tc sp s₁ e} {dstw : Memref sig .tc sp' s₂ e'} {h1 : srcw.view.WordExact} {h2 : dstw.view.WordExact} {q : DmaSem sig}
    (hs : s < 2) (hq : q = lq s) (hN : dstw.view.dmaCredit = (slot h).view.dmaCredit) :
    Does c iprop(fly X c h a i ∗ owesW A K c n) (Prog.lift (.waitDma2 q srcw dstw h1 h2)) ⟨⟩ iprop(full X c h a i ∗ owesW A K c n) := by
  subst hq
  unfold fly full owesW
  iintro ⟨⟨%W, HF, Hc, Ho⟩, ⟨%Ws, HO⟩, #He⟩
  ihave #Hl := (env_lev A K) $$ He
  unfold Prog.lift
  iapply (Transfers.wp_waitLocalO EC 𝒱₀ (c.tc : Thread nD τ) none () hN) $$ [HF HO]
  · isplitl [HF]; · iexact HF
    isplitl [HO]; · iexact HO
    iapply (mayWait c (.dma (lq s)) n (fun t h1 h2 => by
      rw [if_neg (by omega)]; unfold slv
      rw [if_neg (dma_ne_bar _), if_pos (by show (1 + s) % 39 < 21; omega)]; omega))
    iexact Hl
  iintro ⟨⟨Hh, Hw⟩, Hv, HO⟩
  rw [wp_ret]; imodintro
  isplitr; · (ipureintro; rfl)
  isplitr [HO]
  · isplitl [Hh]; · iexact Hh
    isplitl [Hv]; · iexact Hv
    iapply (args_put X c s a)
    isplitr [Ho]; swap; · iexact Ho
    unfold argH
    rw [← Finset.union_compl W]
    iapply (pointsTo_union (disjoint_compl_right)).2
    isplitl [Hw] <;> iassumption
  isplitl [HO]; · (iexists _; iexact HO)
  iexact He

/-- A strip as the slot's block of one, 128 and 2048. -/
def up (x : Vec F S128x2048 .f32) : Vec F S1x128x2048 .f32 := fun j => x ((Shape.reshapeEquiv shapeCasts_S1x128x2048_S128x2048).symm j)

/-- Reading a slot. -/
theorem ld_load {hl} :
    Does c (full X c h a i) (Prog.lift (.load ldM (Rect.unit (s := S2x128x2048) ![s, 0, 0] S1x128x2048.size h).toLoadRect hl))
      (up (band 128 (cols X c a) (128 * i))) (full X c h a i) := by
  unfold full
  refine Does.frame ?_
  unfold holds
  iintro ⟨%f, %hf, H⟩
  unfold Prog.lift
  iapply (wp_load_rect 𝒱₀ (c.tc : Thread nD τ) none Set.univ (m := ldM) (r := Rect.unit (s := S2x128x2048) ![s, 0, 0] S1x128x2048.size h) (by
    rw [View.set_reshape])) $$ H
  iintro H
  rw [wp_ret]; imodintro
  isplitr
  · ipureintro
    rw [← hf]; funext j
    show _ = (ldM.access (Rect.unit (s := S2x128x2048) ![s, 0, 0] S1x128x2048.size h)).read (Elt F) f
      (Shape.reshapeEquiv _ ((Shape.reshapeEquiv shapeCasts_S1x128x2048_S128x2048).symm j))
    rw [Equiv.apply_symm_apply]
  iexists f; isplitr; · (ipureintro; exact hf)
  iexact H
end

/-- A strip read from a slot and narrowed. -/
theorem pay_cast (x : Vec F S128x2048 .f32) :
    truncf .bf16 (shapeCast S128x2048 (up x) shapeCasts_S1x128x2048_S128x2048) bitsLt_bf16_f32 = fun i => FloatOps.truncf .bf16 bitsLt_bf16_f32 (x i) := by
  funext i
  show FloatOps.truncf .bf16 bitsLt_bf16_f32 (x ((Shape.reshapeEquiv shapeCasts_S1x128x2048_S128x2048).symm (Shape.reshapeEquiv shapeCasts_S1x128x2048_S128x2048 i))) = _
  rw [Equiv.symm_apply_apply]
/-- A strip taken at its own shape is itself. -/
theorem pay_same {e : EltTy} (x : S128x2048.Idx → Elt F e) : shapeCast S128x2048 x shapeCasts_S128x2048_S128x2048 = x := by
  funext i; show x (Shape.reshapeEquiv _ i) = _; rw [Shape.reshapeEquiv_self]
/-- A strip read from its slot and narrowed is narrowed entry by entry. -/
theorem pay_strip (x : Vec F S128x2048 .f32) :
    shapeCast S128x2048 (truncf .bf16 (shapeCast S128x2048 (up x) shapeCasts_S1x128x2048_S128x2048) bitsLt_bf16_f32) shapeCasts_S128x2048_S128x2048
      = fun i => FloatOps.truncf .bf16 bitsLt_bf16_f32 (x i) := (pay_same (e := .bf16) _).trans (pay_cast x)

end Ring

/-! ## A buffer of 2048 rows filled a strip at a time -/

section Strips
variable (c : Dev nD) {e : EltTy} (M : Memref sig .tc .vmem (Sh 2048) e) (Y : Mat F e)

/-- Rows `lo` to `128 * i` are those of `Y`; the rest is at any contents. -/
def grow (lo i : ℕ) : sProp 𝕄 := iprop(own c M lo (128 * i - lo) fullShare Y ∗ ownAny c M (128 * i) (2048 - 128 * i))

omit [FloatOps F] in
/-- Rows at any contents split where wished. -/
theorem any_split {R : ℕ} (M : Memref sig .tc .vmem (Sh R) e) (lo n m : ℕ) : ownAny c M lo (n + m) ⊢ (iprop(ownAny c M lo n ∗ ownAny c M (lo + n) m) : sProp 𝕄) := by
  unfold ownAny
  iintro ⟨%B, H⟩
  ihave H := (own_split c M lo n m fullShare B) $$ H
  icases H with ⟨H1, H2⟩
  isplitl [H1]; · (iexists B; iexact H1)
  iexists B; iexact H2

/-- Reading rows at any contents. -/
theorem any_load {R : ℕ} (M : Memref sig .tc .vmem (Sh R) e) {lo n nr : ℕ} {off : Fin 2 → ℕ} (ho : off = ![lo, 0]) (hr : nr ≤ n)
    {inb : ∀ x, off x + (Sh nr).size x ≤ (Sh R).size x} {hl} :
    Takes (F := F) c (ownAny c M lo n) (Prog.lift (.load M (Rect.unit (s := Sh R) off (Sh nr).size inb).toLoadRect hl)) (ownAny c M lo n) := by
  unfold ownAny
  iintro ⟨%B, H⟩
  iapply (wp_mono _ _ _ (Q := fun v => iprop(⌜v = band nr B lo⌝ ∗ own c M lo n fullShare B)) fun v => ?_)
  · iintro ⟨-, H⟩; iexists B; iexact H
  iapply (load_band c M ho (le_refl _) (by omega)); iexact H

/-- Writing rows at any contents. -/
theorem any_store {R : ℕ} (M : Memref sig .tc .vmem (Sh R) e) {lo nr : ℕ} {Y : Mat F e} {off : Fin 2 → ℕ} (ho : off = ![lo, 0])
    {inb : ∀ x, off x + (Sh nr).size x ≤ (Sh R).size x} {w : (Rect.unit (s := Sh R) off (Sh nr).size inb).shape.Idx → Elt F e} {hx} {hm} (hw : w = band nr Y lo) :
    Does c (ownAny c M lo nr) (Prog.lift (.store M (Rect.unit (s := Sh R) off (Sh nr).size inb) w Finset.univ hx hm)) ⟨⟩ (own c M lo nr fullShare Y) := by
  unfold ownAny
  iintro ⟨%B, H⟩
  iapply (store_band c M ho hw); iexact H

variable {lo i : ℕ} (hi : i < 16)
include hi

/-- A load of rows that are about to be overwritten changes nothing. -/
theorem grow_dead {off : Fin 2 → ℕ} (ho : off = ![128 * i, 0]) {inb : ∀ x, off x + (Sh 128).size x ≤ (Sh 2048).size x} {hl} :
    Takes c (grow c M Y lo i) (Prog.lift (.load M (Rect.unit (s := Sh 2048) off (Sh 128).size inb).toLoadRect hl)) (grow c M Y lo i) :=
  Takes.frame_l (any_load c M ho (by omega))

/-- A store of strip `i` adds it to the strips that are there. -/
theorem grow_store (hlo : lo ≤ 128 * i) {off : Fin 2 → ℕ} (ho : off = ![128 * i, 0]) {inb : ∀ x, off x + (Sh 128).size x ≤ (Sh 2048).size x}
    {w : (Rect.unit (s := Sh 2048) off (Sh 128).size inb).shape.Idx → Elt F e} {hx} {hm} (hw : w = band 128 Y (128 * i)) :
    Does c (grow c M Y lo i) (Prog.lift (.store M (Rect.unit (s := Sh 2048) off (Sh 128).size inb) w Finset.univ hx hm)) ⟨⟩ (grow c M Y lo (i + 1)) := by
  unfold grow
  have h1 : 2048 - 128 * i = 128 + (2048 - 128 * (i + 1)) := by omega
  have h2 : 128 * (i + 1) - lo = (128 * i - lo) + 128 := by omega
  have h3 : 128 * i + 128 = 128 * (i + 1) := by omega
  have h4 : lo + (128 * i - lo) = 128 * i := by omega
  rw [h1, h2]
  have hj := own_join c M lo (128 * i - lo) 128 fullShare Y
  rw [h4] at hj
  have hs := any_split (F := F) c M (128 * i) 128 (2048 - 128 * (i + 1))
  rw [h3] at hs
  refine Does.mono (Does.frame_l (R := own c M lo (128 * i - lo) fullShare Y)
    (Does.frame (R := ownAny c M (128 * (i + 1)) (2048 - 128 * (i + 1))) (any_store c M ho (hx := hx) (hm := hm) hw))) (sep_mono_right hs) ?_
  iintro ⟨H1, H2, H3⟩
  isplitr [H3]; swap; · iexact H3
  iapply hj
  isplitl [H1] <;> iassumption
end Strips

/-- Nothing filled yet. -/
theorem grow_start (c : Dev nD) {e : EltTy} (M : Memref sig .tc .vmem (Sh 2048) e) (Y : Mat F e) : ownAny c M 0 2048 ⊢ (grow c M Y 0 0 : sProp 𝕄) := by
  unfold grow
  iintro H
  ihave H := (any_split (F := F) c M 0 0 2048) $$ H
  icases H with ⟨H1, H2⟩
  isplitl [H1]; swap; · iexact H2
  unfold ownAny
  icases H1 with ⟨%B, H1⟩
  iapply (own_congr c M (A := B) (fun r j h1 h2 => by omega)); iexact H1

/-- The first rows taken out. -/
theorem grow_take (c : Dev nD) {e : EltTy} (M : Memref sig .tc .vmem (Sh 2048) e) (Y : Mat F e) {lo n i : ℕ} (h : lo + n = 128 * i) :
    grow c M Y lo i ⊢ (iprop(own c M lo n fullShare Y ∗ grow c M Y (lo + n) i) : sProp 𝕄) := by
  unfold grow
  rw [show 128 * i - lo = n + (128 * i - (lo + n)) by omega]
  iintro ⟨H, HR⟩
  ihave H := (own_split c M lo n (128 * i - (lo + n)) fullShare Y) $$ H
  icases H with ⟨H1, H2⟩
  isplitl [H1]; · iexact H1
  isplitl [H2] <;> iassumption

/-- Reading the whole operand. -/
theorem grow_load (c : Dev nD) {e : EltTy} (M : Memref sig .tc .vmem (Sh 2048) e) (Y : Mat F e) {off : Fin 2 → ℕ} (ho : off = ![0, 0])
    {inb : ∀ x, off x + (Sh 2048).size x ≤ (Sh 2048).size x} {hl} :
    Does c (grow c M Y 0 16) (Prog.lift (.load M (Rect.unit (s := Sh 2048) off (Sh 2048).size inb).toLoadRect hl)) (band 2048 Y 0) (grow c M Y 0 16) :=
  Does.frame (load_band c M ho (le_refl _) (by omega))

/-! ## The strip of the left operand -/

section Left
variable (X : Inp F) (c : Dev nD) {i : ℕ}
abbrev bM : Memref sig .tc .vmem (Sh 2048) .bf16 := Memref.whole cc0_scratch1
abbrev aM : Memref sig .tc .vmem (Sh 128) .bf16 := Memref.whole cc0_scratch2

abbrev left : sProp (MT nD τ sig Unit (Elt F) ℕ UU ℕ) := ownAny c aM 0 128
def leftIs (i : ℕ) : sProp 𝕄 := own c aM 0 128 fullShare (fun r => bfs X c 0 (128 * i + r))

/-- The store of the left operand's strip. -/
theorem left_store {off : Fin 2 → ℕ} (ho : off = ![0, 0]) {inb : ∀ x, off x + (Sh 128).size x ≤ (Sh 128).size x}
    {w : (Rect.unit (s := Sh 128) off (Sh 128).size inb).shape.Idx → Elt F .bf16} {hx} {hm} (hw : w = band 128 (bfs X c 0) (128 * i)) :
    Does c (left c) (Prog.lift (.store aM (Rect.unit (s := Sh 128) off (Sh 128).size inb) w Finset.univ hx hm)) ⟨⟩ (leftIs X c i) :=
  any_store c aM ho (by rw [hw]; funext y; unfold band; rw [Nat.zero_add])

/-- The load of the left operand's strip. -/
theorem left_load {off : Fin 2 → ℕ} (ho : off = ![0, 0]) {inb : ∀ x, off x + (Sh 128).size x ≤ (Sh 128).size x} {hl} :
    Does c (leftIs X c i) (Prog.lift (.load aM (Rect.unit (s := Sh 128) off (Sh 128).size inb).toLoadRect hl)) (band 128 (bfs X c 0) (128 * i)) (left c) := by
  have h := load_band c aM (lo := 0) (m := 128) (q := fullShare) (A := fun r => bfs X c 0 (128 * i + r)) (hl := hl) ho (le_refl _) (le_refl _)
  have hb : band 128 (fun r => bfs X c 0 (128 * i + r)) 0 = band 128 (bfs X c 0) (128 * i) := by
    funext y; unfold band; rw [Nat.zero_add]
  rw [hb] at h
  exact Does.mono h (Entails.of_eq rfl) (own_any _ _ _ _ _)
end Left

end Cert.Hypercube
-- ==== Proof.Matmul.lean ====
/-
The first half of the kernel on one device: the barrier, the right operand's sixteen strips, then the product's, with
the first two groups' first sends as soon as their rows are done.
-/
module

public import proofs.«01_k».proof.Proof.Local

@[expose] public section

noncomputable section

namespace Cert.Hypercube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Matmul
variable (X : Inp F) (K : Dev nD × Fin 37 → ℕ) (c : Dev nD)

abbrev h0 : SlotIn 0 := inb_S2x128x2048_S1x128x2048_0_0_0
abbrev h1 : SlotIn 1 := inb_S2x128x2048_S1x128x2048_1_0_0

/-- The right operand and the product with their first strips in, and what a group holds before its rows are done. -/
abbrev bAt (i : ℕ) : sProp (MT nD τ sig Unit (Elt F) ℕ UU ℕ) := grow c bM (bfs X c 1) 0 i
abbrev cAt (lo i : ℕ) : sProp (MT nD τ sig Unit (Elt F) ℕ UU ℕ) := grow c accM (prod X c) lo i
def pre₀ (g : Fin 3) : sProp 𝕄 := iprop(todos c g 6 ∗ got c g 0 ∗ peers c g 0 ∗ dones c g 0 ∗ un c g 4)
def pre (g : Fin 3) : sProp 𝕄 := iprop(dsts c g 3 ∗ pre₀ c g)

/-- The two slots, the right operand, the left one's strip, the product, and the groups. -/
abbrev MSt (L0 L1 B Y C P Q R : sProp (MT nD τ sig Unit (Elt F) ℕ UU ℕ)) (n : ℕ) : sProp (MT nD τ sig Unit (Elt F) ℕ UU ℕ) :=
  iprop(L0 ∗ L1 ∗ B ∗ Y ∗ C ∗ St (prod X) K c P Q R n)

section Lifts
variable {α : Type} {p : Prog (TpuEff nD τ sig (Elt F) Λ₀ .tc) α} {a : α} {n n' : ℕ}
  {L0 L1 B Y C P Q R L P' Q' R' : sProp (MT nD τ sig Unit (Elt F) ℕ UU ℕ)} {X K c}

/-! An effect on one part of the state. -/

/-- A step of slot 0 alone. -/
theorem inL0 (h : Does c L0 p a L) : Does c (MSt X K c L0 L1 B Y C P Q R n) p a (MSt X K c L L1 B Y C P Q R n) := Does.frame h
/-- A step of slot 1 alone. -/
theorem inL1 (h : Does c L1 p a L) : Does c (MSt X K c L0 L1 B Y C P Q R n) p a (MSt X K c L0 L B Y C P Q R n) :=
  Does.frame_l (Does.frame h)
/-- A step of the right operand alone. -/
theorem inB (h : Does c B p a L) : Does c (MSt X K c L0 L1 B Y C P Q R n) p a (MSt X K c L0 L1 L Y C P Q R n) :=
  Does.frame_l (Does.frame_l (Does.frame h))
/-- A step of the left operand's strip alone. -/
theorem inY (h : Does c Y p a L) : Does c (MSt X K c L0 L1 B Y C P Q R n) p a (MSt X K c L0 L1 B L C P Q R n) :=
  Does.frame_l (Does.frame_l (Does.frame_l (Does.frame h)))
/-- A step of the product alone. -/
theorem inC (h : Does c C p a L) : Does c (MSt X K c L0 L1 B Y C P Q R n) p a (MSt X K c L0 L1 B Y L P Q R n) :=
  Does.frame_l (Does.frame_l (Does.frame_l (Does.frame_l (Does.frame h))))
/-- A step of the exchange alone. -/
theorem inG (h : Does c (St (prod X) K c P Q R n) p a (St (prod X) K c P' Q' R' n')) :
    Does c (MSt X K c L0 L1 B Y C P Q R n) p a (MSt X K c L0 L1 B Y C P' Q' R' n') :=
  Does.frame_l (Does.frame_l (Does.frame_l (Does.frame_l (Does.frame_l h))))
/-- A step of the right operand whose value is not used. -/
theorem dB (h : Takes c B p L) : Takes c (MSt X K c L0 L1 B Y C P Q R n) p (MSt X K c L0 L1 L Y C P Q R n) :=
  Takes.frame_l (Takes.frame_l (Takes.frame h))
/-- A step of the left operand's strip whose value is not used. -/
theorem dY (h : Takes c Y p L) : Takes c (MSt X K c L0 L1 B Y C P Q R n) p (MSt X K c L0 L1 B L C P Q R n) :=
  Takes.frame_l (Takes.frame_l (Takes.frame_l (Takes.frame h)))
/-- A step of the product whose value is not used. -/
theorem dC (h : Takes c C p L) : Takes c (MSt X K c L0 L1 B Y C P Q R n) p (MSt X K c L0 L1 B Y L P Q R n) :=
  Takes.frame_l (Takes.frame_l (Takes.frame_l (Takes.frame_l (Takes.frame h))))

/-! The state with one slot beside the payments. -/

/-- Slot 0 and the payments left, brought to the front, -/
theorem out0 : MSt X K c L0 L1 B Y C P Q R n ⊢ iprop((L0 ∗ owesW (prod X) K c n) ∗ L1 ∗ B ∗ Y ∗ C ∗ P ∗ Q ∗ R) := by
  iintro ⟨H0, H1, HB, HY, HC, HP, HQ, HR, HO⟩
  isplitl [H0 HO]; · isplitl [H0] <;> iassumption
  isplitl [H1]; · iexact H1
  isplitl [HB]; · iexact HB
  isplitl [HY]; · iexact HY
  isplitl [HC]; · iexact HC
  isplitl [HP]; · iexact HP
  isplitl [HQ] <;> iassumption
/-- and put back. -/
theorem back0 : iprop((L0 ∗ owesW (prod X) K c n) ∗ L1 ∗ B ∗ Y ∗ C ∗ P ∗ Q ∗ R) ⊢ MSt X K c L0 L1 B Y C P Q R n := by
  iintro ⟨⟨H0, HO⟩, H1, HB, HY, HC, HP, HQ, HR⟩
  isplitl [H0]; · iexact H0
  isplitl [H1]; · iexact H1
  isplitl [HB]; · iexact HB
  isplitl [HY]; · iexact HY
  isplitl [HC]; · iexact HC
  isplitl [HP]; · iexact HP
  isplitl [HQ]; · iexact HQ
  isplitl [HR] <;> iassumption
/-- The slots may be named in either order. -/
theorem flip : MSt X K c L0 L1 B Y C P Q R n ⊢ MSt X K c L1 L0 B Y C P Q R n := by
  iintro ⟨H0, H1, HR⟩
  isplitl [H1]; · iexact H1
  isplitl [H0] <;> iassumption
/-- A wait at slot 0, which looks at the payments left. -/
theorem wL0 (h : Does c iprop(L0 ∗ owesW (prod X) K c n) p a iprop(L ∗ owesW (prod X) K c n)) :
    Does c (MSt X K c L0 L1 B Y C P Q R n) p a (MSt X K c L L1 B Y C P Q R n) := Does.mono (Does.frame h) out0 back0
/-- A wait at slot 1, which looks at the payments left. -/
theorem wL1 (h : Does c iprop(L1 ∗ owesW (prod X) K c n) p a iprop(L ∗ owesW (prod X) K c n)) :
    Does c (MSt X K c L0 L1 B Y C P Q R n) p a (MSt X K c L0 L B Y C P Q R n) := Does.mono (wL0 h) flip flip

/-! A group's rows are done. -/

/-- Once the product has all the rows of a group, the group is ready for its first round. -/
theorem rows_done (g : Fin 3) {lo lo' i : ℕ} (h1 : lo = gs g) (h2 : lo' = lo + sz g 0) (h3 : lo' = 128 * i) :
    iprop(cAt X c lo i ∗ pre c g) ⊢ iprop(cAt X c lo' i ∗ rs0 (prod X) c g 0) := by
  have ht := grow_take c accM (prod X c) (lo := lo) (n := sz g 0) (i := i) (by omega)
  unfold pre pre₀ rs0
  rw [show st g 0 c = lo from h1.symm]
  iintro ⟨HC, HP⟩
  ihave HC := ht $$ HC
  icases HC with ⟨HA, HC⟩
  rw [h2]
  isplitl [HC]; · iexact HC
  isplitl [HA]; · iexact HA
  iexact HP
variable {lo lo' i : ℕ}
/-- Group 0's rows leave the product for the exchange. -/
theorem take0 (h1 : lo = gs 0) (h2 : lo' = lo + sz 0 0) (h3 : lo' = 128 * i) :
    MSt X K c L0 L1 B Y (cAt X c lo i) (pre c 0) Q R n ⊢ MSt X K c L0 L1 B Y (cAt X c lo' i) (rs0 (prod X) c 0 0) Q R n := by
  refine sep_mono_right (sep_mono_right (sep_mono_right (sep_mono_right ?_)))
  iintro ⟨HC, HP, HR⟩
  ihave H := (rows_done 0 h1 h2 h3) $$ [HC HP]
  · isplitl [HC] <;> iassumption
  icases H with ⟨HC, HP⟩
  isplitl [HC]; · iexact HC
  isplitl [HP] <;> iassumption
/-- Group 1's rows leave the product for the exchange. -/
theorem take1 (h1 : lo = gs 1) (h2 : lo' = lo + sz 1 0) (h3 : lo' = 128 * i) :
    MSt X K c L0 L1 B Y (cAt X c lo i) P (pre c 1) R n ⊢ MSt X K c L0 L1 B Y (cAt X c lo' i) P (rs0 (prod X) c 1 0) R n := by
  refine sep_mono_right (sep_mono_right (sep_mono_right (sep_mono_right ?_)))
  iintro ⟨HC, HQ, HP, HR⟩
  ihave H := (rows_done 1 h1 h2 h3) $$ [HC HP]
  · isplitl [HC] <;> iassumption
  icases H with ⟨HC, HP⟩
  isplitl [HC]; · iexact HC
  isplitl [HQ]; · iexact HQ
  isplitl [HP] <;> iassumption
/-- Group 2's rows leave the product for the exchange. -/
theorem take2 (h1 : lo = gs 2) (h2 : lo' = lo + sz 2 0) (h3 : lo' = 128 * i) :
    MSt X K c L0 L1 B Y (cAt X c lo i) P Q (pre c 2) n ⊢ MSt X K c L0 L1 B Y (cAt X c lo' i) P Q (rs0 (prod X) c 2 0) n := by
  refine sep_mono_right (sep_mono_right (sep_mono_right (sep_mono_right ?_)))
  iintro ⟨HC, HQ, HR, HP, HO⟩
  ihave H := (rows_done 2 h1 h2 h3) $$ [HC HP]
  · isplitl [HC] <;> iassumption
  icases H with ⟨HC, HP⟩
  isplitl [HC]; · iexact HC
  isplitl [HQ]; · iexact HQ
  isplitl [HR]; · iexact HR
  isplitl [HP] <;> iassumption
end Lifts

/-- The next strip's copy into a slot that has been read. -/
theorem ld_next {s : ℕ} (h : SlotIn s) (a : Fin 2) {i : ℕ} {a' : Fin 2} {i' : ℕ} (hi : i < 16) {off : Fin 2 → ℕ} (ho : off = ![128 * i, col0 c])
    {q : DmaSem sig} (hq : q = lq s) {inb : ∀ x, off x + S128x2048.size x ≤ S2048x8192.size x} {hw} {hw'} {hty} :
    Does c (full X c h a' i') (Prog.lift (.enqueueDma ((argR a).slice (Rect.unit (s := S2048x8192) off S128x2048.size inb) (fun _ => rfl))
      (.here (slot h)) (.dma q) hw hw' hty)) ⟨⟩ (fly X c h a i) :=
  (full_idle X c h a' i').trans (ld_start X c h a hi ho hq)

/-! ## The barrier -/

/-- What the signal along `a` takes; what the wait takes; the rest of a device's state at the start. -/
def barOut (a : Fin 3) : sProp 𝕄 := iprop(barPay (nbr c a) a ∗ dutyTok ER (barCell (nbr c a)) 0 a)
def barIn : sProp 𝕄 := iprop(cred (tallyAt (barCell c) () 3) ∗ atPos ER (barCell c) 0 ∅ 0)
def rest0 : sProp 𝕄 := iprop(idle X c h0 ∗ idle X c h1 ∗ bAt X c 0 ∗ left c ∗ cAt X c 0 0 ∗ pre₀ c 0 ∗ pre₀ c 1 ∗ pre₀ c 2)

/-- The neighbours' windows, by group. -/
theorem bars_dsts : iprop(barPay c 0 ∗ barPay c 1 ∗ barPay c 2) ⊢ (iprop(dsts c 0 3 ∗ dsts c 1 3 ∗ dsts c 2 3) : sProp 𝕄) := by
  unfold barPay
  refine BIBase.Entails.trans ?_ (Entails.of_eq (show (iprop((barPart c 0 0 ∗ barPart c 1 0 ∗ barPart c 2 0 ∗ emp)
    ∗ (barPart c 1 1 ∗ barPart c 2 1 ∗ barPart c 0 1 ∗ emp) ∗ (barPart c 2 2 ∗ barPart c 0 2 ∗ barPart c 1 2 ∗ emp)) : sProp 𝕄) = _ from rfl))
  iintro ⟨⟨H00, H01, H02⟩, ⟨H10, H11, H12⟩, H20, H21, H22⟩
  isplitl [H00 H10 H20]
  · isplitl [H00]; · iexact H00
    isplitl [H10]; · iexact H10
    isplitl [H20]; · iexact H20
    iempintro
  isplitl [H01 H11 H21]
  · isplitl [H11]; · iexact H11
    isplitl [H21]; · iexact H21
    isplitl [H01]; · iexact H01
    iempintro
  isplitl [H22]; · iexact H22
  isplitl [H02]; · iexact H02
  isplitl [H12]; · iexact H12
  iempintro

/-- The third barrier signal. -/
theorem signal2 {p : Dev nD} (hp : p = nbr c 2) :
    Does c iprop((barOut c 2 ∗ barIn c) ∗ (rest0 X c ∗ owesW (prod X) K c 19)) (semSignalWord p barS 1#32) ⟨⟩
      iprop(barIn c ∗ rest0 X c ∗ owesW (prod X) K c 18) := by
  refine Does.mono (Does.frame_l (R := iprop(barIn c ∗ rest0 X c)) (signal (prod X) K c 2 (n := 18) rfl hp)) ?_ ?_
  · unfold barOut
    iintro ⟨⟨H1, H2⟩, H3, H4⟩
    isplitl [H2 H3]; · isplitl [H2] <;> iassumption
    isplitl [H1] <;> iassumption
  · iintro ⟨⟨H1, H2⟩, H3⟩
    isplitl [H1]; · iexact H1
    isplitl [H2] <;> iassumption

/-- The barrier's wait: the neighbours' receive windows are now this device's to write to. -/
theorem wait_bar : Does c iprop(barIn c ∗ rest0 X c ∗ owesW (prod X) K c 18) (semWaitWord barS 3#32) ⟨⟩
    iprop(semVal (barCell c) 0 ∗ MSt X K c (idle X c h0) (idle X c h1) (bAt X c 0) (left c) (cAt X c 0 0) (pre c 0) (pre c 1) (pre c 2) 18) := by
  refine Does.mono (Does.frame_l (R := rest0 X c) (bar_wait (prod X) K c)) ?_ ?_
  · unfold barIn
    iintro ⟨H1, H2, H3⟩
    isplitl [H2]; · iexact H2
    isplitl [H1] <;> iassumption
  · unfold rest0 pre
    iintro ⟨⟨HL0, HL1, HB, HY, HC, HP, HQ, HR⟩, ⟨Hb0, Hb1, Hb2, Hz⟩, HO⟩
    ihave Hd := (bars_dsts c) $$ [Hb0 Hb1 Hb2]
    · isplitl [Hb0]; · iexact Hb0
      isplitl [Hb1] <;> iassumption
    icases Hd with ⟨Hd0, Hd1, Hd2⟩
    isplitl [Hz]; · iexact Hz
    isplitl [HL0]; · iexact HL0
    isplitl [HL1]; · iexact HL1
    isplitl [HB]; · iexact HB
    isplitl [HY]; · iexact HY
    isplitl [HC]; · iexact HC
    isplitl [Hd0 HP]; · isplitl [Hd0] <;> iassumption
    isplitl [Hd1 HQ]; · isplitl [Hd1] <;> iassumption
    isplitl [Hd2 HR]; · isplitl [Hd2] <;> iassumption
    iexact HO

/-- The first two signals. -/
theorem part1 (Z : sProp (MT nD τ sig Unit (Elt F) ℕ UU ℕ)) :
    iprop((barOut c 0 ∗ barOut c 1) ∗ Z ∗ owesW (prod X) K c 21) ⊢ wp frame (wpE (defs₀ (F := F)) 𝒱₀ (c.tc : Thread nD τ) none) Set.univ
      (k0_part1 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9) (fun v => iprop(⌜v.1 = c ∧ v.2.2.2.2 = SemArray.scalar (sig.barrier 0 rfl)⌝ ∗ Z ∗ owesW (prod X) K c 19)) := by
  rw [k0_part1_eq_skeleton]; unfold k0_part1_skel; dsimp only
  have hd : Does c iprop((barOut c 0 ∗ barOut c 1) ∗ Z ∗ owesW (prod X) K c 21) (Prog.lift .deviceId) c
      iprop((barOut c 0 ∗ barOut c 1) ∗ Z ∗ owesW (prod X) K c 21) := by
    iintro H
    unfold Prog.lift
    rw [wp_deviceId, wp_ret]; imodintro
    isplitr; · (ipureintro; rfl)
    iexact H
  refine seq c hd ?_
  refine seq c (P' := iprop((barOut c 1 ∗ Z) ∗ owesW (prod X) K c 20))
    (Does.mono (Does.frame_l (R := iprop(barOut c 1 ∗ Z)) (signal (prod X) K c 0 (n := 20) rfl (Fin.ext (dev_bar c).1))) ?_ (Entails.of_eq rfl)) ?_
  · unfold barOut
    iintro ⟨⟨H0, H1⟩, HZ, HO⟩
    isplitl [H1 HZ]; · isplitl [H1] <;> iassumption
    isplitl [H0] <;> iassumption
  refine seq c (P' := iprop(Z ∗ owesW (prod X) K c 19))
    (Does.mono (Does.frame_l (R := Z) (signal (prod X) K c 1 (n := 19) rfl (Fin.ext (dev_bar c).2.1))) ?_ (Entails.of_eq rfl)) ?_
  · unfold barOut
    iintro ⟨⟨H1, HZ⟩, HO⟩
    isplitl [HZ]; · iexact HZ
    isplitl [H1] <;> iassumption
  show _ ⊢ wp _ _ _ (Prog.ret _) _
  rw [wp_ret]
  iintro H; imodintro
  isplitr; · (ipureintro; exact ⟨rfl, rfl⟩)
  iexact H

/-! ## The parts -/

/-- The third signal and the barrier's wait; the right operand's strip 0 has arrived, and strip 1 is on its way. -/
theorem part2 (v11 v14 v17 : BitVec 32) :
    Does c iprop((barOut c 2 ∗ barIn c) ∗ (rest0 X c ∗ owesW (prod X) K c 19)) (k0_part2 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v11 v14 v17 (SemArray.scalar (sig.barrier 0 rfl)))
      (k0_pay4 (up (band 128 (cols X c 1) (128 * 0)))) iprop(semVal (barCell c) 0 ∗ (MSt X K c (full X c h0 1 0) (fly X c h1 1 1) (bAt X c 0) (left c) (cAt X c 0 0) (pre c 0) (pre c 1) (pre c 2) 18)) := by
  rw [k0_part2_eq_skeleton]; unfold k0_part2_skel; dsimp only
  refine seq c (P' := iprop(barIn c ∗ rest0 X c ∗ owesW (prod X) K c 18)) (signal2 X K c (Fin.ext (dev_bar c).2.2)) ?_
  refine seq c (wait_bar X K c) ?_
  refine seq c (Does.frame_l (inL0 (ld_start X c (s := 0) h0 1 (i := 0) (by omega) (k0_off1_eq c) rfl))) ?_
  refine seq c (Does.frame_l (inL1 (ld_start X c (s := 1) h1 1 (i := 1) (by omega) (k0_off2_eq c) rfl))) ?_
  refine seq c (Does.frame_l (wL0 (ld_wait X c (prod X) K (s := 0) h0 1 (i := 0) (by omega) (by omega) rfl rfl))) ?_
  refine seq c (Does.frame_l (inL0 (ld_load X c (s := 0) h0 1 (i := 0)))) ?_
  refine skip c (Takes.frame_l (dB (grow_dead c bM (bfs X c 1) (lo := 0) (i := 0) (by omega) rfl)))  fun _ => ?_
  exact done_with c

/-- The right operand has its first 2 strips; strip 2 has arrived, and 3 is on its way. -/
theorem part3 :
    Takes c (MSt X K c (full X c h0 1 0) (fly X c h1 1 1) (bAt X c 0) (left c) (cAt X c 0 0) (pre c 0) (pre c 1) (pre c 2) 18) (k0_part3 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c (k0_pay4 (up (band 128 (cols X c 1) (128 * 0)))))
      (MSt X K c (full X c h0 1 2) (fly X c h1 1 3) (bAt X c 2) (left c) (cAt X c 0 0) (pre c 0) (pre c 1) (pre c 2) 18) := by
  rw [k0_part3_eq_skeleton]; unfold k0_part3_skel; dsimp only
  refine seq c (inB (grow_store c bM (bfs X c 1) (lo := 0) (i := 0) (by omega) (by omega) rfl (pay_strip (band 128 (cols X c 1) (128 * 0))))) ?_
  refine seq c (inL0 (ld_next X c (s := 0) h0 1 (i := 2) (by omega) (k0_off3_eq c) rfl)) ?_
  refine seq c (wL1 (ld_wait X c (prod X) K (s := 1) h1 1 (i := 1) (by omega) (by omega) rfl rfl)) ?_
  refine seq c (inL1 (ld_load X c (s := 1) h1 1 (i := 1))) ?_
  refine skip c (dB (grow_dead c bM (bfs X c 1) (lo := 0) (i := 1) (by omega) rfl)) fun _ => ?_
  refine seq c (inB (grow_store c bM (bfs X c 1) (lo := 0) (i := 1) (by omega) (by omega) rfl (pay_strip (band 128 (cols X c 1) (128 * 1))))) ?_
  refine seq c (inL1 (ld_next X c (s := 1) h1 1 (i := 3) (by omega) (k0_off4_eq c) rfl)) ?_
  refine seq c (wL0 (ld_wait X c (prod X) K (s := 0) h0 1 (i := 2) (by omega) (by omega) rfl rfl)) ?_
  exact done c

/-- The right operand has its first 4 strips; strips 4 and 5 are on their way. -/
theorem part4 :
    Takes c (MSt X K c (full X c h0 1 2) (fly X c h1 1 3) (bAt X c 2) (left c) (cAt X c 0 0) (pre c 0) (pre c 1) (pre c 2) 18) (k0_part4 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c )
      (MSt X K c (fly X c h0 1 4) (fly X c h1 1 5) (bAt X c 4) (left c) (cAt X c 0 0) (pre c 0) (pre c 1) (pre c 2) 18) := by
  rw [k0_part4_eq_skeleton]; unfold k0_part4_skel; dsimp only
  refine seq c (inL0 (ld_load X c (s := 0) h0 1 (i := 2))) ?_
  refine skip c (dB (grow_dead c bM (bfs X c 1) (lo := 0) (i := 2) (by omega) rfl)) fun _ => ?_
  refine seq c (inB (grow_store c bM (bfs X c 1) (lo := 0) (i := 2) (by omega) (by omega) rfl (pay_strip (band 128 (cols X c 1) (128 * 2))))) ?_
  refine seq c (inL0 (ld_next X c (s := 0) h0 1 (i := 4) (by omega) (k0_off5_eq c) rfl)) ?_
  refine seq c (wL1 (ld_wait X c (prod X) K (s := 1) h1 1 (i := 3) (by omega) (by omega) rfl rfl)) ?_
  refine seq c (inL1 (ld_load X c (s := 1) h1 1 (i := 3))) ?_
  refine skip c (dB (grow_dead c bM (bfs X c 1) (lo := 0) (i := 3) (by omega) rfl)) fun _ => ?_
  refine seq c (inB (grow_store c bM (bfs X c 1) (lo := 0) (i := 3) (by omega) (by omega) rfl (pay_strip (band 128 (cols X c 1) (128 * 3))))) ?_
  refine seq c (inL1 (ld_next X c (s := 1) h1 1 (i := 5) (by omega) (k0_off6_eq c) rfl)) ?_
  exact done c

/-- The right operand has its first 6 strips; strip 6 is on its way. -/
theorem part5 :
    Takes c (MSt X K c (fly X c h0 1 4) (fly X c h1 1 5) (bAt X c 4) (left c) (cAt X c 0 0) (pre c 0) (pre c 1) (pre c 2) 18) (k0_part5 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c )
      (MSt X K c (fly X c h0 1 6) (full X c h1 1 5) (bAt X c 6) (left c) (cAt X c 0 0) (pre c 0) (pre c 1) (pre c 2) 18) := by
  rw [k0_part5_eq_skeleton]; unfold k0_part5_skel; dsimp only
  refine seq c (wL0 (ld_wait X c (prod X) K (s := 0) h0 1 (i := 4) (by omega) (by omega) rfl rfl)) ?_
  refine seq c (inL0 (ld_load X c (s := 0) h0 1 (i := 4))) ?_
  refine skip c (dB (grow_dead c bM (bfs X c 1) (lo := 0) (i := 4) (by omega) rfl)) fun _ => ?_
  refine seq c (inB (grow_store c bM (bfs X c 1) (lo := 0) (i := 4) (by omega) (by omega) rfl (pay_strip (band 128 (cols X c 1) (128 * 4))))) ?_
  refine seq c (inL0 (ld_next X c (s := 0) h0 1 (i := 6) (by omega) (k0_off7_eq c) rfl)) ?_
  refine seq c (wL1 (ld_wait X c (prod X) K (s := 1) h1 1 (i := 5) (by omega) (by omega) rfl rfl)) ?_
  refine seq c (inL1 (ld_load X c (s := 1) h1 1 (i := 5))) ?_
  refine skip c (dB (grow_dead c bM (bfs X c 1) (lo := 0) (i := 5) (by omega) rfl)) fun _ => ?_
  refine seq c (inB (grow_store c bM (bfs X c 1) (lo := 0) (i := 5) (by omega) (by omega) rfl (pay_strip (band 128 (cols X c 1) (128 * 5))))) ?_
  exact done c

/-- The right operand has its first 8 strips; strip 8 is on its way. -/
theorem part6 :
    Takes c (MSt X K c (fly X c h0 1 6) (full X c h1 1 5) (bAt X c 6) (left c) (cAt X c 0 0) (pre c 0) (pre c 1) (pre c 2) 18) (k0_part6 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c )
      (MSt X K c (fly X c h0 1 8) (full X c h1 1 7) (bAt X c 8) (left c) (cAt X c 0 0) (pre c 0) (pre c 1) (pre c 2) 18) := by
  rw [k0_part6_eq_skeleton]; unfold k0_part6_skel; dsimp only
  refine seq c (inL1 (ld_next X c (s := 1) h1 1 (i := 7) (by omega) (k0_off8_eq c) rfl)) ?_
  refine seq c (wL0 (ld_wait X c (prod X) K (s := 0) h0 1 (i := 6) (by omega) (by omega) rfl rfl)) ?_
  refine seq c (inL0 (ld_load X c (s := 0) h0 1 (i := 6))) ?_
  refine skip c (dB (grow_dead c bM (bfs X c 1) (lo := 0) (i := 6) (by omega) rfl)) fun _ => ?_
  refine seq c (inB (grow_store c bM (bfs X c 1) (lo := 0) (i := 6) (by omega) (by omega) rfl (pay_strip (band 128 (cols X c 1) (128 * 6))))) ?_
  refine seq c (inL0 (ld_next X c (s := 0) h0 1 (i := 8) (by omega) (k0_off9_eq c) rfl)) ?_
  refine seq c (wL1 (ld_wait X c (prod X) K (s := 1) h1 1 (i := 7) (by omega) (by omega) rfl rfl)) ?_
  refine seq c (inL1 (ld_load X c (s := 1) h1 1 (i := 7))) ?_
  refine skip c (dB (grow_dead c bM (bfs X c 1) (lo := 0) (i := 7) (by omega) rfl)) fun _ => ?_
  refine seq c (inB (grow_store c bM (bfs X c 1) (lo := 0) (i := 7) (by omega) (by omega) rfl (pay_strip (band 128 (cols X c 1) (128 * 7))))) ?_
  exact done c

/-- The right operand has its first 9 strips; strip 9 has arrived, and 10 is on its way. -/
theorem part7 :
    Does c (MSt X K c (fly X c h0 1 8) (full X c h1 1 7) (bAt X c 8) (left c) (cAt X c 0 0) (pre c 0) (pre c 1) (pre c 2) 18) (k0_part7 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c )
      (up (band 128 (cols X c 1) (128 * 9))) (MSt X K c (fly X c h0 1 10) (full X c h1 1 9) (bAt X c 9) (left c) (cAt X c 0 0) (pre c 0) (pre c 1) (pre c 2) 18) := by
  rw [k0_part7_eq_skeleton]; unfold k0_part7_skel; dsimp only
  refine seq c (inL1 (ld_next X c (s := 1) h1 1 (i := 9) (by omega) (k0_off10_eq c) rfl)) ?_
  refine seq c (wL0 (ld_wait X c (prod X) K (s := 0) h0 1 (i := 8) (by omega) (by omega) rfl rfl)) ?_
  refine seq c (inL0 (ld_load X c (s := 0) h0 1 (i := 8))) ?_
  refine skip c (dB (grow_dead c bM (bfs X c 1) (lo := 0) (i := 8) (by omega) rfl)) fun _ => ?_
  refine seq c (inB (grow_store c bM (bfs X c 1) (lo := 0) (i := 8) (by omega) (by omega) rfl (pay_strip (band 128 (cols X c 1) (128 * 8))))) ?_
  refine seq c (inL0 (ld_next X c (s := 0) h0 1 (i := 10) (by omega) (k0_off11_eq c) rfl)) ?_
  refine seq c (wL1 (ld_wait X c (prod X) K (s := 1) h1 1 (i := 9) (by omega) (by omega) rfl rfl)) ?_
  refine seq c (inL1 (ld_load X c (s := 1) h1 1 (i := 9))) ?_
  exact done_with c

/-- The right operand has its first 11 strips; strips 11 and 12 are on their way. -/
theorem part8 :
    Takes c (MSt X K c (fly X c h0 1 10) (full X c h1 1 9) (bAt X c 9) (left c) (cAt X c 0 0) (pre c 0) (pre c 1) (pre c 2) 18) (k0_part8 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c (up (band 128 (cols X c 1) (128 * 9))))
      (MSt X K c (fly X c h0 1 12) (fly X c h1 1 11) (bAt X c 11) (left c) (cAt X c 0 0) (pre c 0) (pre c 1) (pre c 2) 18) := by
  rw [k0_part8_eq_skeleton]; unfold k0_part8_skel; dsimp only
  refine skip c (dB (grow_dead c bM (bfs X c 1) (lo := 0) (i := 9) (by omega) rfl)) fun _ => ?_
  refine seq c (inB (grow_store c bM (bfs X c 1) (lo := 0) (i := 9) (by omega) (by omega) rfl (pay_strip (band 128 (cols X c 1) (128 * 9))))) ?_
  refine seq c (inL1 (ld_next X c (s := 1) h1 1 (i := 11) (by omega) (k0_off12_eq c) rfl)) ?_
  refine seq c (wL0 (ld_wait X c (prod X) K (s := 0) h0 1 (i := 10) (by omega) (by omega) rfl rfl)) ?_
  refine seq c (inL0 (ld_load X c (s := 0) h0 1 (i := 10))) ?_
  refine skip c (dB (grow_dead c bM (bfs X c 1) (lo := 0) (i := 10) (by omega) rfl)) fun _ => ?_
  refine seq c (inB (grow_store c bM (bfs X c 1) (lo := 0) (i := 10) (by omega) (by omega) rfl (pay_strip (band 128 (cols X c 1) (128 * 10))))) ?_
  refine seq c (inL0 (ld_next X c (s := 0) h0 1 (i := 12) (by omega) (k0_off13_eq c) rfl)) ?_
  exact done c

/-- The right operand has its first 13 strips; strip 12 has been read, and 13 is on its way. -/
theorem part9 :
    Takes c (MSt X K c (fly X c h0 1 12) (fly X c h1 1 11) (bAt X c 11) (left c) (cAt X c 0 0) (pre c 0) (pre c 1) (pre c 2) 18) (k0_part9 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c )
      (MSt X K c (full X c h0 1 12) (fly X c h1 1 13) (bAt X c 13) (left c) (cAt X c 0 0) (pre c 0) (pre c 1) (pre c 2) 18) := by
  rw [k0_part9_eq_skeleton]; unfold k0_part9_skel; dsimp only
  refine seq c (wL1 (ld_wait X c (prod X) K (s := 1) h1 1 (i := 11) (by omega) (by omega) rfl rfl)) ?_
  refine seq c (inL1 (ld_load X c (s := 1) h1 1 (i := 11))) ?_
  refine skip c (dB (grow_dead c bM (bfs X c 1) (lo := 0) (i := 11) (by omega) rfl)) fun _ => ?_
  refine seq c (inB (grow_store c bM (bfs X c 1) (lo := 0) (i := 11) (by omega) (by omega) rfl (pay_strip (band 128 (cols X c 1) (128 * 11))))) ?_
  refine seq c (inL1 (ld_next X c (s := 1) h1 1 (i := 13) (by omega) (k0_off14_eq c) rfl)) ?_
  refine seq c (wL0 (ld_wait X c (prod X) K (s := 0) h0 1 (i := 12) (by omega) (by omega) rfl rfl)) ?_
  refine seq c (inL0 (ld_load X c (s := 0) h0 1 (i := 12))) ?_
  refine skip c (dB (grow_dead c bM (bfs X c 1) (lo := 0) (i := 12) (by omega) rfl)) fun _ => ?_
  refine seq c (inB (grow_store c bM (bfs X c 1) (lo := 0) (i := 12) (by omega) (by omega) rfl (pay_strip (band 128 (cols X c 1) (128 * 12))))) ?_
  exact done c

/-- The right operand has its first 15 strips; strip 14 has been read, and 15 is on its way. -/
theorem part10 :
    Takes c (MSt X K c (full X c h0 1 12) (fly X c h1 1 13) (bAt X c 13) (left c) (cAt X c 0 0) (pre c 0) (pre c 1) (pre c 2) 18) (k0_part10 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c )
      (MSt X K c (full X c h0 1 14) (fly X c h1 1 15) (bAt X c 15) (left c) (cAt X c 0 0) (pre c 0) (pre c 1) (pre c 2) 18) := by
  rw [k0_part10_eq_skeleton]; unfold k0_part10_skel; dsimp only
  refine seq c (inL0 (ld_next X c (s := 0) h0 1 (i := 14) (by omega) (k0_off15_eq c) rfl)) ?_
  refine seq c (wL1 (ld_wait X c (prod X) K (s := 1) h1 1 (i := 13) (by omega) (by omega) rfl rfl)) ?_
  refine seq c (inL1 (ld_load X c (s := 1) h1 1 (i := 13))) ?_
  refine skip c (dB (grow_dead c bM (bfs X c 1) (lo := 0) (i := 13) (by omega) rfl)) fun _ => ?_
  refine seq c (inB (grow_store c bM (bfs X c 1) (lo := 0) (i := 13) (by omega) (by omega) rfl (pay_strip (band 128 (cols X c 1) (128 * 13))))) ?_
  refine seq c (inL1 (ld_next X c (s := 1) h1 1 (i := 15) (by omega) (k0_off16_eq c) rfl)) ?_
  refine seq c (wL0 (ld_wait X c (prod X) K (s := 0) h0 1 (i := 14) (by omega) (by omega) rfl rfl)) ?_
  refine seq c (inL0 (ld_load X c (s := 0) h0 1 (i := 14))) ?_
  refine skip c (dB (grow_dead c bM (bfs X c 1) (lo := 0) (i := 14) (by omega) rfl)) fun _ => ?_
  refine seq c (inB (grow_store c bM (bfs X c 1) (lo := 0) (i := 14) (by omega) (by omega) rfl (pay_strip (band 128 (cols X c 1) (128 * 14))))) ?_
  exact done c

/-- The right operand is complete; the left operand's strip 0 has arrived, and strip 1 is on its way. -/
theorem part11 :
    Does c (MSt X K c (full X c h0 1 14) (fly X c h1 1 15) (bAt X c 15) (left c) (cAt X c 0 0) (pre c 0) (pre c 1) (pre c 2) 18) (k0_part11 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c )
      (k0_pay21 (up (band 128 (cols X c 0) (128 * 0)))) (MSt X K c (full X c h0 0 0) (fly X c h1 0 1) (bAt X c 16) (left c) (cAt X c 0 0) (pre c 0) (pre c 1) (pre c 2) 18) := by
  rw [k0_part11_eq_skeleton]; unfold k0_part11_skel; dsimp only
  refine seq c (wL1 (ld_wait X c (prod X) K (s := 1) h1 1 (i := 15) (by omega) (by omega) rfl rfl)) ?_
  refine seq c (inL1 (ld_load X c (s := 1) h1 1 (i := 15))) ?_
  refine skip c (dB (grow_dead c bM (bfs X c 1) (lo := 0) (i := 15) (by omega) rfl)) fun _ => ?_
  refine seq c (inB (grow_store c bM (bfs X c 1) (lo := 0) (i := 15) (by omega) (by omega) rfl (pay_strip (band 128 (cols X c 1) (128 * 15))))) ?_
  refine seq c (inL0 (ld_next X c (s := 0) h0 0 (i := 0) (by omega) (k0_off1_eq c) rfl)) ?_
  refine seq c (inL1 (ld_next X c (s := 1) h1 0 (i := 1) (by omega) (k0_off2_eq c) rfl)) ?_
  refine seq c (wL0 (ld_wait X c (prod X) K (s := 0) h0 0 (i := 0) (by omega) (by omega) rfl rfl)) ?_
  refine seq c (inL0 (ld_load X c (s := 0) h0 0 (i := 0))) ?_
  exact done_with c

/-- The product has its first strip; the left operand's strip 1 has arrived, and 2 is on its way. -/
theorem part12 :
    Does c (MSt X K c (full X c h0 0 0) (fly X c h1 0 1) (bAt X c 16) (left c) (cAt X c 0 0) (pre c 0) (pre c 1) (pre c 2) 18) (k0_part12 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c (k0_pay21 (up (band 128 (cols X c 0) (128 * 0)))))
      (band 128 (bfs X c 0) (128 * 1)) (MSt X K c (fly X c h0 0 2) (full X c h1 0 1) (bAt X c 16) (left c) (cAt X c 0 1) (pre c 0) (pre c 1) (pre c 2) 18) := by
  rw [k0_part12_eq_skeleton]; unfold k0_part12_skel; dsimp only
  refine skip c (dY (any_load c aM (nr := 128) rfl (le_refl _))) fun _ => ?_
  refine seq c (inY (left_store X c (i := 0) rfl (pay_strip (band 128 (cols X c 0) (128 * 0))))) ?_
  refine seq c (inY (left_load X c (i := 0) rfl)) ?_
  refine seq c (inB (grow_load c bM (bfs X c 1) rfl)) ?_
  refine skip c (dC (grow_dead c accM (prod X c) (lo := 0) (i := 0) (by omega) rfl)) fun _ => ?_
  refine seq c (inC (grow_store c accM (prod X c) (lo := 0) (i := 0) (by omega) (by omega) rfl (prod_band X c 0))) ?_
  refine seq c (inL0 (ld_next X c (s := 0) h0 0 (i := 2) (by omega) (k0_off3_eq c) rfl)) ?_
  refine seq c (wL1 (ld_wait X c (prod X) K (s := 1) h1 0 (i := 1) (by omega) (by omega) rfl rfl)) ?_
  refine seq c (inL1 (ld_load X c (s := 1) h1 0 (i := 1))) ?_
  refine skip c (dY (any_load c aM (nr := 128) rfl (le_refl _))) fun _ => ?_
  refine seq c (inY (left_store X c (i := 1) rfl (pay_strip (band 128 (cols X c 0) (128 * 1))))) ?_
  refine seq c (inY (left_load X c (i := 1) rfl)) ?_
  exact done_with c

/-- The product has its first 3 strips; the left operand's strip 3 is on its way. -/
theorem part13 :
    Takes c (MSt X K c (fly X c h0 0 2) (full X c h1 0 1) (bAt X c 16) (left c) (cAt X c 0 1) (pre c 0) (pre c 1) (pre c 2) 18) (k0_part13 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c (band 128 (bfs X c 0) (128 * 1)))
      (MSt X K c (full X c h0 0 2) (fly X c h1 0 3) (bAt X c 16) (left c) (cAt X c 0 3) (pre c 0) (pre c 1) (pre c 2) 18) := by
  rw [k0_part13_eq_skeleton]; unfold k0_part13_skel; dsimp only
  refine seq c (inB (grow_load c bM (bfs X c 1) rfl)) ?_
  refine skip c (dC (grow_dead c accM (prod X c) (lo := 0) (i := 1) (by omega) rfl)) fun _ => ?_
  refine seq c (inC (grow_store c accM (prod X c) (lo := 0) (i := 1) (by omega) (by omega) rfl (prod_band X c 1))) ?_
  refine seq c (inL1 (ld_next X c (s := 1) h1 0 (i := 3) (by omega) (k0_off4_eq c) rfl)) ?_
  refine seq c (wL0 (ld_wait X c (prod X) K (s := 0) h0 0 (i := 2) (by omega) (by omega) rfl rfl)) ?_
  refine seq c (inL0 (ld_load X c (s := 0) h0 0 (i := 2))) ?_
  refine skip c (dY (any_load c aM (nr := 128) rfl (le_refl _))) fun _ => ?_
  refine seq c (inY (left_store X c (i := 2) rfl (pay_strip (band 128 (cols X c 0) (128 * 2))))) ?_
  refine seq c (inY (left_load X c (i := 2) rfl)) ?_
  refine seq c (inB (grow_load c bM (bfs X c 1) rfl)) ?_
  refine skip c (dC (grow_dead c accM (prod X c) (lo := 0) (i := 2) (by omega) rfl)) fun _ => ?_
  refine seq c (inC (grow_store c accM (prod X c) (lo := 0) (i := 2) (by omega) (by omega) rfl (prod_band X c 2))) ?_
  exact done c

/-- The product has its first 4 strips; the left operand's strips 4 and 5 are on their way. -/
theorem part14 :
    Takes c (MSt X K c (full X c h0 0 2) (fly X c h1 0 3) (bAt X c 16) (left c) (cAt X c 0 3) (pre c 0) (pre c 1) (pre c 2) 18) (k0_part14 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c )
      (MSt X K c (fly X c h0 0 4) (fly X c h1 0 5) (bAt X c 16) (left c) (cAt X c 0 4) (pre c 0) (pre c 1) (pre c 2) 18) := by
  rw [k0_part14_eq_skeleton]; unfold k0_part14_skel; dsimp only
  refine seq c (inL0 (ld_next X c (s := 0) h0 0 (i := 4) (by omega) (k0_off5_eq c) rfl)) ?_
  refine seq c (wL1 (ld_wait X c (prod X) K (s := 1) h1 0 (i := 3) (by omega) (by omega) rfl rfl)) ?_
  refine seq c (inL1 (ld_load X c (s := 1) h1 0 (i := 3))) ?_
  refine skip c (dY (any_load c aM (nr := 128) rfl (le_refl _))) fun _ => ?_
  refine seq c (inY (left_store X c (i := 3) rfl (pay_strip (band 128 (cols X c 0) (128 * 3))))) ?_
  refine seq c (inY (left_load X c (i := 3) rfl)) ?_
  refine seq c (inB (grow_load c bM (bfs X c 1) rfl)) ?_
  refine skip c (dC (grow_dead c accM (prod X c) (lo := 0) (i := 3) (by omega) rfl)) fun _ => ?_
  refine seq c (inC (grow_store c accM (prod X c) (lo := 0) (i := 3) (by omega) (by omega) rfl (prod_band X c 3))) ?_
  refine seq c (inL1 (ld_next X c (s := 1) h1 0 (i := 5) (by omega) (k0_off6_eq c) rfl)) ?_
  exact done c

/-- The product has its first 5 strips; the left operand's strip 5 has arrived, and 6 is on its way. -/
theorem part15 :
    Takes c (MSt X K c (fly X c h0 0 4) (fly X c h1 0 5) (bAt X c 16) (left c) (cAt X c 0 4) (pre c 0) (pre c 1) (pre c 2) 18) (k0_part15 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c )
      (MSt X K c (fly X c h0 0 6) (full X c h1 0 5) (bAt X c 16) (left c) (cAt X c 0 5) (pre c 0) (pre c 1) (pre c 2) 18) := by
  rw [k0_part15_eq_skeleton]; unfold k0_part15_skel; dsimp only
  refine seq c (wL0 (ld_wait X c (prod X) K (s := 0) h0 0 (i := 4) (by omega) (by omega) rfl rfl)) ?_
  refine seq c (inL0 (ld_load X c (s := 0) h0 0 (i := 4))) ?_
  refine skip c (dY (any_load c aM (nr := 128) rfl (le_refl _))) fun _ => ?_
  refine seq c (inY (left_store X c (i := 4) rfl (pay_strip (band 128 (cols X c 0) (128 * 4))))) ?_
  refine seq c (inY (left_load X c (i := 4) rfl)) ?_
  refine seq c (inB (grow_load c bM (bfs X c 1) rfl)) ?_
  refine skip c (dC (grow_dead c accM (prod X c) (lo := 0) (i := 4) (by omega) rfl)) fun _ => ?_
  refine seq c (inC (grow_store c accM (prod X c) (lo := 0) (i := 4) (by omega) (by omega) rfl (prod_band X c 4))) ?_
  refine seq c (inL0 (ld_next X c (s := 0) h0 0 (i := 6) (by omega) (k0_off7_eq c) rfl)) ?_
  refine seq c (wL1 (ld_wait X c (prod X) K (s := 1) h1 0 (i := 5) (by omega) (by omega) rfl rfl)) ?_
  exact done c

/-- The product's strip 5 completes group 0, whose first send starts. -/
theorem part16 (v11 v14 v17 : BitVec 32) :
    Takes c (MSt X K c (fly X c h0 0 6) (full X c h1 0 5) (bAt X c 16) (left c) (cAt X c 0 5) (pre c 0) (pre c 1) (pre c 2) 18) (k0_part16 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v11 v14 v17)
      (MSt X K c (fly X c h0 0 6) (full X c h1 0 5) (bAt X c 16) (left c) (cAt X c 768 6) (rs1 (prod X) c 0 0) (pre c 1) (pre c 2) 17) := by
  rw [k0_part16_eq_skeleton]; unfold k0_part16_skel; dsimp only
  refine seq c (inL1 (ld_load X c (s := 1) h1 0 (i := 5))) ?_
  refine skip c (dY (any_load c aM (nr := 128) rfl (le_refl _))) fun _ => ?_
  refine seq c (inY (left_store X c (i := 5) rfl (pay_strip (band 128 (cols X c 0) (128 * 5))))) ?_
  refine seq c (inY (left_load X c (i := 5) rfl)) ?_
  refine seq c (inB (grow_load c bM (bfs X c 1) rfl)) ?_
  refine skip c (dC (grow_dead c accM (prod X c) (lo := 0) (i := 5) (by omega) rfl)) fun _ => ?_
  refine seq c (inC (grow_store c accM (prod X c) (lo := 0) (i := 5) (by omega) (by omega) rfl (prod_band X c 5))) ?_
  refine (take0 (lo := 0) (lo' := 768) (i := 6) rfl rfl rfl).trans ?_
  refine seq c (inG (pay0 (rs0_send (prod X) c 0 K (k := 0) (by omega) rfl (off_sent0 c).1 rfl rfl (Fin.ext (dev_rs0 c).1) rfl rfl))) ?_
  exact done c

/-- The product has its first 7 strips; the left operand's strips 7 and 8 are on their way. -/
theorem part17 :
    Takes c (MSt X K c (fly X c h0 0 6) (full X c h1 0 5) (bAt X c 16) (left c) (cAt X c 768 6) (rs1 (prod X) c 0 0) (pre c 1) (pre c 2) 17) (k0_part17 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c )
      (MSt X K c (fly X c h0 0 8) (fly X c h1 0 7) (bAt X c 16) (left c) (cAt X c 768 7) (rs1 (prod X) c 0 0) (pre c 1) (pre c 2) 17) := by
  rw [k0_part17_eq_skeleton]; unfold k0_part17_skel; dsimp only
  refine seq c (inL1 (ld_next X c (s := 1) h1 0 (i := 7) (by omega) (k0_off8_eq c) rfl)) ?_
  refine seq c (wL0 (ld_wait X c (prod X) K (s := 0) h0 0 (i := 6) (by omega) (by omega) rfl rfl)) ?_
  refine seq c (inL0 (ld_load X c (s := 0) h0 0 (i := 6))) ?_
  refine skip c (dY (any_load c aM (nr := 128) rfl (le_refl _))) fun _ => ?_
  refine seq c (inY (left_store X c (i := 6) rfl (pay_strip (band 128 (cols X c 0) (128 * 6))))) ?_
  refine seq c (inY (left_load X c (i := 6) rfl)) ?_
  refine seq c (inB (grow_load c bM (bfs X c 1) rfl)) ?_
  refine skip c (dC (grow_dead c accM (prod X c) (lo := 768) (i := 6) (by omega) rfl)) fun _ => ?_
  refine seq c (inC (grow_store c accM (prod X c) (lo := 768) (i := 6) (by omega) (by omega) rfl (prod_band X c 6))) ?_
  refine seq c (inL0 (ld_next X c (s := 0) h0 0 (i := 8) (by omega) (k0_off9_eq c) rfl)) ?_
  exact done c

/-- The product has its first 8 strips; the left operand's strip 9 is on its way. -/
theorem part18 :
    Takes c (MSt X K c (fly X c h0 0 8) (fly X c h1 0 7) (bAt X c 16) (left c) (cAt X c 768 7) (rs1 (prod X) c 0 0) (pre c 1) (pre c 2) 17) (k0_part18 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c )
      (MSt X K c (full X c h0 0 8) (fly X c h1 0 9) (bAt X c 16) (left c) (cAt X c 768 8) (rs1 (prod X) c 0 0) (pre c 1) (pre c 2) 17) := by
  rw [k0_part18_eq_skeleton]; unfold k0_part18_skel; dsimp only
  refine seq c (wL1 (ld_wait X c (prod X) K (s := 1) h1 0 (i := 7) (by omega) (by omega) rfl rfl)) ?_
  refine seq c (inL1 (ld_load X c (s := 1) h1 0 (i := 7))) ?_
  refine skip c (dY (any_load c aM (nr := 128) rfl (le_refl _))) fun _ => ?_
  refine seq c (inY (left_store X c (i := 7) rfl (pay_strip (band 128 (cols X c 0) (128 * 7))))) ?_
  refine seq c (inY (left_load X c (i := 7) rfl)) ?_
  refine seq c (inB (grow_load c bM (bfs X c 1) rfl)) ?_
  refine skip c (dC (grow_dead c accM (prod X c) (lo := 768) (i := 7) (by omega) rfl)) fun _ => ?_
  refine seq c (inC (grow_store c accM (prod X c) (lo := 768) (i := 7) (by omega) (by omega) rfl (prod_band X c 7))) ?_
  refine seq c (inL1 (ld_next X c (s := 1) h1 0 (i := 9) (by omega) (k0_off10_eq c) rfl)) ?_
  refine seq c (wL0 (ld_wait X c (prod X) K (s := 0) h0 0 (i := 8) (by omega) (by omega) rfl rfl)) ?_
  exact done c

/-- The product has its first 9 strips; the left operand's strip 9 has arrived, and 10 is on its way. -/
theorem part19 :
    Does c (MSt X K c (full X c h0 0 8) (fly X c h1 0 9) (bAt X c 16) (left c) (cAt X c 768 8) (rs1 (prod X) c 0 0) (pre c 1) (pre c 2) 17) (k0_part19 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c )
      (k0_pay40 (up (band 128 (cols X c 0) (128 * 9)))) (MSt X K c (fly X c h0 0 10) (full X c h1 0 9) (bAt X c 16) (left c) (cAt X c 768 9) (rs1 (prod X) c 0 0) (pre c 1) (pre c 2) 17) := by
  rw [k0_part19_eq_skeleton]; unfold k0_part19_skel; dsimp only
  refine seq c (inL0 (ld_load X c (s := 0) h0 0 (i := 8))) ?_
  refine skip c (dY (any_load c aM (nr := 128) rfl (le_refl _))) fun _ => ?_
  refine seq c (inY (left_store X c (i := 8) rfl (pay_strip (band 128 (cols X c 0) (128 * 8))))) ?_
  refine seq c (inY (left_load X c (i := 8) rfl)) ?_
  refine seq c (inB (grow_load c bM (bfs X c 1) rfl)) ?_
  refine skip c (dC (grow_dead c accM (prod X c) (lo := 768) (i := 8) (by omega) rfl)) fun _ => ?_
  refine seq c (inC (grow_store c accM (prod X c) (lo := 768) (i := 8) (by omega) (by omega) rfl (prod_band X c 8))) ?_
  refine seq c (inL0 (ld_next X c (s := 0) h0 0 (i := 10) (by omega) (k0_off11_eq c) rfl)) ?_
  refine seq c (wL1 (ld_wait X c (prod X) K (s := 1) h1 0 (i := 9) (by omega) (by omega) rfl rfl)) ?_
  refine seq c (inL1 (ld_load X c (s := 1) h1 0 (i := 9))) ?_
  refine skip c (dY (any_load c aM (nr := 128) rfl (le_refl _))) fun _ => ?_
  exact done_with c

/-- The product has its first 10 strips; the left operand's strip 10 has been read, and 11 is on its way. -/
theorem part20 :
    Does c (MSt X K c (fly X c h0 0 10) (full X c h1 0 9) (bAt X c 16) (left c) (cAt X c 768 9) (rs1 (prod X) c 0 0) (pre c 1) (pre c 2) 17) (k0_part20 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c (k0_pay40 (up (band 128 (cols X c 0) (128 * 9)))))
      (k0_pay43 (band 128 (bfs X c 0) (128 * 10)) (band 2048 (bfs X c 1) 0)) (MSt X K c (full X c h0 0 10) (fly X c h1 0 11) (bAt X c 16) (left c) (cAt X c 768 10) (rs1 (prod X) c 0 0) (pre c 1) (pre c 2) 17) := by
  rw [k0_part20_eq_skeleton]; unfold k0_part20_skel; dsimp only
  refine seq c (inY (left_store X c (i := 9) rfl (pay_strip (band 128 (cols X c 0) (128 * 9))))) ?_
  refine seq c (inY (left_load X c (i := 9) rfl)) ?_
  refine seq c (inB (grow_load c bM (bfs X c 1) rfl)) ?_
  refine skip c (dC (grow_dead c accM (prod X c) (lo := 768) (i := 9) (by omega) rfl)) fun _ => ?_
  refine seq c (inC (grow_store c accM (prod X c) (lo := 768) (i := 9) (by omega) (by omega) rfl (prod_band X c 9))) ?_
  refine seq c (inL1 (ld_next X c (s := 1) h1 0 (i := 11) (by omega) (k0_off12_eq c) rfl)) ?_
  refine seq c (wL0 (ld_wait X c (prod X) K (s := 0) h0 0 (i := 10) (by omega) (by omega) rfl rfl)) ?_
  refine seq c (inL0 (ld_load X c (s := 0) h0 0 (i := 10))) ?_
  refine skip c (dY (any_load c aM (nr := 128) rfl (le_refl _))) fun _ => ?_
  refine seq c (inY (left_store X c (i := 10) rfl (pay_strip (band 128 (cols X c 0) (128 * 10))))) ?_
  refine seq c (inY (left_load X c (i := 10) rfl)) ?_
  refine seq c (inB (grow_load c bM (bfs X c 1) rfl)) ?_
  exact done_with c

/-- The product's strip 10 completes group 1, whose first send starts. -/
theorem part21 (v11 v14 v17 : BitVec 32) :
    Takes c (MSt X K c (full X c h0 0 10) (fly X c h1 0 11) (bAt X c 16) (left c) (cAt X c 768 10) (rs1 (prod X) c 0 0) (pre c 1) (pre c 2) 17) (k0_part21 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v11 v14 v17 (k0_pay43 (band 128 (bfs X c 0) (128 * 10)) (band 2048 (bfs X c 1) 0)))
      (MSt X K c (fly X c h0 0 12) (fly X c h1 0 11) (bAt X c 16) (left c) (cAt X c 1408 11) (rs1 (prod X) c 0 0) (rs1 (prod X) c 1 0) (pre c 2) 16) := by
  rw [k0_part21_eq_skeleton]; unfold k0_part21_skel; dsimp only
  refine skip c (dC (grow_dead c accM (prod X c) (lo := 768) (i := 10) (by omega) rfl)) fun _ => ?_
  refine seq c (inC (grow_store c accM (prod X c) (lo := 768) (i := 10) (by omega) (by omega) rfl (prod_band X c 10))) ?_
  refine (take1 (lo := 768) (lo' := 1408) (i := 11) rfl rfl rfl).trans ?_
  refine seq c (inG (pay1 (rs0_send (prod X) c 1 K (k := 0) (by omega) rfl (off_sent0 c).2.1 rfl rfl (Fin.ext (dev_rs0 c).2.1) rfl rfl))) ?_
  refine seq c (inL0 (ld_next X c (s := 0) h0 0 (i := 12) (by omega) (k0_off13_eq c) rfl)) ?_
  exact done c

/-- The product has its first 12 strips; the left operand's strip 12 has arrived, and 13 is on its way. -/
theorem part22 :
    Does c (MSt X K c (fly X c h0 0 12) (fly X c h1 0 11) (bAt X c 16) (left c) (cAt X c 1408 11) (rs1 (prod X) c 0 0) (rs1 (prod X) c 1 0) (pre c 2) 16) (k0_part22 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c )
      (k0_pay47 (up (band 128 (cols X c 0) (128 * 12)))) (MSt X K c (full X c h0 0 12) (fly X c h1 0 13) (bAt X c 16) (left c) (cAt X c 1408 12) (rs1 (prod X) c 0 0) (rs1 (prod X) c 1 0) (pre c 2) 16) := by
  rw [k0_part22_eq_skeleton]; unfold k0_part22_skel; dsimp only
  refine seq c (wL1 (ld_wait X c (prod X) K (s := 1) h1 0 (i := 11) (by omega) (by omega) rfl rfl)) ?_
  refine seq c (inL1 (ld_load X c (s := 1) h1 0 (i := 11))) ?_
  refine skip c (dY (any_load c aM (nr := 128) rfl (le_refl _))) fun _ => ?_
  refine seq c (inY (left_store X c (i := 11) rfl (pay_strip (band 128 (cols X c 0) (128 * 11))))) ?_
  refine seq c (inY (left_load X c (i := 11) rfl)) ?_
  refine seq c (inB (grow_load c bM (bfs X c 1) rfl)) ?_
  refine skip c (dC (grow_dead c accM (prod X c) (lo := 1408) (i := 11) (by omega) rfl)) fun _ => ?_
  refine seq c (inC (grow_store c accM (prod X c) (lo := 1408) (i := 11) (by omega) (by omega) rfl (prod_band X c 11))) ?_
  refine seq c (inL1 (ld_next X c (s := 1) h1 0 (i := 13) (by omega) (k0_off14_eq c) rfl)) ?_
  refine seq c (wL0 (ld_wait X c (prod X) K (s := 0) h0 0 (i := 12) (by omega) (by omega) rfl rfl)) ?_
  refine seq c (inL0 (ld_load X c (s := 0) h0 0 (i := 12))) ?_
  refine skip c (dY (any_load c aM (nr := 128) rfl (le_refl _))) fun _ => ?_
  exact done_with c

/-- The product has its first 13 strips; the left operand's strip 13 has been read, and 14 is on its way. -/
theorem part23 :
    Does c (MSt X K c (full X c h0 0 12) (fly X c h1 0 13) (bAt X c 16) (left c) (cAt X c 1408 12) (rs1 (prod X) c 0 0) (rs1 (prod X) c 1 0) (pre c 2) 16) (k0_part23 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c (k0_pay47 (up (band 128 (cols X c 0) (128 * 12)))))
      (k0_pay51 (band 128 (bfs X c 0) (128 * 13)) (band 2048 (bfs X c 1) 0)) (MSt X K c (fly X c h0 0 14) (full X c h1 0 13) (bAt X c 16) (left c) (cAt X c 1408 13) (rs1 (prod X) c 0 0) (rs1 (prod X) c 1 0) (pre c 2) 16) := by
  rw [k0_part23_eq_skeleton]; unfold k0_part23_skel; dsimp only
  refine seq c (inY (left_store X c (i := 12) rfl (pay_strip (band 128 (cols X c 0) (128 * 12))))) ?_
  refine seq c (inY (left_load X c (i := 12) rfl)) ?_
  refine seq c (inB (grow_load c bM (bfs X c 1) rfl)) ?_
  refine skip c (dC (grow_dead c accM (prod X c) (lo := 1408) (i := 12) (by omega) rfl)) fun _ => ?_
  refine seq c (inC (grow_store c accM (prod X c) (lo := 1408) (i := 12) (by omega) (by omega) rfl (prod_band X c 12))) ?_
  refine seq c (inL0 (ld_next X c (s := 0) h0 0 (i := 14) (by omega) (k0_off15_eq c) rfl)) ?_
  refine seq c (wL1 (ld_wait X c (prod X) K (s := 1) h1 0 (i := 13) (by omega) (by omega) rfl rfl)) ?_
  refine seq c (inL1 (ld_load X c (s := 1) h1 0 (i := 13))) ?_
  refine skip c (dY (any_load c aM (nr := 128) rfl (le_refl _))) fun _ => ?_
  refine seq c (inY (left_store X c (i := 13) rfl (pay_strip (band 128 (cols X c 0) (128 * 13))))) ?_
  refine seq c (inY (left_load X c (i := 13) rfl)) ?_
  refine seq c (inB (grow_load c bM (bfs X c 1) rfl)) ?_
  exact done_with c

/-- The product has its first 15 strips; the left operand's strip 14 has been read, and 15 is on its way. -/
theorem part24 :
    Takes c (MSt X K c (fly X c h0 0 14) (full X c h1 0 13) (bAt X c 16) (left c) (cAt X c 1408 13) (rs1 (prod X) c 0 0) (rs1 (prod X) c 1 0) (pre c 2) 16) (k0_part24 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c (k0_pay51 (band 128 (bfs X c 0) (128 * 13)) (band 2048 (bfs X c 1) 0)))
      (MSt X K c (full X c h0 0 14) (fly X c h1 0 15) (bAt X c 16) (left c) (cAt X c 1408 15) (rs1 (prod X) c 0 0) (rs1 (prod X) c 1 0) (pre c 2) 16) := by
  rw [k0_part24_eq_skeleton]; unfold k0_part24_skel; dsimp only
  refine skip c (dC (grow_dead c accM (prod X c) (lo := 1408) (i := 13) (by omega) rfl)) fun _ => ?_
  refine seq c (inC (grow_store c accM (prod X c) (lo := 1408) (i := 13) (by omega) (by omega) rfl (prod_band X c 13))) ?_
  refine seq c (inL1 (ld_next X c (s := 1) h1 0 (i := 15) (by omega) (k0_off16_eq c) rfl)) ?_
  refine seq c (wL0 (ld_wait X c (prod X) K (s := 0) h0 0 (i := 14) (by omega) (by omega) rfl rfl)) ?_
  refine seq c (inL0 (ld_load X c (s := 0) h0 0 (i := 14))) ?_
  refine skip c (dY (any_load c aM (nr := 128) rfl (le_refl _))) fun _ => ?_
  refine seq c (inY (left_store X c (i := 14) rfl (pay_strip (band 128 (cols X c 0) (128 * 14))))) ?_
  refine seq c (inY (left_load X c (i := 14) rfl)) ?_
  refine seq c (inB (grow_load c bM (bfs X c 1) rfl)) ?_
  refine skip c (dC (grow_dead c accM (prod X c) (lo := 1408) (i := 14) (by omega) rfl)) fun _ => ?_
  refine seq c (inC (grow_store c accM (prod X c) (lo := 1408) (i := 14) (by omega) (by omega) rfl (prod_band X c 14))) ?_
  exact done c

/-- The product's last strip completes group 2. -/
theorem part25 (v11 v14 v17 : BitVec 32) :
    Takes c (MSt X K c (full X c h0 0 14) (fly X c h1 0 15) (bAt X c 16) (left c) (cAt X c 1408 15) (rs1 (prod X) c 0 0) (rs1 (prod X) c 1 0) (pre c 2) 16) (k0_part25 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v11 v14 v17)
      (MSt X K c (full X c h0 0 14) (full X c h1 0 15) (bAt X c 16) (left c) (cAt X c 2048 16) (rs1 (prod X) c 0 0) (rs1 (prod X) c 1 0) (rs0 (prod X) c 2 0) 16) := by
  rw [k0_part25_eq_skeleton]; unfold k0_part25_skel; dsimp only
  refine seq c (wL1 (ld_wait X c (prod X) K (s := 1) h1 0 (i := 15) (by omega) (by omega) rfl rfl)) ?_
  refine seq c (inL1 (ld_load X c (s := 1) h1 0 (i := 15))) ?_
  refine skip c (dY (any_load c aM (nr := 128) rfl (le_refl _))) fun _ => ?_
  refine seq c (inY (left_store X c (i := 15) rfl (pay_strip (band 128 (cols X c 0) (128 * 15))))) ?_
  refine seq c (inY (left_load X c (i := 15) rfl)) ?_
  refine seq c (inB (grow_load c bM (bfs X c 1) rfl)) ?_
  refine skip c (dC (grow_dead c accM (prod X c) (lo := 1408) (i := 15) (by omega) rfl)) fun _ => ?_
  refine seq c (inC (grow_store c accM (prod X c) (lo := 1408) (i := 15) (by omega) (by omega) rfl (prod_band X c 15))) ?_
  refine (take2 (lo := 1408) (lo' := 2048) (i := 16) rfl rfl rfl).trans ?_
  exact done c

end Matmul

end Cert.Hypercube
-- ==== Proof.Body.lean ====
/-
The kernel on one device, from the state it starts in to the one it ends in.
-/
module

public import proofs.«01_k».proof.Proof.Matmul

@[expose] public section

noncomputable section

namespace Cert.Hypercube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body
variable (X : Inp F) (K : Dev nD × Fin 37 → ℕ) (c : Dev nD)

/-- What a device starts with, and what it has left besides the groups. -/
def first : sProp 𝕄 := iprop((barOut c 0 ∗ barOut c 1) ∗ ((barOut c 2 ∗ barIn c) ∗ rest0 X c) ∗ owesW (prod X) K c 21)
abbrev Late (P Q R : sProp (MT nD τ sig Unit (Elt F) ℕ UU ℕ)) (n : ℕ) : sProp (MT nD τ sig Unit (Elt F) ℕ UU ℕ) :=
  iprop(semVal (barCell c) 0 ∗ MSt X K c (full X c h0 0 14) (full X c h1 0 15) (bAt X c 16) (left c) (cAt X c 2048 16) P Q R n)
def last : sProp 𝕄 := Late X K c (ag4 (prod X) c 0) (ag4 (prod X) c 1) (ag4 (prod X) c 2) 0

section Lifts
variable {α : Type} {p : Prog (TpuEff nD τ sig (Elt F) Λ₀ .tc) α} {a : α} {n n' : ℕ}
  {P Q R P' Q' R' : sProp (MT nD τ sig Unit (Elt F) ℕ UU ℕ)} {X K c}
/-- A step of the exchange, once the product is done. -/
theorem late (h : Does c (St (prod X) K c P Q R n) p a (St (prod X) K c P' Q' R' n')) : Does c (Late X K c P Q R n) p a (Late X K c P' Q' R' n') :=
  Does.frame_l (inG h)
/-- The same where its value is not used. -/
theorem late' (h : Takes c (St (prod X) K c P Q R n) p (St (prod X) K c P' Q' R' n')) : Takes c (Late X K c P Q R n) p (Late X K c P' Q' R' n') :=
  Takes.frame_l (Takes.frame_l (Takes.frame_l (Takes.frame_l (Takes.frame_l (Takes.frame_l h)))))
end Lifts

/-- A fact beside a resource may be used. -/
theorem with_pure {φ : Prop} {P Q : sProp 𝕄} (h : φ → P ⊢ Q) : iprop(⌜φ⌝ ∗ P) ⊢ Q := by
  iintro ⟨%hv, H⟩; iapply (h hv); iexact H

/-- The reduce-scatter's end is the all-gather's start. -/
theorem to_gather {n : ℕ} : Late X K c (rs0 (prod X) c 0 3) (rs0 (prod X) c 1 3) (rs0 (prod X) c 2 3) n
    ⊢ Late X K c (ag0 (prod X) c 0 3) (ag0 (prod X) c 1 3) (ag0 (prod X) c 2 3) n := by
  refine sep_mono_right (sep_mono_right (sep_mono_right (sep_mono_right (sep_mono_right (sep_mono_right ?_)))))
  exact BI.sep_mono (rs_ag (prod X) c 0) (BI.sep_mono (rs_ag (prod X) c 1) (sep_mono_left (rs_ag (prod X) c 2)))

set_option maxRecDepth 65536 in
/-- The function but for its last lines: groups 0 and 1 have all their rows, group 2 waits for its last arrival. -/
theorem part46 : first X K c ⊢ wp frame (wpE (defs₀ (F := F)) 𝒱₀ (c.tc : Thread nD τ) none) Set.univ (k0_part46 (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9)
    (fun v => iprop(⌜v.1 = c⌝ ∗ Late X K c (ag0 (prod X) c 0 0) (ag0 (prod X) c 1 0) (ag3 (prod X) c 2 0) 0)) := by
  rw [k0_part46_eq_skeleton]; unfold k0_part46_skel; dsimp only
  rw [wp_bind]
  refine (part1 X K c iprop((barOut c 2 ∗ barIn c) ∗ rest0 X c)).trans (wp_mono _ _ _ fun v => ?_)
  obtain ⟨d0, v11, v14, v17, v18⟩ := v
  dsimp only
  refine BIBase.Entails.trans (Q := iprop(⌜d0 = c ∧ v18 = SemArray.scalar (sig.barrier 0 rfl)⌝ ∗ (barOut c 2 ∗ barIn c) ∗ rest0 X c ∗ owesW (prod X) K c 19)) ?_ ?_
  · iintro ⟨Hp, ⟨H1, H2⟩, H3⟩
    isplitl [Hp]; · iexact Hp
    isplitl [H1]; · iexact H1
    isplitl [H2] <;> iassumption
  refine with_pure fun hv => ?_
  obtain ⟨hd, rfl⟩ := hv
  have hd := hd.symm
  subst hd
  refine seq c (part2 X K c _ _ _) ?_
  refine skip c (Takes.frame_l (part3 X K c)) fun _ => ?_
  refine skip c (Takes.frame_l (part4 X K c)) fun _ => ?_
  refine skip c (Takes.frame_l (part5 X K c)) fun _ => ?_
  refine skip c (Takes.frame_l (part6 X K c)) fun _ => ?_
  refine seq c (Does.frame_l (part7 X K c)) ?_
  refine skip c (Takes.frame_l (part8 X K c)) fun _ => ?_
  refine skip c (Takes.frame_l (part9 X K c)) fun _ => ?_
  refine skip c (Takes.frame_l (part10 X K c)) fun _ => ?_
  refine seq c (Does.frame_l (part11 X K c)) ?_
  refine seq c (Does.frame_l (part12 X K c)) ?_
  refine skip c (Takes.frame_l (part13 X K c)) fun _ => ?_
  refine skip c (Takes.frame_l (part14 X K c)) fun _ => ?_
  refine skip c (Takes.frame_l (part15 X K c)) fun _ => ?_
  refine skip c (Takes.frame_l (part16 X K c _ _ _)) fun v => ?_
  obtain ⟨w16a, w16b⟩ := v; dsimp only
  refine skip c (Takes.frame_l (part17 X K c)) fun _ => ?_
  refine skip c (Takes.frame_l (part18 X K c)) fun _ => ?_
  refine seq c (Does.frame_l (part19 X K c)) ?_
  refine seq c (Does.frame_l (part20 X K c)) ?_
  refine skip c (Takes.frame_l (part21 X K c _ _ _)) fun v => ?_
  obtain ⟨w21a, w21b⟩ := v; dsimp only
  refine seq c (Does.frame_l (part22 X K c)) ?_
  refine seq c (Does.frame_l (part23 X K c)) ?_
  refine skip c (Takes.frame_l (part24 X K c)) fun _ => ?_
  refine skip c (Takes.frame_l (part25 X K c _ _ _)) fun w25 => ?_
  refine skip c (late' (part26 (prod X) K c _ _ _ _)) fun w26 => ?_
  refine skip c (late' (part27 (prod X) K c _ _ _ _ _ _)) fun _ => ?_
  refine skip c (late' (part28 (prod X) K c _ _ _ _ _ _)) fun v => ?_
  obtain ⟨w28a, w28b, w28c⟩ := v; dsimp only
  refine skip c (late' (part29 (prod X) K c _ _ _ _ _ _)) fun v => ?_
  obtain ⟨w29a, w29b, w29c⟩ := v; dsimp only
  refine skip c (late' (part30 (prod X) K c _ _ _ _ _)) fun v => ?_
  obtain ⟨w30a, w30b⟩ := v; dsimp only
  refine seq c (late (part31 (prod X) K c _ _ _ _ _ _ _ _)) ?_; dsimp only
  refine skip c (late' (part32 (prod X) K c _ _ _ _ _ _)) fun v => ?_
  obtain ⟨w32a, w32b, w32c⟩ := v; dsimp only
  refine skip c (late' (part33 (prod X) K c _ _ _ _ _)) fun v => ?_
  obtain ⟨w33a, w33b, w33c, w33d⟩ := v; dsimp only
  refine skip c (late' (part34 (prod X) K c _ _ _ _ _ _ _)) fun _ => ?_
  refine skip c (late' (part35 (prod X) K c _ _ _ _ _)) fun v => ?_
  obtain ⟨w35a, w35b⟩ := v; dsimp only
  refine (to_gather X K c).trans ?_
  refine skip c (late' (part36 (prod X) K c _ _ _ _ _ _ _)) fun v => ?_
  obtain ⟨w36a, w36b, w36c, w36d, w36e⟩ := v; dsimp only
  refine skip c (late' (part37 (prod X) K c _ _ _ _ _ _ _)) fun v => ?_
  obtain ⟨w37a, w37b, w37c, w37d, w37e, w37f⟩ := v; dsimp only
  refine skip c (late' (part38 (prod X) K c _ _ _ _ _ _ _ _)) fun _ => ?_
  refine skip c (late' (part39 (prod X) K c _ _ _ _ _)) fun v => ?_
  obtain ⟨w39a, w39b, w39c, w39d⟩ := v; dsimp only
  refine skip c (late' (part40 (prod X) K c _ _ _ _ _)) fun v => ?_
  obtain ⟨w40a, w40b, w40c, w40d⟩ := v; dsimp only
  refine skip c (late' (part41 (prod X) K c _ _ _ _ _ _ _)) fun v => ?_
  obtain ⟨w41a, w41b⟩ := v; dsimp only
  refine skip c (late' (part42 (prod X) K c _ _ _ _ _ _)) fun v => ?_
  obtain ⟨w42a, w42b⟩ := v; dsimp only
  refine skip c (late' (part43 (prod X) K c _ _ _ _ _ _ _)) fun v => ?_
  obtain ⟨w43a, w43b, w43c, w43d, w43e⟩ := v; dsimp only
  refine skip c (late' (part44 (prod X) K c _ _ _ _ _ _ _ _)) fun w44 => ?_
  refine skip c (late' (part45 (prod X) K c _ _ _ _ _)) fun w45 => ?_
  show _ ⊢ wp _ _ _ (Prog.ret _) _
  rw [wp_ret]; iintro H; imodintro
  isplitr; · (ipureintro; rfl)
  iexact H

set_option maxRecDepth 65536 in
/-- The kernel on device `c`. -/
theorem body : Takes c (first X K c) (cc0_body (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9) (last X K c) := by
  rw [cc0_body_eq_skeleton]; unfold cc0_body_skel Takes; dsimp only
  rw [wp_bind]
  refine (part46 X K c).trans (wp_mono _ _ _ fun v => ?_)
  refine with_pure fun hd => ?_
  obtain ⟨d0, v1268, v1285, v1302⟩ := v
  dsimp only at hd ⊢
  have hd := hd.symm
  subst hd
  refine seq c (late (pay2 (ag3_wait (prod X) c 2 K (k := 0) (by omega) rfl rfl (by omega)))) ?_
  refine seq c (late (on0 (end_load (prod X) c 0 (off_back0 c).1 rfl))) ?_
  refine skip c (late' (dead0 (end_dead (prod X) c 0 (off_back0 c).1 rfl))) fun _ => ?_
  refine seq c (late (on0 (end_store (prod X) c 0 (off_back0 c).1 rfl rfl))) ?_
  refine seq c (late (on1 (end_load (prod X) c 1 (off_back0 c).2.1 rfl))) ?_
  refine skip c (late' (dead1 (end_dead (prod X) c 1 (off_back0 c).2.1 rfl))) fun _ => ?_
  refine seq c (late (on1 (end_store (prod X) c 1 (off_back0 c).2.1 rfl rfl))) ?_
  refine seq c (late (on2 (end_load (prod X) c 2 (off_back0 c).2.2 rfl))) ?_
  refine skip c (late' (dead2 (end_dead (prod X) c 2 (off_back0 c).2.2 rfl))) fun _ => ?_
  refine seq c (late (on2 (end_store (prod X) c 2 (off_back0 c).2.2 rfl rfl))) ?_
  exact done c
end Body

end Cert.Hypercube
-- ==== Proof.Windows.lean ====
/-
The buffers at the ends of a device's run: whole buffers as the bands and windows the run starts from, and the bands
it leaves as whole buffers again.
-/
module

public import proofs.«01_k».proof.Proof.Body

@[expose] public section

noncomputable section

namespace Cert.Hypercube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Whole buffers and bands -/

section Whole
variable {R : ℕ} {e : EltTy} (d : Dev nD) (M : Memref sig .tc .vmem (Sh R) e)

/-- All rows are all indices. -/
theorem rows_all : rows R 0 R = Finset.univ := by
  ext i; simp only [mem_rows, Finset.mem_univ, iff_true]
  exact ⟨Nat.zero_le _, by have h : (i 0).val < R := (i 0).isLt; omega⟩

/-- A whole buffer is the band of all its rows. -/
theorem any_of_whole (hM : M.view.set = Finset.univ) (hR : 0 < R) (f : Buf (Elt F) (M.view.loc (d.tc : Thread nD τ))) :
    (M.view.loc (d.tc : Thread nD τ) ↦{fullShare} f) ⊢ (ownAny d M 0 R : sProp 𝕄) := by
  have hp : ∀ x : Fin 2, 0 < (![R, 2048] : Fin 2 → ℕ) x := by
    intro x; fin_cases x
    · exact hR
    · show 0 < 2048; decide
  unfold ownAny own
  iintro H
  iexists (fun r j => M.view.read (Elt F) f (ix hp ![r, j.val]))
  iexists f
  isplitr
  · ipureintro; intro i _
    congr 1; funext x; fin_cases x
    · apply Fin.ext; show (i 0).val = (i 0).val % R; exact (Nat.mod_eq_of_lt (i 0).isLt).symm
    · apply Fin.ext; show (i 1).val = (i 1).val % 2048; exact (Nat.mod_eq_of_lt (i 1).isLt).symm
  rw [rows_all, View.setOn_univ, hM]; iexact H

/-- The band of all rows is a whole buffer. -/
theorem whole_of_own (hM : M.view.set = Finset.univ) (A : Mat F e) :
    own d M 0 R fullShare A ⊢ (iprop(∃ f : Buf (Elt F) (M.view.loc (d.tc : Thread nD τ)), ⌜∀ i, M.view.read (Elt F) f i = A (i 0).val (i 1)⌝
      ∗ (M.view.loc (d.tc : Thread nD τ) ↦{fullShare} f)) : sProp 𝕄) := by
  unfold own
  rw [rows_all, View.setOn_univ, hM]
  iintro ⟨%f, %hf, H⟩
  iexists f
  isplitr; · (ipureintro; exact fun i => hf i (Finset.mem_univ i))
  iexact H
/-- All rows at any contents are the whole buffer at any contents. -/
theorem whole_of_any (hM : M.view.set = Finset.univ) :
    ownAny d M 0 R ⊢ (iprop(∃ f : Buf (Elt F) (M.view.loc (d.tc : Thread nD τ)), (M.view.loc (d.tc : Thread nD τ) ↦{fullShare} f)) : sProp 𝕄) := by
  unfold ownAny
  iintro ⟨%A, H⟩
  ihave H := (whole_of_own d M hM A) $$ H
  icases H with ⟨%f, -, H⟩
  iexists f; iexact H

/-- Two adjacent bands at any contents are one. -/
theorem any_join (lo n m : ℕ) : iprop(ownAny d M lo n ∗ ownAny d M (lo + n) m) ⊢ (ownAny d M lo (n + m) : sProp 𝕄) := by
  unfold ownAny
  iintro ⟨⟨%A, H1⟩, ⟨%B, H2⟩⟩
  iexists (fun r j => if r < lo + n then A r j else B r j)
  iapply (own_join d M lo n m fullShare _)
  isplitl [H1]
  · iapply (own_congr d M (A := A) (fun r j h1 h2 => (if_pos h2).symm)); iexact H1
  · iapply (own_congr d M (A := B) (fun r j h1 h2 => (if_neg (by omega)).symm)); iexact H2

/-- All rows as three bands, and back. -/
theorem any_split3 {n a b c : ℕ} (h : n = a + (b + c)) :
    ownAny d M 0 n ⊢ (iprop(ownAny d M 0 a ∗ ownAny d M a b ∗ ownAny d M (a + b) c) : sProp 𝕄) := by
  subst h
  have h := any_split (F := F) d M 0 a (b + c)
  rw [Nat.zero_add] at h
  exact h.trans (sep_mono_right (any_split d M a b c))
/-- Three ranges at any contents that follow each other make one. -/
theorem any_join3 {n a b c : ℕ} (h : n = a + (b + c)) :
    (iprop(ownAny d M 0 a ∗ ownAny d M a b ∗ ownAny d M (a + b) c) : sProp 𝕄) ⊢ ownAny d M 0 n := by
  subst h
  have h := any_join (F := F) d M 0 a (b + c)
  rw [Nat.zero_add] at h
  exact (sep_mono_right (any_join d M a b c)).trans h
/-- Three ranges of the same matrix that follow each other make one. -/
theorem own_join3 {n a b c : ℕ} (h : n = a + (b + c)) (A : Mat F e) :
    (iprop(own d M 0 a fullShare A ∗ own d M a b fullShare A ∗ own d M (a + b) c fullShare A) : sProp 𝕄) ⊢ own d M 0 n fullShare A := by
  subst h
  have h := own_join (F := F) d M 0 a (b + c) fullShare A
  rw [Nat.zero_add] at h
  exact (sep_mono_right (own_join d M a b c fullShare A)).trans h
end Whole

section Ends
variable (c : Dev nD) (g : Fin 3)

/-! ## The receive buffers' windows -/

/-- Group `g`'s receive window of round `k`. -/
def rvw (k : ℕ) : sProp 𝕄 := ownAny c (rvM g) (ro g k) (sz g (k + 1))

/-- The three rounds' windows follow each other and fill the receive buffer. -/
theorem win_eqs : rvR g = sz g 1 + (sz g 2 + sz g 3) ∧ ro g 0 = 0 ∧ ro g 1 = sz g 1 ∧ ro g 2 = sz g 1 + sz g 2 := by
  revert g; decide

/-- A receive buffer is its three windows. -/
theorem rv_split : ownAny c (rvM g) 0 (rvR g) ⊢ (iprop(rvw c g 0 ∗ rvw c g 1 ∗ rvw c g 2) : sProp 𝕄) := by
  obtain ⟨h, e0, e1, e2⟩ := win_eqs g
  unfold rvw
  rw [e0, e1, e2]
  exact any_split3 c (rvM g) h

/-- The windows, used, are the receive buffer again. -/
theorem rv_join : got c g 3 ⊢ (ownAny c (rvM g) 0 (rvR g) : sProp 𝕄) := by
  obtain ⟨h, e0, e1, e2⟩ := win_eqs g
  refine BIBase.Entails.trans ?_ (any_join3 c (rvM g) h)
  refine (Entails.of_eq (show got c g 3 = iprop(((emp ∗ rvw c g 0) ∗ rvw c g 1) ∗ rvw c g 2) from rfl)).trans ?_
  unfold rvw
  rw [e0, e1, e2]
  iintro ⟨⟨⟨-, H0⟩, H1⟩, H2⟩
  isplitl [H0]; · iexact H0
  isplitl [H1] <;> iassumption

/-- What a barrier signal hands over of a group is the window of the round in which the group uses that axis. -/
theorem barPart_win (a : Fin 3) : barPart (nbr c a) a g = (rvw c g (rd a g) : sProp 𝕄) := by
  unfold barPart rvw; rw [nbr_nbr]

/-- The windows by group are the windows by neighbour. -/
theorem wins_out : iprop((rvw c 0 0 ∗ rvw c 0 1 ∗ rvw c 0 2) ∗ (rvw c 1 0 ∗ rvw c 1 1 ∗ rvw c 1 2) ∗ (rvw c 2 0 ∗ rvw c 2 1 ∗ rvw c 2 2))
    ⊢ (iprop(barPay (nbr c (0 : Fin 3)) 0 ∗ barPay (nbr c (1 : Fin 3)) 1 ∗ barPay (nbr c (2 : Fin 3)) 2) : sProp 𝕄) := by
  unfold barPay
  simp only [barPart_win]
  refine BIBase.Entails.trans ?_ (Entails.of_eq (show (iprop((rvw c 0 0 ∗ rvw c 1 2 ∗ rvw c 2 1) ∗ (rvw c 0 1 ∗ rvw c 1 0 ∗ rvw c 2 2)
    ∗ (rvw c 0 2 ∗ rvw c 1 1 ∗ rvw c 2 0)) : sProp 𝕄) = _ from rfl))
  iintro ⟨⟨H00, H01, H02⟩, ⟨H10, H11, H12⟩, H20, H21, H22⟩
  isplitl [H00 H12 H21]
  · isplitl [H00]; · iexact H00
    isplitl [H12] <;> iassumption
  isplitl [H01 H10 H22]
  · isplitl [H01]; · iexact H01
    isplitl [H10] <;> iassumption
  isplitl [H02]; · iexact H02
  isplitl [H11] <;> iassumption

/-! ## The result's bands -/

/-- A round's rows at any contents are the two halves. -/
theorem any_band {e : EltTy} (M : Memref sig .tc .vmem (Sh 2048) e) {k : ℕ} (hk : k < 3) :
    ownAny c M (st g k c) (sz g k)
      ⊢ (iprop(ownAny c M (st g (k + 1) c) (sz g (k + 1)) ∗ ownAny c M (sst g k c) (sz g (k + 1))) : sProp 𝕄) := by
  unfold ownAny
  iintro ⟨%B, H⟩
  ihave H := (band_split c g M hk fullShare B) $$ H
  icases H with ⟨H1, H2⟩
  isplitl [H1]; · (iexists B; iexact H1)
  iexists B; iexact H2

/-- A group's rows of the result are the four bands to write. -/
theorem un_intro : ownAny c outM (gs g) (sz g 0) ⊢ (un c g 4 : sProp 𝕄) := by
  refine BIBase.Entails.trans ?_ (Entails.of_eq (show (iprop(ownAny c outM (st g 3 c) (sz g 3) ∗ ownAny c outM (sst g 2 c) (sz g 3)
    ∗ ownAny c outM (sst g 1 c) (sz g 2) ∗ ownAny c outM (sst g 0 c) (sz g 1) ∗ emp) : sProp 𝕄) = un c g 4 from rfl))
  refine (any_band (F := F) c g outM (k := 0) (by decide)).trans ?_
  refine (sep_mono_left (any_band (F := F) c g outM (k := 1) (by decide))).trans ?_
  refine (sep_mono_left (sep_mono_left (any_band (F := F) c g outM (k := 2) (by decide)))).trans ?_
  iintro ⟨⟨⟨H1, H2⟩, H3⟩, H4⟩
  isplitl [H1]; · iexact H1
  isplitl [H2]; · iexact H2
  isplitl [H3]; · iexact H3
  isplitl [H4]; · iexact H4
  iempintro

/-- The result is the three groups' bands to write. -/
theorem uns_intro : ownAny c outM 0 2048 ⊢ (iprop(un c 0 4 ∗ un c 1 4 ∗ un c 2 4) : sProp 𝕄) := by
  refine (any_split3 c outM (a := 768) (b := 640) (c := 640) rfl).trans ?_
  exact BI.sep_mono (un_intro c 0) (BI.sep_mono (un_intro c 1) (un_intro c 2))

/-- The four bands written are the group's rows of the result. -/
theorem wr_join (A : Dev nD → Mat F .bf16) : wr A c g 4 ⊢ (own c outM (gs g) (sz g 0) fullShare (res A g) : sProp 𝕄) := by
  refine BIBase.Entails.trans ?_ (band_join c g outM (k := 0) (by decide) fullShare (res A g))
  refine BIBase.Entails.trans ?_ (sep_mono_left (band_join c g outM (k := 1) (by decide) fullShare (res A g)))
  refine BIBase.Entails.trans ?_ (sep_mono_left (sep_mono_left (band_join c g outM (k := 2) (by decide) fullShare (res A g))))
  refine (Entails.of_eq (show wr A c g 4 = iprop((((emp ∗ own c outM (st g 3 c) (sz g 3) fullShare (res A g)) ∗ own c outM (sst g 2 c) (sz g 3) fullShare (res A g))
    ∗ own c outM (sst g 1 c) (sz g 2) fullShare (res A g)) ∗ own c outM (sst g 0 c) (sz g 1) fullShare (res A g)) from rfl)).trans ?_
  exact sep_mono_left (sep_mono_left (sep_mono_left sep_elim_right))

/-- The group of a row. -/
def group (r : ℕ) : Fin 3 := if r < 768 then 0 else if r < 1408 then 1 else 2

/-- The whole result, a row at a time. -/
def outRow (A : Dev nD → Mat F .bf16) : Mat F .f32 := fun r j => res A (group r) r j

/-- The three groups' bands written are the whole result. -/
theorem wrs_join (A : Dev nD → Mat F .bf16) : (iprop(wr A c 0 4 ∗ wr A c 1 4 ∗ wr A c 2 4) : sProp 𝕄) ⊢ own c outM 0 2048 fullShare (outRow A) := by
  refine BIBase.Entails.trans ?_ (own_join3 c outM (a := 768) (b := 640) (c := 640) rfl (outRow A))
  refine BI.sep_mono ((wr_join c 0 A).trans (own_congr c outM ?_)) (BI.sep_mono ((wr_join c 1 A).trans (own_congr c outM ?_)) ((wr_join c 2 A).trans (own_congr c outM ?_)))
  · intro r j h1 h2
    have h : r < 0 + 768 := h2
    unfold outRow group; rw [if_pos (by omega)]
  · intro r j h1 h2
    have h : 768 ≤ r := h1
    have h' : r < 768 + 640 := h2
    unfold outRow group; rw [if_neg (by omega), if_pos (by omega)]
  · intro r j h1 h2
    have h : 1408 ≤ r := h1
    unfold outRow group; rw [if_neg (by omega), if_neg (by omega)]

/-- The accumulator's three groups are the whole of it. -/
theorem acc_join (A : Dev nD → Mat F .bf16) : (iprop(own c accM (gs 0) (sz 0 0) fullShare (fin A 0) ∗ own c accM (gs 1) (sz 1 0) fullShare (fin A 1)
    ∗ own c accM (gs 2) (sz 2 0) fullShare (fin A 2)) : sProp 𝕄) ⊢ ownAny c accM 0 2048 := by
  refine BIBase.Entails.trans ?_ (any_join3 c accM (a := 768) (b := 640) (c := 640) rfl)
  exact BI.sep_mono (own_any _ _ _ _ _) (BI.sep_mono (own_any _ _ _ _ _) (own_any _ _ _ _ _))

/-! ## The two slots and the arguments' halves -/

/-- A slot holds the indices with its number first. -/
theorem slot_mem {s : ℕ} (h : SlotIn s) (i : S2x128x2048.Idx) : i ∈ (slot h).view.set ↔ (i 0).val = s := by
  have e : (slot h).view.set = (Rect.unit (s := S2x128x2048) ![s, 0, 0] S1x128x2048.size h).set :=
    (View.set_reshape _ _).trans (View.set_slice_whole _ _)
  rw [e, Rect.mem_set_unit]
  constructor
  · intro hx
    have h1 : s ≤ (i 0).val := (hx 0).1
    have h2 : (i 0).val < s + 1 := (hx 0).2
    omega
  · intro hx x
    fin_cases x
    · exact ⟨show s ≤ (i 0).val by omega, show (i 0).val < s + 1 by omega⟩
    · exact ⟨Nat.zero_le _, show (i 1).val < 0 + 128 by have h1 : (i 1).val < 128 := (i 1).isLt; omega⟩
    · exact ⟨Nat.zero_le _, show (i 2).val < 0 + 2048 by have h1 : (i 2).val < 2048 := (i 2).isLt; omega⟩

/-- The two slots are the whole buffer, -/
theorem slots_univ : (slot h0).view.set ∪ (slot h1).view.set = (Finset.univ : Finset S2x128x2048.Idx) := by
  ext i
  have h2 : (i 0).val < 2 := (i 0).isLt
  constructor
  · intro _; exact Finset.mem_univ _
  · intro _
    rcases (by omega : (i 0).val = 0 ∨ (i 0).val = 1) with h | h
    · exact Finset.mem_union_left _ ((slot_mem h0 i).2 h)
    · exact Finset.mem_union_right _ ((slot_mem h1 i).2 h)
/-- and share nothing. -/
theorem slots_disjoint : Disjoint ((slot h0).view.set : Finset S2x128x2048.Idx) (slot h1).view.set :=
  Finset.disjoint_left.2 fun i a b => by
    have ha := (slot_mem h0 i).1 a
    have hb := (slot_mem h1 i).1 b
    omega

/-- A slot of the copies' buffer, at any contents. -/
abbrev slotAny {s : ℕ} (h : SlotIn s) : sProp (MT nD τ sig Unit (Elt F) ℕ UU ℕ) :=
  iprop(∃ f : Buf (Elt F) ((slot h).view.loc (c.tc : Thread nD τ)), (slot h).view.loc (c.tc : Thread nD τ) ↦[(slot h).view.set]{fullShare} f)

/-- The copies' buffer is its two slots, -/
theorem slots_split (f : Buf (Elt F) ((c.tc : Thread nD τ).loc cc0_scratch3)) :
    (((c.tc : Thread nD τ).loc cc0_scratch3) ↦{fullShare} f) ⊢ (iprop(slotAny c h0 ∗ slotAny c h1) : sProp 𝕄) := by
  have h : (((c.tc : Thread nD τ).loc cc0_scratch3) ↦{fullShare} f : sProp 𝕄)
      = (((c.tc : Thread nD τ).loc cc0_scratch3) ↦[(slot h0).view.set ∪ (slot h1).view.set]{fullShare} f) :=
    congrArg (fun S : Finset S2x128x2048.Idx => (((c.tc : Thread nD τ).loc cc0_scratch3) ↦[S]{fullShare} f : sProp 𝕄)) slots_univ.symm
  rw [h]
  iintro H
  ihave H := (pointsTo_union slots_disjoint).1 $$ H
  icases H with ⟨H0, H1⟩
  isplitl [H0]
  · iexists f; iexact H0
  · iexists f; iexact H1

/-- and the slots are the buffer again. -/
theorem slots_join : (iprop(slotAny c h0 ∗ slotAny c h1) : sProp 𝕄)
    ⊢ iprop(∃ f : Buf (Elt F) ((c.tc : Thread nD τ).loc cc0_scratch3), ((c.tc : Thread nD τ).loc cc0_scratch3) ↦{fullShare} f) := by
  iintro ⟨⟨%f, H0⟩, ⟨%f', H1⟩⟩
  ihave H := (pointsTo_join (ℓ := (c.tc : Thread nD τ).loc cc0_scratch3) (I := (slot h0).view.set) (J := (slot h1).view.set)
    (q := fullShare) (f := f) (g := f') slots_disjoint) $$ [H0 H1]
  · isplitl [H0] <;> iassumption
  iexists (((slot h1).view.set : Finset S2x128x2048.Idx).piecewise f' f : Buf (Elt F) ((c.tc : Thread nD τ).loc cc0_scratch3))
  iapply (Entails.of_eq (congrArg (fun S : Finset S2x128x2048.Idx => (((c.tc : Thread nD τ).loc cc0_scratch3) ↦[S]{fullShare}
    (((slot h1).view.set : Finset S2x128x2048.Idx).piecewise f' f : Buf (Elt F) ((c.tc : Thread nD τ).loc cc0_scratch3)) : sProp 𝕄)) slots_univ))
  iexact H

variable (X : Inp F)

/-- An argument held outright. -/
def argAll (a : Fin 2) : sProp 𝕄 := iprop((argR a).view.loc (c.tc : Thread nD τ) ↦{fullShare} X c a)

/-- An argument held outright is a half for each slot, -/
theorem arg_halves (a : Fin 2) : argAll c X a ⊢ (iprop(argH X c 0 a ∗ argH X c 1 a) : sProp 𝕄) := by
  unfold argAll argH half
  rw [if_pos rfl, if_neg (by decide)]
  exact (pointsTo_share (PosShare.mem_left_op_right fullShare)).1
/-- and the halves are the argument again. -/
theorem arg_whole (a : Fin 2) : (iprop(argH X c 0 a ∗ argH X c 1 a) : sProp 𝕄) ⊢ argAll c X a := by
  unfold argAll argH half
  rw [if_pos rfl, if_neg (by decide)]
  exact (pointsTo_share (PosShare.mem_left_op_right fullShare)).2
/-- Both arguments are a half of both for each slot, -/
theorem args_split : iprop(argAll c X 0 ∗ argAll c X 1) ⊢ (iprop(args X c 0 ∗ args X c 1) : sProp 𝕄) := by
  unfold args
  iintro ⟨H0, H1⟩
  ihave H0 := (arg_halves c X 0) $$ H0
  ihave H1 := (arg_halves c X 1) $$ H1
  icases H0 with ⟨Ha, Hb⟩
  icases H1 with ⟨Hd, He⟩
  isplitl [Ha Hd]
  · isplitl [Ha] <;> iassumption
  isplitl [Hb] <;> iassumption
/-- and these are both arguments again. -/
theorem args_join : (iprop(args X c 0 ∗ args X c 1) : sProp 𝕄) ⊢ iprop(argAll c X 0 ∗ argAll c X 1) := by
  unfold args
  iintro ⟨⟨Ha, Hd⟩, Hb, He⟩
  isplitl [Ha Hb]
  · iapply (arg_whole c X 0)
    isplitl [Ha] <;> iassumption
  iapply (arg_whole c X 1)
  isplitl [Hd] <;> iassumption

end Ends

end Cert.Hypercube
-- ==== Proof.Ends.lean ====
/-
The ends of a device's run: what the launch hands a device is what its run starts from, and what the run leaves is what
the launch takes back.
-/
module

public import proofs.«01_k».proof.Proof.Windows

@[expose] public section

noncomputable section

namespace Cert.Hypercube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A group and one of its transfers. -/
abbrev GJ : Type := Fin 3 × Fin 6

/-- Something for each of three is three things. -/
theorem sep3 (Φ : Fin 3 → sProp 𝕄) : bigSep Finset.univ Φ = iprop(Φ 0 ∗ Φ 1 ∗ Φ 2) := bigSep_univ_eq_bigSepL [0, 1, 2] (by decide) (by decide) Φ
/-- Something for each of six is six things. -/
theorem sep6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

set_option backward.proofsInPublic true in
/-- The kernel's own semaphores: the two of the local copies, the sends', the receives'. -/
abbrev osem : Fin 2 ⊕ (GJ ⊕ GJ) → SemLoc sig
  | .inl s => .dma (lq s.val)
  | .inr (.inl x) => .dma (sq x.1 x.2.val)
  | .inr (.inr x) => .dma (rq x.1 x.2.val)

section Dev
variable (X : Inp F) (c : Dev nD)

/-- The duties a device pays: a barrier signal to each neighbour, and each transfer's two credits. -/
def payToks : sProp 𝕄 := iprop((bigSep Finset.univ fun a : Fin 3 => dutyTok ER (barCell (nbr c a)) 0 a)
  ∗ (bigSep Finset.univ fun x : GJ => dutyTok ER (scell c x.1 x.2.val) 0 0)
  ∗ bigSep Finset.univ fun x : GJ => dutyTok ER (rcell (nbr c (tax x.1 x.2.val)) x.1 x.2.val) 0 0)
/-- Its positions at its own cells. -/
def places : sProp 𝕄 := iprop(atPos ER (barCell c) 0 ∅ 0
  ∗ (bigSep Finset.univ fun x : GJ => atPos ER (scell c x.1 x.2.val) 0 ∅ 0)
  ∗ bigSep Finset.univ fun x : GJ => atPos ER (rcell c x.1 x.2.val) 0 ∅ 0)
/-- The semaphores of its local copies. -/
def loads : sProp 𝕄 := iprop(semVal ((c.tc : Thread nD τ), .dma (lq 0)) 0 ∗ semVal ((c.tc : Thread nD τ), .dma (lq 1)) 0)
/-- What it is due at its own cells. -/
def dues : sProp 𝕄 := iprop(cred (tallyAt (barCell c) () 3)
  ∗ bigSep Finset.univ fun x : GJ => cred (tallyAt (rcell c x.1 x.2.val) () (cr (trows x.1 x.2.val))))

/-- What a device holds at launch besides its scratch buffers and its staging. -/
def start : sProp 𝕄 := iprop((∃ K : Dev nD × Fin 37 → ℕ, env (prod X) K ∗ payToks c ∗ places c ∗ loads c) ∗ dues c ∗ argAll c X 0 ∗ argAll c X 1)

/-- The rights of a group's six transfers, in the order of use. -/
theorem todos_list (g : Fin 3) : (bigSep Finset.univ fun j : Fin 6 => todo c g j.val) ⊢ (todos c g 6 : sProp 𝕄) := by
  rw [sep6]
  refine BIBase.Entails.trans ?_ (Entails.of_eq (show (iprop(todo c g 0 ∗ todo c g 1 ∗ todo c g 2 ∗ todo c g 3 ∗ todo c g 4 ∗ todo c g 5 ∗ emp) : sProp 𝕄)
    = todos c g 6 from rfl))
  iintro ⟨H0, H1, H2, H3, H4, H5⟩
  isplitl [H0]; · iexact H0
  isplitl [H1]; · iexact H1
  isplitl [H2]; · iexact H2
  isplitl [H3]; · iexact H3
  isplitl [H4]; · iexact H4
  isplitl [H5]; · iexact H5
  iempintro

/-- The transfers' duties, positions and dues, transfer by transfer. -/
theorem todos_intro : iprop(((bigSep Finset.univ fun x : GJ => dutyTok ER (scell c x.1 x.2.val) 0 0)
    ∗ bigSep Finset.univ fun x : GJ => dutyTok ER (rcell (nbr c (tax x.1 x.2.val)) x.1 x.2.val) 0 0)
    ∗ (bigSep Finset.univ fun x : GJ => atPos ER (scell c x.1 x.2.val) 0 ∅ 0)
    ∗ (bigSep Finset.univ fun x : GJ => atPos ER (rcell c x.1 x.2.val) 0 ∅ 0)
    ∗ bigSep Finset.univ fun x : GJ => cred (tallyAt (rcell c x.1 x.2.val) () (cr (trows x.1 x.2.val))))
    ⊢ (iprop(todos c 0 6 ∗ todos c 1 6 ∗ todos c 2 6) : sProp 𝕄) := by
  refine BIBase.Entails.trans (Q := bigSep Finset.univ fun x : GJ => todo c x.1 x.2.val) (Entails.of_eq ?_) ?_
  · unfold todo
    rw [bigSep_sep', bigSep_sep', bigSep_sep', bigSep_sep']
  · rw [bigSep_univ_prod, sep3]
    exact BI.sep_mono (todos_list c 0) (BI.sep_mono (todos_list c 1) (todos_list c 2))

/-- The finished transfers' cells. -/
theorem dones_list (g : Fin 3) : dones c g 6 ⊢ (bigSep Finset.univ fun j : Fin 6 => iprop(semVal (scell c g j.val) 0 ∗ semVal (rcell c g j.val) 0) : sProp 𝕄) := by
  rw [sep6]
  refine (Entails.of_eq (show (dones c g 6 : sProp 𝕄) = iprop((((((emp ∗ semVal (scell c g 0) 0 ∗ semVal (rcell c g 0) 0) ∗ semVal (scell c g 1) 0 ∗ semVal (rcell c g 1) 0)
    ∗ semVal (scell c g 2) 0 ∗ semVal (rcell c g 2) 0) ∗ semVal (scell c g 3) 0 ∗ semVal (rcell c g 3) 0) ∗ semVal (scell c g 4) 0 ∗ semVal (rcell c g 4) 0)
    ∗ semVal (scell c g 5) 0 ∗ semVal (rcell c g 5) 0) from rfl)).trans ?_
  iintro ⟨⟨⟨⟨⟨⟨-, H0⟩, H1⟩, H2⟩, H3⟩, H4⟩, H5⟩
  isplitl [H0]; · iexact H0
  isplitl [H1]; · iexact H1
  isplitl [H2]; · iexact H2
  isplitl [H3]; · iexact H3
  isplitl [H4] <;> iassumption

/-- The kernel's own semaphores at zero, listed. -/
theorem osems_eq : (Pipeline.ownSems0 (Ix := Unit) (Name := ℕ) (U := UU) (Lvl := ℕ) (Val := Elt F) (τ := τ) osem c : sProp 𝕄)
    = iprop(loads c ∗ (bigSep Finset.univ fun x : GJ => semVal (scell c x.1 x.2.val) 0) ∗ bigSep Finset.univ fun x : GJ => semVal (rcell c x.1 x.2.val) 0) := by
  unfold Pipeline.ownSems0 loads
  rw [bigSep_univ_sum, bigSep_univ_sum, bigSep_univ_two]
  rfl

/-- The local copies' semaphores and the finished transfers' are the kernel's own, at zero. -/
theorem osems_intro : iprop(loads c ∗ dones c 0 6 ∗ dones c 1 6 ∗ dones c 2 6)
    ⊢ (Pipeline.ownSems0 (Ix := Unit) (Name := ℕ) (U := UU) (Lvl := ℕ) (Val := Elt F) (τ := τ) osem c : sProp 𝕄) := by
  rw [osems_eq, ← bigSep_sep', bigSep_univ_prod, sep3]
  exact sep_mono_right (BI.sep_mono (dones_list c 0) (BI.sep_mono (dones_list c 1) (dones_list c 2)))

/-! ## Entering -/

abbrev someOf (b : Ref sig .tc) : sProp (MT nD τ sig Unit (Elt F) ℕ UU ℕ) := iprop(∃ f : Buf (Elt F) ((c.tc : Thread nD τ).loc b), ((c.tc : Thread nD τ).loc b) ↦{fullShare} f)

/-- A whole buffer at any contents is all its rows at any contents. -/
theorem some_own {R : ℕ} {e : EltTy} (M : Memref sig .tc .vmem (Sh R) e) (hM : M.view.set = Finset.univ) (hR : 0 < R) :
    (iprop(∃ f : Buf (Elt F) (M.view.loc (c.tc : Thread nD τ)), (M.view.loc (c.tc : Thread nD τ)) ↦{fullShare} f) : sProp 𝕄) ⊢ ownAny c M 0 R := by
  iintro ⟨%f, H⟩; iapply (any_of_whole c M hM hR f); iexact H

/-- The scratch buffers, the staging and the arguments, as the run holds them. -/
theorem buffers_in : iprop((someOf c cc0_scratch0 ∗ someOf c cc0_scratch1 ∗ someOf c cc0_scratch2 ∗ someOf c cc0_scratch3 ∗ someOf c cc0_scratch4
      ∗ someOf c cc0_scratch5 ∗ someOf c cc0_scratch6) ∗ someOf c cc0_stg0_0 ∗ argAll c X 0 ∗ argAll c X 1 ∗ loads c)
    ⊢ (iprop((barPay (nbr c (0 : Fin 3)) 0 ∗ barPay (nbr c (1 : Fin 3)) 1 ∗ barPay (nbr c (2 : Fin 3)) 2)
      ∗ (idle X c h0 ∗ idle X c h1) ∗ bAt X c 0 ∗ left c ∗ cAt X c 0 0 ∗ un c 0 4 ∗ un c 1 4 ∗ un c 2 4) : sProp 𝕄) := by
  unfold loads
  iintro ⟨⟨H0, H1, H2, ⟨%f, H3⟩, H4, H5, H6⟩, Hs, Ha0, Ha1, Hl0, Hl1⟩
  ihave H0 := (some_own (F := F) c accM (View.set_whole _) (by decide)) $$ H0
  ihave H1 := (some_own (F := F) c bM (View.set_whole _) (by decide)) $$ H1
  ihave H2 := (some_own (F := F) c aM (View.set_whole _) (by decide)) $$ H2
  ihave H4 := (some_own (F := F) c (rvM 0) (View.set_whole _) (by decide)) $$ H4
  ihave H5 := (some_own (F := F) c (rvM 1) (View.set_whole _) (by decide)) $$ H5
  ihave H6 := (some_own (F := F) c (rvM 2) (View.set_whole _) (by decide)) $$ H6
  ihave Hs := (some_own (F := F) c outM (View.set_whole _) (by decide)) $$ Hs
  ihave H4 := (rv_split (F := F) c 0) $$ H4
  ihave H5 := (rv_split (F := F) c 1) $$ H5
  ihave H6 := (rv_split (F := F) c 2) $$ H6
  ihave H3 := (slots_split (F := F) c f) $$ H3
  icases H3 with ⟨Hz0, Hz1⟩
  ihave Ha := (args_split c X) $$ [Ha0 Ha1]
  · isplitl [Ha0] <;> iassumption
  icases Ha with ⟨Ha0, Ha1⟩
  isplitl [H4 H5 H6]
  · iapply (wins_out (F := F) c)
    isplitl [H4]; · iexact H4
    isplitl [H5] <;> iassumption
  isplitl [Hz0 Hz1 Ha0 Ha1 Hl0 Hl1]
  · unfold idle
    isplitl [Hz0 Ha0 Hl0]
    · isplitl [Hz0]; · iexact Hz0
      isplitl [Hl0] <;> iassumption
    · isplitl [Hz1]; · iexact Hz1
      isplitl [Hl1] <;> iassumption
  isplitl [H1]; · iapply (grow_start c bM (bfs X c 1)); iexact H1
  isplitl [H2]; · iexact H2
  isplitl [H0]; · iapply (grow_start c accM (prod X c)); iexact H0
  iapply (uns_intro (F := F) c); iexact Hs

/-- What a device holds at launch is what its run starts from. -/
theorem enter (W : Waits sig Unit) : iprop((start X c ∗ Pipeline.scopedRest cfg0.spec c) ∗ owes (c.tc : Thread nD τ) (Ow c 21) W ∗ someOf c cc0_stg0_0)
    ⊢ (iprop(∃ K : Dev nD × Fin 37 → ℕ, first X K c) : sProp 𝕄) := by
  rw [scopedRest0_eq]
  unfold start dues payToks places
  rw [sep3]
  iintro ⟨⟨⟨⟨%K, #He, ⟨⟨HT0, HT1, HT2⟩, Hts, Htr⟩, ⟨Hpb, Hps, Hpr⟩, Hl⟩, ⟨Hcb, Hcr⟩, Ha0, Ha1⟩, Hsc⟩, HO, Hs⟩
  iexists K
  ihave Ht := (todos_intro (F := F) c) $$ [Hts Htr Hps Hpr Hcr]
  · isplitl [Hts Htr]; · isplitl [Hts] <;> iassumption
    isplitl [Hps]; · iexact Hps
    isplitl [Hpr] <;> iassumption
  icases Ht with ⟨Ht0, Ht1, Ht2⟩
  ihave HB := (buffers_in X c) $$ [Hsc Hs Ha0 Ha1 Hl]
  · isplitl [Hsc]; · iexact Hsc
    isplitl [Hs]; · iexact Hs
    isplitl [Ha0]; · iexact Ha0
    isplitl [Ha1] <;> iassumption
  icases HB with ⟨⟨HP0, HP1, HP2⟩, ⟨Hi0, Hi1⟩, Hb, Hlf, Hacc, Hu0, Hu1, Hu2⟩
  unfold first barOut barIn rest0 owesW
  isplitl [HP0 HP1 HT0 HT1]
  · isplitl [HP0 HT0]; · isplitl [HP0] <;> iassumption
    isplitl [HP1] <;> iassumption
  isplitr [HO]; swap
  · isplitl [HO]; · (iexists W; iexact HO)
    iexact He
  isplitl [HP2 HT2 Hcb Hpb]
  · isplitl [HP2 HT2]; · isplitl [HP2] <;> iassumption
    isplitl [Hcb] <;> iassumption
  isplitl [Hi0]; · iexact Hi0
  isplitl [Hi1]; · iexact Hi1
  isplitl [Hb]; · iexact Hb
  isplitl [Hlf]; · iexact Hlf
  isplitl [Hacc]; · iexact Hacc
  unfold pre₀
  isplitl [Ht0 Hu0]
  · isplitl [Ht0]; · iexact Ht0
    isplitr; · unfold got; iempintro
    isplitr; · unfold peers; iempintro
    isplitr; · unfold dones; iempintro
    iexact Hu0
  isplitl [Ht1 Hu1]
  · isplitl [Ht1]; · iexact Ht1
    isplitr; · unfold got; iempintro
    isplitr; · unfold peers; iempintro
    isplitr; · unfold dones; iempintro
    iexact Hu1
  · isplitl [Ht2]; · iexact Ht2
    isplitr; · unfold got; iempintro
    isplitr; · unfold peers; iempintro
    isplitr; · unfold dones; iempintro
    iexact Hu2

/-! ## Leaving -/

/-- The result device `c`'s run leaves in its staging. -/
def outAt : S2048x2048.Idx → Elt F .f32 := fun i => outRow (prod X) (i 0).val (i 1)

/-- What a device holds after its run besides the result. -/
def done' : sProp 𝕄 := iprop((semVal (barCell c) 0 ∗ argAll c X 0 ∗ argAll c X 1)
  ∗ Pipeline.ownSems0 (Ix := Unit) (Name := ℕ) (U := UU) (Lvl := ℕ) (Val := Elt F) (τ := τ) osem c ∗ Pipeline.scopedRest cfg0.spec c)

/-- The bands written are the result's staging with the whole result in it. -/
theorem out_whole : (iprop(wr (prod X) c 0 4 ∗ wr (prod X) c 1 4 ∗ wr (prod X) c 2 4) : sProp 𝕄)
    ⊢ iprop(∃ f : Buf (Elt F) ((c.tc : Thread nD τ).loc cc0_stg0_0), ⌜f = outAt X⌝ ∗ (((c.tc : Thread nD τ).loc cc0_stg0_0) ↦{fullShare} f)) := by
  refine (wrs_join c (prod X)).trans ((whole_of_own c outM (View.set_whole _) (outRow (prod X))).trans ?_)
  iintro ⟨%f, %hf, H⟩
  iexists f
  isplitr; · (ipureintro; exact funext hf)
  iexact H

/-- A buffer filled strip by strip is its rows at any contents. -/
theorem grow_all {e : EltTy} (M : Memref sig .tc .vmem (Sh 2048) e) (Y : Mat F e) : grow c M Y 0 16 ⊢ (ownAny c M 0 2048 : sProp 𝕄) := by
  unfold grow; exact sep_elim_left.trans (own_any c M 0 2048 Y)

/-- What a device's run leaves is what the launch takes back. -/
theorem leave (K : Dev nD × Fin 37 → ℕ) : last X K c
    ⊢ (iprop(done' X c ∗ (∃ W : Waits sig Unit, owes (c.tc : Thread nD τ) 0 W)
      ∗ ∃ f : Buf (Elt F) ((c.tc : Thread nD τ).loc cc0_stg0_0), ⌜f = outAt X⌝ ∗ (((c.tc : Thread nD τ).loc cc0_stg0_0) ↦{fullShare} f)) : sProp 𝕄) := by
  unfold done'
  rw [scopedRest0_eq]
  unfold last Late MSt St ag4 owesW
  iintro ⟨Hbar, Hf0, Hf1, Hb, Hl, -, ⟨Hc0, ⟨-, Hg0, -, Hd0⟩, Hw0, -⟩, ⟨Hc1, ⟨-, Hg1, -, Hd1⟩, Hw1, -⟩, ⟨Hc2, ⟨-, Hg2, -, Hd2⟩, Hw2, -⟩, ⟨%W, HO⟩, -⟩
  ihave Hf0 := (full_idle X c h0 0 14) $$ Hf0
  ihave Hf1 := (full_idle X c h1 0 15) $$ Hf1
  unfold idle
  icases Hf0 with ⟨Hz0, Hl0, Ha0⟩
  icases Hf1 with ⟨Hz1, Hl1, Ha1⟩
  ihave Ha := (args_join c X) $$ [Ha0 Ha1]
  · isplitl [Ha0] <;> iassumption
  isplitr [HO Hw0 Hw1 Hw2]; swap
  · isplitl [HO]; · (iexists W; iexact HO)
    iapply (out_whole X c)
    isplitl [Hw0]; · iexact Hw0
    isplitl [Hw1] <;> iassumption
  isplitl [Hbar Ha]
  · isplitl [Hbar] <;> iassumption
  isplitl [Hl0 Hl1 Hd0 Hd1 Hd2]
  · iapply (osems_intro (F := F) c)
    unfold loads
    isplitl [Hl0 Hl1]; · isplitl [Hl0] <;> iassumption
    isplitl [Hd0]; · iexact Hd0
    isplitl [Hd1] <;> iassumption
  isplitl [Hc0 Hc1 Hc2]
  · iapply (whole_of_any c accM (View.set_whole _))
    iapply (acc_join c (prod X))
    isplitl [Hc0]; · iexact Hc0
    isplitl [Hc1] <;> iassumption
  isplitl [Hb]
  · iapply (whole_of_any c bM (View.set_whole _))
    iapply (grow_all c bM (bfs X c 1)); iexact Hb
  isplitl [Hl]; · iapply (whole_of_any c aM (View.set_whole _)); iexact Hl
  isplitl [Hz0 Hz1]
  · iapply (slots_join (F := F) c)
    isplitl [Hz0] <;> iassumption
  isplitl [Hg0]; · iapply (whole_of_any c (rvM 0) (View.set_whole _)); iapply (rv_join (F := F) c 0); iexact Hg0
  isplitl [Hg1]; · iapply (whole_of_any c (rvM 1) (View.set_whole _)); iapply (rv_join (F := F) c 1); iexact Hg1
  iapply (whole_of_any c (rvM 2) (View.set_whole _)); iapply (rv_join (F := F) c 2); iexact Hg2

end Dev

end Cert.Hypercube
-- ==== Proof.Deal.lean ====
/-
Dealing the protocol's resources at launch: the cells' invariants, each device's positions, and every duty's token to
the device that pays it.
-/
module

public import proofs.«01_k».proof.Proof.Ends

@[expose] public section

noncomputable section

namespace Cert.Hypercube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells, one by one -/

set_option backward.proofsInPublic true in
/-- The cells of a device: the barrier, the sends', the receives'. -/
def cellNo : Unit ⊕ (GJ ⊕ GJ) → Fin 37
  | .inl _ => 0
  | .inr (.inl x) => si x.1 x.2.val
  | .inr (.inr x) => ri x.1 x.2.val
/-- The numbering of a device's cells names each once. -/
theorem cellNo_bij : Function.Bijective cellNo := by decide +kernel
def cellEquiv : Unit ⊕ (GJ ⊕ GJ) ≃ Fin 37 := Equiv.ofBijective cellNo cellNo_bij

/-- Something for each cell is something for the barrier, for each send and for each receive. -/
theorem sep37 (Φ : Fin 37 → sProp 𝕄) : bigSep Finset.univ Φ
    = iprop(Φ 0 ∗ (bigSep Finset.univ fun x : GJ => Φ (si x.1 x.2.val)) ∗ bigSep Finset.univ fun x : GJ => Φ (ri x.1 x.2.val)) := by
  rw [bigSep_univ_equiv cellEquiv, bigSep_univ_sum, bigSep_univ_sum, bigSep_univ_of_subsingleton ()]
  rfl

/-- A family over a device's cells. -/
theorem sepCells (c : Dev nD) (Φ : GSem nD τ sig → sProp 𝕄) : (bigSep Finset.univ fun k : Fin 37 => Φ (kcell (c, k)))
    = iprop(Φ (barCell c) ∗ (bigSep Finset.univ fun x : GJ => Φ (scell c x.1 x.2.val)) ∗ bigSep Finset.univ fun x : GJ => Φ (rcell c x.1 x.2.val)) := by
  rw [sep37, bigSep_congr (s := Finset.univ) (fun (x : GJ) _ => by rw [kcell_send c x.1 x.2.isLt]),
    bigSep_congr (s := Finset.univ) (Φ := fun x : GJ => Φ (kcell (c, ri x.1 x.2.val))) (fun (x : GJ) _ => by rw [kcell_recv c x.1 x.2.isLt]), kcell_bar]

/-- Different numbers are different semaphores. -/
theorem csem_injective : Function.Injective csem := by decide +kernel
/-- Different devices or numbers are different cells. -/
theorem kcell_injective : Function.Injective (kcell : Dev nD × Fin 37 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-! ## The duties' tokens -/

set_option backward.proofsInPublic true in
/-- The duties of a device's cells: three at its barrier, one at each transfer's cell. -/
def tokNo : Fin 3 ⊕ (GJ ⊕ GJ) → Fin 37 × Fin 3
  | .inl a => (0, a)
  | .inr (.inl x) => (si x.1 x.2.val, 0)
  | .inr (.inr x) => (ri x.1 x.2.val, 0)
/-- The numbering of a device's duties names each once. -/
theorem tokNo_injective : Function.Injective tokNo := by decide +kernel
def tokOf (t : Dev nD × (Fin 3 ⊕ (GJ ⊕ GJ))) : GSem nD τ sig × ℕ × Fin 3 := (kcell (t.1, (tokNo t.2).1), 0, (tokNo t.2).2)
/-- Different devices or duties have different tokens. -/
theorem tokOf_injective : Function.Injective tokOf := by
  rintro ⟨c, t⟩ ⟨c', t'⟩ h
  have h1 := kcell_injective (congrArg Prod.fst h)
  have h2 : (tokNo t).2 = (tokNo t').2 := congrArg (fun x : GSem nD τ sig × ℕ × Fin 3 => x.2.2) h
  have h3 : t = t' := tokNo_injective (Prod.ext (congrArg Prod.snd h1) h2)
  have h4 : c = c' := congrArg Prod.fst h1
  rw [h3, h4]
def allToks : Finset (GSem nD τ sig × ℕ × Fin 3) := Finset.univ.map ⟨tokOf, tokOf_injective⟩

/-- The tokens of a device's own cells. -/
def toks (c : Dev nD) : sProp 𝕄 := iprop((bigSep Finset.univ fun a : Fin 3 => dutyTok ER (barCell c) 0 a)
  ∗ (bigSep Finset.univ fun x : GJ => dutyTok ER (scell c x.1 x.2.val) 0 0)
  ∗ bigSep Finset.univ fun x : GJ => dutyTok ER (rcell c x.1 x.2.val) 0 0)

/-- All the tokens are each device's. -/
theorem toks_eq : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  unfold toks
  rw [bigSep_univ_sum, bigSep_univ_sum]
  refine congrArg₂ _ rfl (congrArg₂ _ (bigSep_congr fun x _ => ?_) (bigSep_congr fun x _ => ?_))
  · show dutyTok ER (kcell (c, si x.1 x.2.val)) 0 0 = _; rw [kcell_send c x.1 x.2.isLt]
  · show dutyTok ER (kcell (c, ri x.1 x.2.val)) 0 0 = _; rw [kcell_recv c x.1 x.2.isLt]

/-- Devices and axes, each device exchanged with its neighbour. -/
def barTurn : Dev nD × Fin 3 ≃ Dev nD × Fin 3 where
  toFun x := (nbr x.1 x.2, x.2)
  invFun x := (nbr x.1 x.2, x.2)
  left_inv x := Prod.ext (nbr_nbr x.1 x.2) rfl
  right_inv x := Prod.ext (nbr_nbr x.1 x.2) rfl
def xferTurn : Dev nD × GJ ≃ Dev nD × GJ where
  toFun x := (nbr x.1 (tax x.2.1 x.2.2.val), x.2)
  invFun x := (nbr x.1 (tax x.2.1 x.2.2.val), x.2)
  left_inv x := Prod.ext (nbr_tax x.1 x.2.1 x.2.2.val) rfl
  right_inv x := Prod.ext (nbr_tax x.1 x.2.1 x.2.2.val) rfl

/-- The tokens, dealt to the devices that pay the duties. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    ← bigSep_univ_prod (fun x : Dev nD × Fin 3 => (dutyTok ER (barCell x.1) 0 x.2 : sProp 𝕄)),
    ← bigSep_univ_prod (fun x : Dev nD × GJ => (dutyTok ER (rcell x.1 x.2.1 x.2.2.val) 0 0 : sProp 𝕄)),
    bigSep_univ_equiv barTurn, bigSep_univ_equiv xferTurn, bigSep_univ_prod, bigSep_univ_prod]
  exact Entails.of_eq rfl

/-! ## The global step -/

section Deal
variable (X : Inp F)

/-- What the launch element deals a device. -/
def G (c : Dev nD) : sProp 𝕄 :=
  iprop((bigSep Finset.univ fun k : Fin 37 => roundState ER (sched (prod X)) (kcell (c, k)) 0)
    ∗ (bigSep Finset.univ fun k : Fin 37 => iprop(atPos ER (kcell (c, k)) 0 ∅ 0 ∗ reached ER (kcell (c, k)) 0)) ∗ toks c)

/-- The launch element deals every device its cells and tokens. -/
theorem fund_cells : BI.own (ER (initOf allCells allToks)) ⊢ (|==> bigSep Finset.univ (G X) : sProp 𝕄) := by
  have hX (Φ : GSem nD τ sig → sProp 𝕄) : bigSep allCells Φ = bigSep Finset.univ fun c : Dev nD => bigSep Finset.univ fun k : Fin 37 => Φ (kcell (c, k)) := by
    unfold allCells; rw [bigSep_map, bigSep_univ_prod]; rfl
  iintro HX
  imod (Rounds.fund ER (sched (prod X)) allCells allToks) $$ HX with ⟨Hst, Hr, Hat, Htok⟩
  imodintro
  ihave Hst := (Entails.of_eq (hX fun g => roundState ER (sched (prod X)) g 0)) $$ Hst
  ihave Hat := (Entails.of_eq (hX fun g => atPos ER g 0 ∅ 0)) $$ Hat
  ihave Hr := (Entails.of_eq (hX fun g => reached ER g 0)) $$ Hr
  ihave Htok := (Entails.of_eq toks_eq) $$ Htok
  unfold G; simp only [bigSep_sep']
  isplitl [Hst]; · iexact Hst
  isplitl [Hat Hr]; · isplitl [Hat] <;> iassumption
  iexact Htok

/-- The cells' invariants and that each is at its round. -/
def records (K : Dev nD × Fin 37 → ℕ) : sProp 𝕄 :=
  iprop((bigSep Finset.univ fun ck : Dev nD × Fin 37 => cellInv ER (sched (prod X)) (K ck) (kcell ck))
    ∗ bigSep Finset.univ fun ck : Dev nD × Fin 37 => reached ER (kcell ck) 0)
instance records_persistent (K : Dev nD × Fin 37 → ℕ) : BI.Persistent (records X K) := by unfold records; infer_instance

/-- What the global step makes of it. -/
def G' (c : Dev nD) : sProp 𝕄 := iprop(∃ K : Dev nD × Fin 37 → ℕ, records X K ∗ payToks c ∗ places c ∗ loads c)

/-- The one semaphore that lives through the launch is the barrier's. -/
theorem unscoped_eq (c : Dev nD) : (unscopedSems0 c : sProp 𝕄) = semVal (barCell c) 0 := by
  unfold unscopedSems0; rw [bigSep_eq_bigSepL_of_eq [SemLoc.reg barS] (by decide +kernel) (by decide)]; rfl

/-- From its semaphores at zero a device sets up its cells' invariants. -/
theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv ER (sched (prod X)) κ (kcell (c, k))))
          ∗ (bigSep Finset.univ fun k => iprop(atPos ER (kcell (c, k)) 0 ∅ 0 ∗ reached ER (kcell (c, k)) 0)) ∗ toks c ∗ loads c) := by
  rw [osems_eq, unscoped_eq]
  unfold G
  iintro ⟨⟨Hl, Hss, Hrs⟩, Hb, Hst, Hat, Htok⟩
  ihave Hv := (Entails.of_eq (sepCells (F := F) c (fun g => semVal g 0)).symm) $$ [Hss Hrs Hb]
  · isplitl [Hb]; · iexact Hb
    isplitl [Hss] <;> iassumption
  imod (show iprop((bigSep Finset.univ fun k : Fin 37 => semVal (kcell (c, k)) 0) ∗ bigSep Finset.univ fun k : Fin 37 => roundState ER (sched (prod X)) (kcell (c, k)) 0)
      ⊢ (|={Set.univ}=> bigSep Finset.univ fun k => iprop(∃ κ : ℕ, cellInv ER (sched (prod X)) κ (kcell (c, k))) : sProp 𝕄) from by
        rw [← bigSep_sep']
        exact (bigSep_mono fun k _ => (Rounds.body_intro ER (sched (prod X)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The devices' shares, put together, are dealt anew: every device gets the tokens of the duties it pays. -/
theorem regroup :
    (bigSep Finset.univ fun c : Dev nD => iprop((bigSep Finset.univ fun k => iprop(∃ κ : ℕ, cellInv ER (sched (prod X)) κ (kcell (c, k))))
          ∗ (bigSep Finset.univ fun k => iprop(atPos ER (kcell (c, k)) 0 ∅ 0 ∗ reached ER (kcell (c, k)) 0)) ∗ toks c ∗ loads c) : sProp 𝕄)
      ⊢ bigSep Finset.univ (G' X) := by
  rw [bigSep_sep', bigSep_sep', bigSep_sep', ← bigSep_univ_prod (fun ck : Dev nD × Fin 37 => iprop(∃ κ : ℕ, cellInv ER (sched (prod X)) κ (kcell ck))),
    bigSep_congr (s := Finset.univ) (fun (c : Dev nD) _ => bigSep_sep' Finset.univ (fun k : Fin 37 => (atPos ER (kcell (c, k)) 0 ∅ 0 : sProp 𝕄)) (fun k => reached ER (kcell (c, k)) 0)),
    bigSep_sep', ← bigSep_univ_prod (fun ck : Dev nD × Fin 37 => (reached ER (kcell ck) 0 : sProp 𝕄))]
  iintro ⟨HI, ⟨Hat, #HR⟩, Htok, Hl⟩
  ihave HK := (BI.bigSep_exists_pi Finset.univ (fun (ck : Dev nD × Fin 37) (κ : ℕ) => (cellInv ER (sched (prod X)) κ (kcell ck) : sProp 𝕄))) $$ HI
  icases HK with ⟨%K, #HI⟩
  ihave Htk := (toks_around (F := F)) $$ Htok
  iapply (bigSep_with_persistent (R := records X K) (Φ := fun c : Dev nD => iprop(payToks c ∗ places c ∗ loads c)) fun c _ => by
    unfold G'; iintro H; iexists K; iexact H)
  isplitr
  · unfold records; isplitl; · iexact HI
    iexact HR
  simp only [bigSep_sep']
  isplitl [Htk]; · iexact Htk
  isplitl [Hat]; swap; · iexact Hl
  iapply (show (bigSep Finset.univ fun c : Dev nD => bigSep Finset.univ fun k : Fin 37 => (atPos ER (kcell (c, k)) 0 ∅ 0 : sProp 𝕄)) ⊢ bigSep Finset.univ places from
    bigSep_mono fun c _ => Entails.of_eq (sepCells (F := F) c (fun g => atPos ER g 0 ∅ 0)))
  iexact Hat

/-- The global step, from every device's semaphores at once. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))
end Deal

/-! ## What each device is due -/

/-- Barrier cells are one when their devices are. -/
theorem bar_eq_iff {a b : Dev nD} : barCell a = barCell b ↔ a = b :=
  ⟨fun h => congrArg (fun g : GSem nD τ sig => g.1.1) h, fun h => h ▸ rfl⟩

/-- The first three payments go to the neighbours' barriers, -/
theorem dueCell_bar (d : Dev nD) {t : ℕ} (ht : t < 3) : dueCell d t = barCell (nbr d t) := if_pos ht
/-- the later ones to the neighbours' receive cells. -/
theorem dueCell_recv (d : Dev nD) {t : ℕ} (ht : 3 ≤ t) : dueCell d t = rcell (nbr d (tax (dg t) (dj t))) (dg t) (dj t) := if_neg (by omega)

/-- What a device owes in all, payment by payment. -/
theorem Ow_sum (d : Dev nD) (g : GSem nD τ sig) : ∀ n ≤ 21, Ow d n g () = ∑ t ∈ Finset.range n, if g = dueCell d (20 - t) then dueAmt (20 - t) else 0
  | 0, _ => rfl
  | n + 1, h => by
    rw [Finset.sum_range_succ, ← Ow_sum d g n (by omega)]
    show (Ow d n + due d (20 - n)) g () = _
    rw [Pi.add_apply, Finsupp.add_apply]
    unfold due; rw [tallyAt_apply]
    congr 1
    by_cases h : g = dueCell d (20 - n)
    · rw [if_pos ⟨h, rfl⟩, if_pos h]
    · rw [if_neg (fun h' => h h'.1), if_neg h]

/-- What all devices owe at a cell, payment by payment. -/
theorem owed_sum (g : GSem nD τ sig) : (∑ d : Dev nD, Ow d 21 g ()) = ∑ t ∈ Finset.range 21, ∑ d : Dev nD, if g = dueCell d t then dueAmt t else 0 := by
  rw [Finset.sum_congr rfl fun d _ => Ow_sum d g 21 (le_refl _), Finset.sum_comm]
  refine Finset.sum_nbij' (fun t => 20 - t) (fun t => 20 - t) ?_ ?_ ?_ ?_ fun t _ => rfl <;> intro t ht <;> have := Finset.mem_range.1 ht
  · exact Finset.mem_range.2 (by omega)
  · exact Finset.mem_range.2 (by omega)
  · show 20 - (20 - t) = t; omega
  · show 20 - (20 - t) = t; omega

/-- A barrier is owed three units in all. -/
theorem due_bar (c : Dev nD) : (∑ d : Dev nD, Ow d 21 (barCell c) ()) = 3 := by
  rw [owed_sum, Finset.sum_congr (g := fun t => if t < 3 then 1 else 0) rfl]
  · rfl
  intro t _
  by_cases ht3 : t < 3
  · have hiff : ∀ d : Dev nD, (barCell c = dueCell d t) ↔ d = nbr c t := fun d => by
      have hn : ∀ x : Dev nD, nbr (nbr x t) t = x := fun x => nbr_nbr x ⟨t, ht3⟩
      rw [dueCell_bar d ht3, bar_eq_iff]
      exact ⟨fun h => by rw [h, hn], fun h => by rw [h, hn]⟩
    rw [Finset.sum_congr rfl fun d _ => if_congr (hiff d) rfl rfl, Finset.sum_ite_eq' Finset.univ (nbr c t) fun _ => dueAmt t, if_pos (Finset.mem_univ _), if_pos ht3]
    exact if_pos ht3
  · rw [if_neg ht3]
    refine Finset.sum_eq_zero fun d _ => if_neg fun h => ?_
    rw [dueCell_recv d (by omega)] at h
    exact dma_ne_bar _ (congrArg Prod.snd h).symm

/-- A receive cell is owed one transfer's credit in all. -/
theorem due_recv (c : Dev nD) (g : Fin 3) {j : ℕ} (hj : j < 6) : (∑ d : Dev nD, Ow d 21 (rcell c g j) ()) = cr (trows g j) := by
  have hg := g.isLt
  have hG : dg (3 + 3 * j + g.val) = g := Fin.ext (by show (3 + 3 * j + g.val) % 3 = g.val; omega)
  have hJ : dj (3 + 3 * j + g.val) = j := by unfold dj; omega
  have hiff : ∀ (d : Dev nD) (t : ℕ), t < 21 → ((rcell c g j = dueCell d t) ↔ (t = 3 + 3 * j + g.val ∧ d = nbr c (tax g j))) := fun d t ht => by
    constructor
    · intro h
      by_cases h3 : t < 3
      · rw [dueCell_bar d h3] at h; exact absurd (congrArg Prod.snd h) (dma_ne_bar _)
      · rw [dueCell_recv d (by omega)] at h
        have hn : num (.dma (rq g j)) = num (.dma (rq (dg t) (dj t))) := congrArg (fun s : GSem nD τ sig => num s.2) h
        have hd : c = nbr d (tax (dg t) (dj t)) := congrArg (fun s : GSem nD τ sig => s.1.1) h
        rw [num_rq g hj, num_rq (dg t) (show dj t < 6 by unfold dj; omega)] at hn
        have hv : (dg t).val = t % 3 := rfl
        have h6 : dj t < 6 := by unfold dj; omega
        have hgt : g.val = t % 3 := by clear hG hJ; omega
        have ht' : t = 3 + 3 * j + g.val := by clear hG hJ; unfold dj at hn; omega
        subst ht'
        rw [hG, hJ] at hd
        exact ⟨rfl, by rw [hd, nbr_tax]⟩
    · rintro ⟨rfl, rfl⟩
      rw [dueCell_recv _ (by omega), hG, hJ, nbr_tax]
  rw [owed_sum, Finset.sum_eq_single (3 + 3 * j + g.val)]
  · rw [Finset.sum_congr rfl fun d _ => if_congr ((hiff d _ (by omega)).trans (and_iff_right rfl)) rfl rfl,
      Finset.sum_ite_eq' Finset.univ (nbr c (tax g j)) fun _ => dueAmt (3 + 3 * j + g.val), if_pos (Finset.mem_univ _)]
    unfold dueAmt; rw [if_neg (by omega), hG, hJ]
  · intro t ht hne
    exact Finset.sum_eq_zero fun d _ => if_neg fun h => hne ((hiff d t (Finset.mem_range.1 ht)).1 h).1
  · intro h; exact absurd (Finset.mem_range.2 (by omega)) h

abbrev O₀ (c : Dev nD) : CellTallies nD τ sig Unit := Ow c 21

/-- The launch's credit at a cell is what the devices owe there. -/
theorem launch_at (c : Dev nD) (s : SemLoc sig) {n : ℕ} (h : (∑ d : Dev nD, Ow d 21 ((c.tc : Thread nD τ), s) ()) = n) :
    tallyOn ((c.tc : Thread nD τ), s) (launchCredit (Pipeline.owing O₀) 0 ((c.tc : Thread nD τ), s)) = (tallyAt ((c.tc : Thread nD τ), s) () n : CellTallies nD τ sig Unit) := by
  unfold tallyAt; refine congrArg _ (Finsupp.ext fun u => ?_); cases u
  rw [Pipeline.launchCredit_owing, Finsupp.single_eq_same, h]

set_option backward.proofsInPublic true in
/-- The semaphores a device is paid at. -/
def payee : Unit ⊕ GJ → SemLoc sig
  | .inl _ => .reg barS
  | .inr x => .dma (rq x.1 x.2.val)
/-- The semaphores a device is paid at are different. -/
theorem payee_injective : Function.Injective payee := by decide +kernel

/-- What the launch deals a device for its own cells. -/
theorem creds (c : Dev nD) : (Pipeline.launchCred O₀ c : sProp 𝕄) ⊢ dues c := by
  unfold Pipeline.launchCred dues
  refine (bigSep_subset (Finset.subset_univ (Finset.univ.image payee))).trans ?_
  rw [bigSep_image_of_injOn (fun a _ b _ e => payee_injective e), bigSep_univ_sum, bigSep_univ_of_subsingleton ()]
  refine BI.sep_mono (Entails.of_eq (congrArg cred (launch_at c (.reg barS) (due_bar c)))) (bigSep_mono fun x _ => ?_)
  exact Entails.of_eq (congrArg cred (launch_at c (.dma (rq x.1 x.2.val)) (due_recv c x.1 x.2.isLt)))

end Cert.Hypercube
-- ==== Proof.Launch.lean ====
/-
The launch: what each device starts from and what it leaves, the kernel's run on it, and the run of the whole program.
-/
module

public import proofs.«01_k».proof.Proof.Deal
public import Idealize.ShloMosaic.Lib.Pipeline.Launch
public import Idealize.ShloMosaic.Lib.Pipeline.Kit
public import Idealize.ShloMosaic.Lib.Pipeline.CollectiveSegs
public import Idealize.ShloMosaic.Lib.Pipeline.ValueKit
public import Idealize.ShloMosaic.Lib.Quiescent

@[expose] public section

noncomputable section

namespace Cert.Hypercube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-- The arguments, as every device holds them at launch. -/
def argsAt : Inp F := fun c a => m ((argR a).view.loc (c.tc : Thread nD τ))

/-- What the pipeline holds of device `c` before and after the kernel. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt (argsAt m)
  Φ t := match t with
    | ⟨0, _⟩ => iprop(start (argsAt m) c ∗ Pipeline.scopedRest cfg0.spec c)
    | ⟨_ + 1, _⟩ => done' (argsAt m) c
  q _ := fullShare
  owed t := match t with
    | ⟨0, _⟩ => Ow c 21
    | ⟨_ + 1, _⟩ => 0

/-- Owning a whole buffer is owning it as a memory object. -/
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A staging buffer holding `Y`. -/
abbrev staged (c : Dev nD) (Y : S2048x2048.Idx → Elt F .f32) : sProp (MT nD τ sig Unit (Elt F) ℕ UU ℕ) :=
  iprop(∃ f : Buf (Elt F) ((c.tc : Thread nD τ).loc cc0_stg0_0), ⌜f = Y⌝ ∗ (((c.tc : Thread nD τ).loc cc0_stg0_0) ↦{fullShare} f))

def bodyPre (c : Dev nD) : sProp 𝕄 := iprop((start (argsAt m) c ∗ Pipeline.scopedRest cfg0.spec c)
  ∗ (dats m ρ 0 c).owesAt () (t0_0 : Fin cfg0.N).castSucc ∗ ∃ d, staged c ((dats m ρ 0 c).before (0 : Fin 1) t0_0 d))
def bodyPost (c : Dev nD) : sProp 𝕄 := iprop(done' (argsAt m) c
  ∗ (dats m ρ 0 c).owesAt () (t0_0 : Fin cfg0.N).succ ∗ staged c (outAt (argsAt m)))

/-- A staging buffer with known contents is one with some. -/
theorem some_staged (c : Dev nD) (Y : S2048x2048.Idx → Elt F .f32) : staged c Y ⊢ someOf (F := F) c cc0_stg0_0 := by
  iintro ⟨%f, -, H⟩; unfold someOf; iexists f; iexact H

/-- The kernel's run on device `c`, as the pipeline asks for it. -/
theorem run_body (c : Dev nD) : Takes c (bodyPre m ρ c) (cc0_body (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9) (bodyPost m ρ c) := by
  unfold bodyPre bodyPost Dat.owesAt Pipeline.owesWithin
  rw [show (dats m ρ 0 c).owed (t0_0 : Fin cfg0.N).castSucc = Ow c 21 from rfl, show (dats m ρ 0 c).owed (t0_0 : Fin cfg0.N).succ = 0 from rfl]
  iintro ⟨Hs, ⟨%W, -, HO⟩, ⟨%d, Hd⟩⟩
  ihave Hd := (some_staged c _) $$ Hd
  ihave H := (enter (argsAt m) c W) $$ [Hs HO Hd]
  · isplitl [Hs]; · iexact Hs
    isplitl [HO] <;> iassumption
  icases H with ⟨%K, H⟩
  iapply ((body (argsAt m) K c).trans (wp_mono _ _ _ fun _ => show last (argsAt m) K c ⊢ _ from by
    refine (leave (argsAt m) c K).trans ?_
    iintro ⟨Hd, ⟨%W', HO⟩, Hf⟩
    isplitl [Hd]; · iexact Hd
    isplitl [HO]
    · iexists W'; isplitr; · (ipureintro; exact fun _ _ => Or.inl trivial)
      iexact HO
    iexact Hf))
  iexact H

set_option maxRecDepth 65536 in
/-- The pipeline's obligation on device `c`. -/
theorem body_obligation (c : Dev nD) : BodyObligation (dats (F := F) m ρ 0 c) (defs₀ (F := F)) 𝒱₀ () Set.univ := fun t => by
  rw [show t = t0_0 from fin_N0 t]
  rw [show (bigSep Finset.univ : (Fin cfg0.W → sProp 𝕄) → sProp 𝕄) = fun Φ => Φ (0 : Fin 1) from funext fun Φ => bigSep_W0 Φ]
  simp only [owns_whole_eq]
  exact run_body m ρ c

/-! ## The launch's side conditions -/

/-- The listed semaphores are the kernel's own. -/
theorem ownSemFacts : Pipeline.OwnSemFacts cfg0.spec osem := by decide +kernel
/-- The staging is held outright. -/
theorem share_eq (c : Dev nD) (w : Fin cfg0.W) : (dats m ρ 0 c).share w = fullShare := (dats m ρ 0 c).share_full (fun _ => rfl) w

def u₀ : UU := (initOf (Pipeline.cells cfgs cellOf_inj) (Pipeline.launchToks cfgs cellOf_inj), (initOf allCells allToks, 1))

/-- The launch element is the pipeline's and the protocol's. -/
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- From it come the pipeline's cells and tokens, and every device's share of the protocol. -/
theorem funded : (ownU u₀ : sProp 𝕄) ⊢ |={Set.univ}=> iprop(BI.own (EP (initOf (Pipeline.cells cfgs cellOf_inj) (Pipeline.launchToks cfgs cellOf_inj)))
    ∗ bigSep Finset.univ (G (argsAt m))) := by
  unfold u₀
  iintro Hu
  ihave H := (ownU_split _ _) $$ Hu
  icases H with ⟨HP, HX⟩
  imod (fund_cells (argsAt m)) $$ HX with HG
  imodintro
  isplitl [HP] <;> iassumption

/-- What the pipeline does not stage is the two arguments. -/
theorem rest_args (c : Dev nD) : (Pipeline.unscopedRestP Pipeline.Prefetch.none cfg0.spec c (fun b => m ((c : Thread nD τ).loc b)) : sProp 𝕄)
    = iprop(argAll c (argsAt m) 0 ∗ argAll c (argsAt m) 1) := by
  exact (Pipeline.unscopedRestP_eq_of_list cfg0.spec c Pipeline.Prefetch.none (fun b => m ((c : Thread nD τ).loc b)) [main_arg0, main_arg1] (by decide) (by decide)).trans rfl

/-- At launch a device has all that it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argsAt m) c)
      ⊢ |={Set.univ}=> iprop(start (argsAt m) c ∗ emp) := by
  rw [rest_args]
  unfold G' records start env
  iintro ⟨⟨Ha0, Ha1⟩, #Hlev, Hcr, -, ⟨%K, ⟨#HI, #HR⟩, Ht, Hp, Hl⟩⟩
  ihave Hc := (creds (F := F) c) $$ Hcr
  imodintro
  isplitl; swap; · iempintro
  isplitl [Ht Hp Hl]
  · iexists K
    isplitr
    · isplitr; · iexact HI
      isplitr; · iexact HR
      iexact Hlev
    isplitl [Ht]; · iexact Ht
    isplitl [Hp] <;> iassumption
  isplitl [Hc]; · iexact Hc
  isplitl [Ha0] <;> iassumption

/-- With its scratch buffers that is the state before the kernel's one grid point. -/
theorem phi_first (c : Dev nD) :
    iprop(start (argsAt m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start (argsAt m) c ∗ Pipeline.scopedRest cfg0.spec c) from rfl]
  iintro ⟨Hs, -, Hr⟩
  isplitl [Hs] <;> iassumption

/-- What the launch reads at the end. -/
def readAtEnd (c : Dev nD) : sProp 𝕄 := iprop(unscopedSems0 c ∗ argAll c (argsAt m) 0 ∗ argAll c (argsAt m) 1)

/-- The state after it gives back the arguments, the semaphores at zero and the scratch buffers. -/
theorem phi_last (c : Dev nD) :
    (dats m ρ 0 c).Φ (Fin.last cfg0.N) ⊢ iprop(readAtEnd m c ∗ Pipeline.ownSems0 osem c ∗ Pipeline.scopedRest cfg0.spec c) := by
  rw [show (dats m ρ 0 c).Φ (Fin.last cfg0.N) = done' (argsAt m) c from rfl]
  unfold readAtEnd done'; rw [unscoped_eq]

/-- The pipeline may wait for its own copies whatever the devices owe each other. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait c _ 21 fun t _ _ => lt_of_eq_of_lt (b := 0) ?_ ?_
      · fin_cases w <;> fin_cases s <;> decide
      · split <;> omega
    · exact mayWait c _ 0 fun t h1 h2 => absurd h2 (by omega)

/-! ## The run -/

/-- The array the pipeline writes out is the result. -/
theorem final_out (c : Dev nD) : (dats m ρ 0 c).arrAt (0 : Fin 1) cfg0.N = outAt (argsAt m) :=
  (dats m ρ 0 c).arrAt_eq_of_after_last (0 : Fin 1) t0_0 (by decide +kernel) _ fun j => rfl

/-- What the final memory holds: the arguments unchanged, the result on every device, every counter at zero. -/
def Final (s : MemSt nD τ sig (Elt F)) : Prop :=
  (∀ c : Dev nD, s.mem ((c.tc : Thread nD τ).loc main_v1) = outAt (argsAt m)
    ∧ s.mem ((c.tc : Thread nD τ).loc main_arg0) = m ((c.tc : Thread nD τ).loc main_arg0)
    ∧ s.mem ((c.tc : Thread nD τ).loc main_arg1) = m ((c.tc : Thread nD τ).loc main_arg1))
  ∧ s.sem = fun _ => 0

/-- What one device's part of the final memory holds. -/
def Read (c : Dev nD) (s : MemSt nD τ sig (Elt F)) : Prop :=
  (∀ sm : SemLoc sig, sm.isScoped .tc = false → s.sem ((c.tc : Thread nD τ), sm) = 0)
    ∧ ∀ a : Fin 2, s.mem ((argR a).view.loc (c.tc : Thread nD τ)) = argsAt m c a

/-- An argument held outright is in the memory. -/
theorem arg_read (c : Dev nD) (a : Fin 2) (s : Phys nD τ sig (Elt F)) :
    iprop(argAll c (argsAt m) a ∗ SI s) ⊢ (⌜s.mem.mem ((argR a).view.loc (c.tc : Thread nD τ)) = argsAt m c a⌝ : sProp 𝕄) := by
  unfold argAll
  iintro ⟨H, HSI⟩
  icombine HSI H gives %h
  ipureintro
  exact Buf.eq_of_forall_mem_univ h

/-- At the end the memory is read: the arguments, and the barrier at zero. -/
theorem read_end (c : Dev nD) (s : Phys nD τ sig (Elt F)) :
    iprop(readAtEnd m c ∗ emp ∗ SI s) ⊢ (|={Set.univ}=> iprop(⌜Read m c s.mem⌝ ∗ SI s) : sProp 𝕄) := by
  unfold readAtEnd
  iintro ⟨⟨Hu, Ha0, Ha1⟩, -, HSI⟩
  ihave %h0 := (arg_read m c 0 s) $$ [Ha0 HSI]
  · isplitl [Ha0] <;> iassumption
  ihave %h1 := (arg_read m c 1 s) $$ [Ha1 HSI]
  · isplitl [Ha1] <;> iassumption
  imod (Pipeline.unscopedSems0_read (X := unscopedSems0 c) (c := c) fupd_intro s) $$ [Hu HSI] with ⟨%hu, HSI⟩
  · isplitl [Hu] <;> iassumption
  imodintro
  isplitr
  · ipureintro
    exact ⟨hu, fun a => by fin_cases a; exacts [h0, h1]⟩
  iexact HSI

set_option maxRecDepth 8000 in
/-- From any memory with zero counters every weakly fair execution of the program ends, the arguments unchanged, every
    device's result the one computed from the arguments, and every semaphore's counter at zero. -/
theorem run_main : θ_run defs (onTc (τ := τ) (main (F := F))) (s₀ m ρ) (fun r => Final m r.2) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (argsAt m)) (G' := G' (argsAt m)) (u₀ := u₀) (hu₀ := funded m) (hglob := glob (argsAt m))
    (hA := fun _ _ => rfl) (hpf := fun _ k => k.elim0)
    (X := start (argsAt m)) (Y := readAtEnd m) (Z := fun _ => iprop(emp))
    (hX := start_intro m ρ) (hin := phi_first m ρ) (hout := phi_last m ρ)
    (QY := Read m) (hY := read_end m)
    (hQ := fun _ h hs => ⟨fun c => ⟨((h c).1 (0 : Fin 1)).trans (final_out m ρ c), (h c).2.2.2 0, (h c).2.2.2 1⟩, sem_eq_zero hs fun c => (h c).2.2.1⟩)

end Cert.Hypercube
-- ==== Proof.Sums.lean ====
/-
  The sum the exchange takes, over the extended reals: three rounds of adding a neighbour's part along three different
  axes reach every device of the mesh once, so a finished row is the sum of that row over all the devices.
-/
module

public import proofs.«01_k».proof.Proof.Protocol
public import Idealize.ShloMosaic.PureOps.Ideal.Laws

@[expose] public section

noncomputable section

namespace Cert.Hypercube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One optional step along axis `a`. -/
def hop (b : Fin 2) (a : ℕ) (c : Dev nD) : Dev nD := if b = 0 then c else nbr c a

/-- The device whose part is added to `c`'s after the steps chosen by `x`, the last round's step first. -/
def walk (g : Fin 3) (c : Dev nD) (x : Fin 2 × Fin 2 × Fin 2) : Dev nD :=
  hop x.2.2 (ax g 0) (hop x.2.1 (ax g 1) (hop x.1 (ax g 2) c))

/-- Every device is reached, and by one choice of steps. -/
theorem walk_bijective (g : Fin 3) (c : Dev nD) : Function.Bijective (walk g c) := by
  refine (Fintype.bijective_iff_injective_and_card _).2 ⟨?_, by decide +kernel⟩
  revert g c; unfold Function.Injective; decide +kernel

/-- Three rounds sum a row over the mesh. -/
theorem part_sum (A : Dev nD → Mat Ideal .bf16) (g : Fin 3) (c : Dev nD) (r : ℕ) (j : Fin 2048) :
    (part A g 3 c r j : EReal) = ∑ d : Dev nD, (A d r j : EReal) := by
  rw [← (walk_bijective g c).sum_comp (fun d => (A d r j : EReal)), Fintype.sum_prod_type, Fin.sum_univ_two]
  simp only [Fintype.sum_prod_type, Fin.sum_univ_two]
  rfl

/-- A row of the result, summed over the mesh. -/
theorem res_sum (A : Dev nD → Mat Ideal .bf16) (g : Fin 3) (r : ℕ) (j : Fin 2048) :
    (res A g r j : EReal) = ∑ d : Dev nD, (A d r j : EReal) :=
  part_sum A g (owner g r) r j

end Cert.Hypercube
-- ==== Proof.Block.lean ====
/-
  What one device computes, over the extended reals: entry (r, j) of its product is the sum, over its own columns, of
  the first argument's row r times the second argument's row j.
-/
module

public import proofs.«01_k».proof.Proof.Local
public import Idealize.ShloMosaic.Lib.MatmulPlain
public import Idealize.ShloMosaic.Lib.Pipeline.Value

@[expose] public section

noncomputable section

namespace Cert.Hypercube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.ValueIdx

/-- The strip's product at an index. -/
theorem pay_apply (u : FVec Ideal S128x2048 .bf16) (v : FVec Ideal S2048x2048 .bf16) (r : Fin 128) (j : Fin 2048) :
    (k0_pay23 (F := Ideal) u v (ix2 r j) : EReal) = ∑ k : Fin 2048, (u (ix2 r k) : EReal) * v (ix2 j k) := by
  unfold k0_pay23
  rw [shapeCast_self]
  show FloatOps.matmul (F := Ideal) (DotDims.transposedRhs 128 2048 2048) none u v (constant S128x2048 .f32 0x00000000#32) (ix2 r j) = _
  rw [Ideal.matmul_transposedRhs_apply]
  show Ideal.ofBits .f32 0x00000000#32 + _ = _
  rw [Ideal.ofBits_zero_f32, zero_add]

/-- An entry of a device's product. -/
theorem prod_apply (X : Inp Ideal) (c : Dev nD) (r : ℕ) (j : Fin 2048) :
    (prod X c r j : EReal) = ∑ k : Fin 2048, (cols X c 0 r k : EReal) * cols X c 1 j.val k := by
  have h : ix pos_strip ![r, j.val] = ix2 (⟨r % 128, Nat.mod_lt _ (by decide)⟩ : Fin 128) j := by
    funext x
    match x with
    | ⟨0, _⟩ => rfl
    | ⟨1, _⟩ => exact Fin.ext (Nat.mod_eq_of_lt j.isLt)
  show (k0_pay23 (F := Ideal) _ _ (ix pos_strip ![r, j.val]) : EReal) = _
  rw [h, pay_apply]
  refine Finset.sum_congr rfl fun k _ => ?_
  show (cols X c 0 (128 * (r / 128) + r % 128) k : EReal) * cols X c 1 (0 + j.val) k = _
  rw [Nat.div_add_mod, Nat.zero_add]

end Cert.Hypercube
-- ==== Proof.Ref.lean ====
/-
  What the reference computes, over the extended reals: entry (r, j) is the sum, over all 16384 columns, of the first
  argument's row r times the second argument's row j.
-/
module

public import proofs.«01_k».proof.Proof.Gen.ReferenceIdeal
public import Idealize.ShloMosaic.Lib.StackMember
public import Idealize.ShloMosaic.Lib.Pipeline.Value

@[expose] public section

noncomputable section

namespace Cert.Whole

open Cert.ReferenceIdeal Cert.ReferenceIdeal.Gen
open Idealize.ShloMosaic Idealize.ShloMosaic.ValueIdx Idealize.ShloMosaic.StackMember

/-- The rows of `x` against the rows of `w`. -/
def gram (x w : S2048x16384.Idx → EReal) : S2048x2048.Idx → EReal :=
  fun i => ∑ k : Fin 16384, x (ix2 (i 0) k) * w (ix2 (i 1) k)

/-- The reference's result. -/
theorem reference_eq (x w : FVec Ideal S2048x16384 .f32) :
    Host.dotGeneral dot_S2048x16384_S16384x2048_S2048x2048_1_0_0_1_n_n none x
        (transpose S16384x2048 [1, 0] w transposes_S2048x16384_S16384x2048_1_0)
      = gram x w := by
  funext i
  obtain ⟨r, j, rfl⟩ : ∃ (r j : Fin 2048), i = ix2 r j := ⟨i 0, i 1, eq_ix2 i⟩
  show Host.dotGeneral (DotDims.plain 2048 16384 2048) none x _ (ix2 r j) = _
  rw [dotGeneral_plain_apply]
  refine Finset.sum_congr rfl fun k _ => congrArg (x (ix2 r k) * ·) ?_
  refine transpose_apply _ w _ _ (ix2 j k) fun b => ?_
  match b with
  | ⟨0, _⟩ => rfl
  | ⟨1, _⟩ => rfl

end Cert.Whole
-- ==== Proof.Equation.lean ====
/-
  The equation, over the extended reals: where every device holds its block of the two whole arrays, the exchange's
  result is the reference's. The devices' column ranges are the eight stretches of 2048 columns of the whole arrays.
-/
module

public import proofs.«01_k».proof.Proof.Ends
public import proofs.«01_k».proof.Proof.Sums
public import proofs.«01_k».proof.Proof.Block
public import proofs.«01_k».proof.Proof.Ref
public import Idealize.ShloMosaic.Lib.Layout

@[expose] public section

noncomputable section

namespace Cert.Hypercube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.ValueIdx Cert.Whole

/-- The whole array's shape, and device `c`'s block of it. -/
abbrev Big : Shape := ⟨2, ![2048, 16384]⟩
abbrev blockOf (c : Dev nD) (v : Big.Idx → EReal) : S2048x8192.Idx → EReal :=
  Layout.blockN ⟨2, ![2048, 8192]⟩ ⟨2, ![2048, 16384]⟩ (Layout.meshBlock [2, 2, 2] ![[], [0]] c) v

/-- Column `k` of device `c`'s stretch, in the whole array. -/
def wide (c : Dev nD) (k : Fin 2048) : Fin 16384 := ⟨2048 * c.val + k.val, by
  have := c.isLt; have := k.isLt; simp only [nD] at *; omega⟩

/-- Which half of the whole array a device holds. -/
theorem half_val (c : Dev nD) : Layout.meshLin [2, 2, 2] c.val [0] = c.val / 4 := by
  revert c; decide +kernel

/-- A device's columns are its stretch of the whole array. -/
theorem cols_eq (X : Inp Ideal) (c : Dev nD) (a : Fin 2) (v : Big.Idx → EReal) (h : (argR a).view.read (Elt Ideal) (X c a) = blockOf c v)
    (r k : Fin 2048) : (cols X c a r.val k : EReal) = v (ix2 r (wide c k)) := by
  unfold cols
  rw [h]
  refine congrArg v (funext fun x => Fin.ext ?_)
  have hc : c.val < 8 := c.isLt
  have hr := r.isLt
  have hk := k.isLt
  match x with
  | ⟨0, _⟩ =>
    show 0 * 2048 + r.val % 2048 = r.val
    omega
  | ⟨1, _⟩ =>
    show Layout.meshLin [2, 2, 2] c.val [0] * 8192 + (col0 c + k.val) % 8192 = 2048 * c.val + k.val
    rw [half_val]; unfold col0; omega

/-- A sum over the whole array's columns, stretch by stretch. -/
theorem sum_wide (f : Fin 16384 → EReal) : ∑ c : Dev nD, ∑ k : Fin 2048, f (wide c k) = ∑ k : Fin 16384, f k := by
  rw [← Fintype.sum_prod_type' (fun (c : Dev nD) k => f (wide c k))]
  refine Fintype.sum_equiv (finProdFinEquiv (m := 8) (n := 2048)) _ f fun x => congrArg f (Fin.ext ?_)
  exact Nat.add_comm _ _

/-- The result the devices end with is the reference's of the whole arrays. -/
theorem out_eq (X : Inp Ideal) (x w : Big.Idx → EReal)
    (h0 : ∀ c, (argR 0).view.read (Elt Ideal) (X c 0) = blockOf c x) (h1 : ∀ c, (argR 1).view.read (Elt Ideal) (X c 1) = blockOf c w) :
    outAt X = gram x w := by
  have key : ∀ r j : Fin 2048, (outAt X (ix2 r j) : EReal) = gram x w (ix2 r j) := fun r j => by
    refine (res_sum (prod X) (group r.val) r.val j).trans (Eq.trans ?_ (sum_wide (fun k => x (ix2 r k) * w (ix2 j k))))
    refine Finset.sum_congr rfl fun c _ => (prod_apply X c r.val j).trans (Finset.sum_congr rfl fun k _ => ?_)
    exact congrArg₂ (· * ·) (cols_eq X c 0 x (h0 c) r k) (cols_eq X c 1 w (h1 c) j k)
  funext i
  rw [eq_ix2 i]
  exact key (i 0) (i 1)

end Cert.Hypercube
-- ==== Proof.Same.lean ====
/-
  The kernel printed at its hardware formats and the one printed for the extended reals are the same program: their
  functions agree over any float type.
-/
module

public import proofs.«01_k».proof.Proof.Gen.Kernel
public import proofs.«01_k».proof.Proof.Gen.KernelIdeal

@[expose] public section

noncomputable section

namespace Cert.Same

open Idealize.ShloMosaic

variable {F : FTy → Type} [FloatOps F]

set_option maxRecDepth 65536 in
/-- The kernels' functions agree. -/
theorem kernels_eq : Kernel.defs₀ (F := F) = KernelIdeal.defs₀ (F := F) := by
  unfold Kernel.defs₀ KernelIdeal.defs₀
  refine congrArg (Defs.onTc (Λ := KernelIdeal.Λ₀)) (funext fun ℓ => funext fun a => ?_)
  match ℓ, a with
  | 0, (t, s) => rfl

/-- So do the programs' tables of functions. -/
theorem defs_eq : Kernel.defs (F := F) = KernelIdeal.defs (F := F) := congrArg (Pipeline.defs KernelIdeal.pcfgs) kernels_eq

end Cert.Same
-- ==== Proof.lean ====
/-
  The claims, put together: the kernel's run over any float type gives both of its frames; the reference's run and the
  equation of the two results give the rest.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equation
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem Cert.Hypercube Cert.Whole

/-- The kernel at its hardware formats runs, leaves its arguments as they were, and every counter at zero. -/
theorem frame_kernel : Cert.quiescent_Kernel := by
  intro m ρ _
  rw [Cert.Same.defs_eq]
  exact (θ_run Cert.KernelIdeal.defs _ _).mono (fun _ h => ⟨fun c => (h.1 c).2, h.2⟩) (run_main (F := Bits) m ρ)

/-- The same over the extended reals. -/
theorem frame_ideal : Cert.quiescent_KernelIdeal := fun m ρ _ =>
  (θ_run Cert.KernelIdeal.defs _ _).mono (fun _ h => ⟨fun c => (h.1 c).2, h.2⟩) (run_main (F := Ideal) m ρ)

/-- The reference runs and leaves its arguments as they were; it has no semaphore. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Every device ends with the reference's result of the whole arrays. -/
theorem value : Cert.algebraic_KernelIdeal_ReferenceIdeal := by
  intro m ρ m' ρ' _ h
  refine ⟨gram (m' ((0 : Dev Cert.ReferenceIdeal.nD).tc.loc Cert.ReferenceIdeal.main_arg0))
    (m' ((0 : Dev Cert.ReferenceIdeal.nD).tc.loc Cert.ReferenceIdeal.main_arg1)), ?_, ?_⟩
  · refine (θ_run Cert.KernelIdeal.defs _ _).mono (fun r hr c => ⟨(hr.1 c).1.trans ?_, (hr.1 c).2⟩) (run_main (F := Ideal) m ρ)
    exact out_eq (argsAt m) _ _ (fun d => (h d).1) (fun d => (h d).2)
  · refine (θ_run Cert.ReferenceIdeal.defs _ _).mono (fun r hr => ⟨(hr 0).1.trans ?_, (hr 0).2⟩)
      (Cert.ReferenceIdeal.Value.run (F := Ideal) m' ρ')
    exact reference_eq _ _

theorem claim : Cert.Claim := ⟨Cert.Kernel.Gen.facts, Cert.KernelIdeal.Gen.facts, Cert.ReferenceIdeal.Gen.facts,
  frame_kernel, frame_ideal, frame_reference, trivial, value⟩

end Cert.Proof

end
